-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_real_weights [hPre_real_weights : Cert.Pre_real_weights.Facts] (m : (ℓ : Loc Cert.InProjIdeal.nD Cert.InProjIdeal.τ Cert.InProjIdeal.sig) → Buf (Elt Ideal) ℓ) : Prop :=
  ∀ c : Dev Cert.InProjIdeal.nD,
    (Cert.Pre_real_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_real_weights [hPre_real_weights : Cert.Pre_real_weights.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_real_weights.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_real_weights [hInProjIdeal : Cert.InProjIdeal.Facts] [hPre_real_weights : Cert.Pre_real_weights.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_real_weights m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_InProjReferenceIdeal_pre_real_weights [hInProjReferenceIdeal : Cert.InProjReferenceIdeal.Facts] [hPre_real_weights : Cert.Pre_real_weights.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_real_weights m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v66) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_InProj_InProjIdeal : Prop :=
  True

def algebraic_InProjIdeal_InProjReferenceIdeal_pre_real_weights [hInProjIdeal : Cert.InProjIdeal.Facts] [hInProjReferenceIdeal : Cert.InProjReferenceIdeal.Facts] [hPre_real_weights : Cert.Pre_real_weights.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_real_weights m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v67) = v0 c
          ∧ r.2.mem ((c.tc : Thread Cert.InProjReferenceIdeal.nD Cert.InProjReferenceIdeal.τ).loc Cert.InProjReferenceIdeal.main_v68) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v122) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v42) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hAda : Cert.Ada.Facts) (hAdaIdeal : Cert.AdaIdeal.Facts) (hAdaReferenceIdeal : Cert.AdaReferenceIdeal.Facts) (hPre_finite : Cert.Pre_finite.Facts) (hPre_real_weights : Cert.Pre_real_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjIdeal_pre_real_weights (hInProjIdeal := hInProjIdeal) (hPre_real_weights := hPre_real_weights)
    ∧ quiescent_InProjReferenceIdeal (hInProjReferenceIdeal := hInProjReferenceIdeal)
    ∧ quiescent_InProjReferenceIdeal_pre_real_weights (hInProjReferenceIdeal := hInProjReferenceIdeal) (hPre_real_weights := hPre_real_weights)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal_pre_real_weights (hInProjIdeal := hInProjIdeal) (hInProjReferenceIdeal := hInProjReferenceIdeal) (hPre_real_weights := hPre_real_weights)
    ∧ preserves_Merge_MergeIdeal
    ∧ algebraic_MergeIdeal_MergeReferenceIdeal (hMergeIdeal := hMergeIdeal) (hMergeReferenceIdeal := hMergeReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S_ : Shape := ⟨0, ![]⟩

class Facts : Prop where
  bcast_S_S4x8x8192x96 : S_.BroadcastsInDim S4x8x8192x96 (![] : Fin 0 → Fin S4x8x8192x96.rank)
  reducesTo_S4x8x8192x96_S_d0_1_2_3 : S4x8x8192x96.ReducesTo [0, 1, 2, 3] S_
  h_S_ : 0 < S_.numel
  bcast_S_S4x8x256x96 : S_.BroadcastsInDim S4x8x256x96 (![] : Fin 0 → Fin S4x8x256x96.rank)
  reducesTo_S4x8x256x96_S_d0_1_2_3 : S4x8x256x96.ReducesTo [0, 1, 2, 3] S_
  bcast_S_S4x8x256x64 : S_.BroadcastsInDim S4x8x256x64 (![] : Fin 0 → Fin S4x8x256x64.rank)
  reducesTo_S4x8x256x64_S_d0_1_2_3 : S4x8x256x64.ReducesTo [0, 1, 2, 3] S_
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4x8x256x64 .f32) (main_arg3 : FVec F S4x8x8192x96 .f32) (main_arg4 : FVec F S4x8x8192x64 .f32) (main_v12 : IVec S_ 1) (main_v14 : IVec S4x8x256x64 1) (main_v15 : FVec F S4x8x256x64 .f32) : IVec S_ 1 :=
  let main_v16 : IVec S4x8x256x64 1 := cmpf .olt main_arg2 main_v15
  let main_v17 : IVec S4x8x256x64 1 := andi main_v14 main_v16
  let main_c_6 : IVec S_ 1 := constantI S_ 1 1#1
  let main_v18 : IVec S_ 1 := (fun x v => Host.reduce IntOp.andi x v reducesTo_S4x8x256x64_S_d0_1_2_3 h_S_) main_v17 main_c_6
  let main_v19 : IVec S_ 1 := andi main_v12 main_v18
  let main_cst_7 : FVec F S_ .f32 := constant S_ .f32 0xFF800000#32
  let main_v20 : FVec F S4x8x8192x96 .f32 := broadcastInDim S4x8x8192x96 ![] bcast_S_S4x8x8192x96 main_cst_7
  let main_v21 : IVec S4x8x8192x96 1 := cmpf .ogt main_arg3 main_v20
  let main_cst_8 : FVec F S_ .f32 := constant S_ .f32 0x7F800000#32
  let main_v22 : FVec F S4x8x8192x96 .f32 := broadcastInDim S4x8x8192x96 ![] bcast_S_S4x8x8192x96 main_cst_8
  let main_v23 : IVec S4x8x8192x96 1 := cmpf .olt main_arg3 main_v22
  let main_v24 : IVec S4x8x8192x96 1 := andi main_v21 main_v23
  let main_c_9 : IVec S_ 1 := constantI S_ 1 1#1
  let main_v25 : IVec S_ 1 := (fun x v => Host.reduce IntOp.andi x v reducesTo_S4x8x8192x96_S_d0_1_2_3 h_S_) main_v24 main_c_9
  let main_v26 : IVec S_ 1 := andi main_v19 main_v25
  let main_cst_10 : FVec F S_ .f32 := constant S_ .f32 0xFF800000#32
  let main_v27 : FVec F S4x8x8192x64 .f32 := broadcastInDim S4x8x8192x64 ![] bcast_S_S4x8x8192x64 main_cst_10
  let main_v28 : IVec S4x8x8192x64 1 := cmpf .ogt main_arg4 main_v27
  let main_cst_11 : FVec F S_ .f32 := constant S_ .f32 0x7F800000#32
  let main_v29 : FVec F S4x8x8192x64 .f32 := broadcastInDim S4x8x8192x64 ![] bcast_S_S4x8x8192x64 main_cst_11
  let main_v30 : IVec S4x8x8192x64 1 := cmpf .olt main_arg4 main_v29
  let main_v31 : IVec S4x8x8192x64 1 := andi main_v28 main_v30
  let main_c_12 : IVec S_ 1 := constantI S_ 1 1#1
  let main_v32 : IVec S_ 1 := (fun x v => Host.reduce IntOp.andi x v reducesTo_S4x8x8192x64_S_d0_1_2_3 h_S_) main_v31 main_c_12
  fn_part2 (F := F) main_v26 main_v32

def fn {F : FTy → Type} [FloatOps F] (main_arg0 : FVec F S4x8x8192x96 .f32) (main_arg1 : FVec F S4x8x256x96 .f32) (main_arg2 : FVec F S4x8x256x64 .f32) (main_arg3 : FVec F S4x8x8192x96 .f32) (main_arg4 : FVec F S4x8x8192x64 .f32) : IVec S_ 1 :=
  let main_cst : FVec F S_ .f32 := constant S_ .f32 0xFF800000#32
  let main_v0 : FVec F S4x8x8192x96 .f32 := broadcastInDim S4x8x8192x96 ![] bcast_S_S4x8x8192x96 main_cst
  let main_v1 : IVec S4x8x8192x96 1 := cmpf .ogt main_arg0 main_v0
  let main_cst_0 : FVec F S_ .f32 := constant S_ .f32 0x7F800000#32
  let main_v2 : FVec F S4x8x8192x96 .f32 := broadcastInDim S4x8x8192x96 ![] bcast_S_S4x8x8192x96 main_cst_0
  let main_v3 : IVec S4x8x8192x96 1 := cmpf .olt main_arg0 main_v2
  let main_v4 : IVec S4x8x8192x96 1 := andi main_v1 main_v3
  let main_c : IVec S_ 1 := constantI S_ 1 1#1
  let main_v5 : IVec S_ 1 := (fun x v => Host.reduce IntOp.andi x v reducesTo_S4x8x8192x96_S_d0_1_2_3 h_S_) main_v4 main_c
  let main_cst_1 : FVec F S_ .f32 := constant S_ .f32 0xFF800000#32
  let main_v6 : FVec F S4x8x256x96 .f32 := broadcastInDim S4x8x256x96 ![] bcast_S_S4x8x256x96 main_cst_1
  let main_v7 : IVec S4x8x256x96 1 := cmpf .ogt main_arg1 main_v6
  let main_cst_2 : FVec F S_ .f32 := constant S_ .f32 0x7F800000#32
  let main_v8 : FVec F S4x8x256x96 .f32 := broadcastInDim S4x8x256x96 ![] bcast_S_S4x8x256x96 main_cst_2
  let main_v9 : IVec S4x8x256x96 1 := cmpf .olt main_arg1 main_v8
  let main_v10 : IVec S4x8x256x96 1 := andi main_v7 main_v9
  let main_c_3 : IVec S_ 1 := constantI S_ 1 1#1
  let main_v11 : IVec S_ 1 := (fun x v => Host.reduce IntOp.andi x v reducesTo_S4x8x256x96_S_d0_1_2_3 h_S_) main_v10 main_c_3
  let main_v12 : IVec S_ 1 := andi main_v5 main_v11
  let main_cst_4 : FVec F S_ .f32 := constant S_ .f32 0xFF800000#32
  let main_v13 : FVec F S4x8x256x64 .f32 := broadcastInDim S4x8x256x64 ![] bcast_S_S4x8x256x64 main_cst_4
  let main_v14 : IVec S4x8x256x64 1 := cmpf .ogt main_arg2 main_v13
  let main_cst_5 : FVec F S_ .f32 := constant S_ .f32 0x7F800000#32
  let main_v15 : FVec F S4x8x256x64 .f32 := broadcastInDim S4x8x256x64 ![] bcast_S_S4x8x256x64 main_cst_5
  fn_part1 (F := F) main_arg2 main_arg3 main_arg4 main_v12 main_v14 main_v15
-- ==== Pre_real_weights.lean ====
abbrev S4x8192x1024 : Shape := ⟨3, ![4, 8192, 1024]⟩
abbrev S4x1x1024 : Shape := ⟨3, ![4, 1, 1024]⟩
abbrev S1024 : Shape := ⟨1, ![1024]⟩
abbrev S1024x7616 : Shape := ⟨2, ![1024, 7616]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7616 : S_.BroadcastsInDim S1024x7616 (![] : Fin 0 → Fin S1024x7616.rank)
  reducesTo_S1024x7616_S_d0_1 : S1024x7616.ReducesTo [0, 1] S_

variable [Facts]

def fn_part1 {F : FTy → Type} [FloatOps F] (main_arg3 : FVec F S1024 .f32) (main_arg4 : FVec F S1024x7616 .f32) (main_v12 : IVec S_ 1) (main_v14 : IVec S1024 1) (main_v15 : FVec F S1024 .f32) : IVec S_ 1 :=
  let main_v16 : IVec S1024 1 := cmpf .olt main_arg3 main_v15
  let main_v17 : IVec S1024 1 := andi main_v14 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v12 main_v18
  let main_cst_7 : FVec F S_ .f32 := constant S_ .f32 0xFF800000#32
  let main_v20 : FVec F S1024x7616 .f32 := broadcastInDim S1024x7616 ![] bcast_S_S1024x7616 main_cst_7
  let main_v21 : IVec S1024x7616 1 := cmpf .ogt main_arg4 main_v20
  let main_cst_8 : FVec F S_ .f32 := constant S_ .f32 0x7F800000#32
  let main_v22 : FVec F S1024x7616 .f32 := broadcastInDim S1024x7616 ![] bcast_S_S1024x7616 main_cst_8
  let main_v23 : IVec S1024x7616 1 := cmpf .olt main_arg4 main_v22
  let main_v24 : IVec S1024x7616 1 := andi main_v21 main_v23
  let main_c_9 : IVec S_ 1 := constantI S_ 1 1#1
  let main_v25 : IVec S_ 1 := (fun x v => Host.reduce IntOp.andi x v reducesTo_S1024x7616_S_d0_1 h_S_) main_v24 main_c_9
  let main_v26 : IVec S_ 1 := andi main_v19 main_v25
  main_v26

def fn {F : FTy → Type} [FloatOps F] (main_arg0 : FVec F S4x8192x1024 .f32) (main_arg1 : FVec F S4x1x1024 .f32) (main_arg2 : FVec F S4x1x1024 .f32) (main_arg3 : FVec F S1024 .f32) (main_arg4 : FVec F S1024x7616 .f32) : IVec S_ 1 :=
  let main_cst : FVec F S_ .f32 := constant S_ .f32 0xFF800000#32
  let main_v0 : FVec F S4x1x1024 .f32 := broadcastInDim S4x1x1024 ![] bcast_S_S4x1x1024 main_cst
  let main_v1 : IVec S4x1x1024 1 := cmpf .ogt main_arg1 main_v0
  let main_cst_0 : FVec F S_ .f32 := constant S_ .f32 0x7F800000#32
  let main_v2 : FVec F S4x1x1024 .f32 := broadcastInDim S4x1x1024 ![] bcast_S_S4x1x1024 main_cst_0
  let main_v3 : IVec S4x1x1024 1 := cmpf .olt main_arg1 main_v2
  let main_v4 : IVec S4x1x1024 1 := andi main_v1 main_v3
  let main_c : IVec S_ 1 := constantI S_ 1 1#1
  let main_v5 : IVec S_ 1 := (fun x v => Host.reduce IntOp.andi x v reducesTo_S4x1x1024_S_d0_1_2 h_S_) main_v4 main_c
  let main_cst_1 : FVec F S_ .f32 := constant S_ .f32 0xFF800000#32
  let main_v6 : FVec F S4x1x1024 .f32 := broadcastInDim S4x1x1024 ![] bcast_S_S4x1x1024 main_cst_1
  let main_v7 : IVec S4x1x1024 1 := cmpf .ogt main_arg2 main_v6
  let main_cst_2 : FVec F S_ .f32 := constant S_ .f32 0x7F800000#32
  let main_v8 : FVec F S4x1x1024 .f32 := broadcastInDim S4x1x1024 ![] bcast_S_S4x1x1024 main_cst_2
  let main_v9 : IVec S4x1x1024 1 := cmpf .olt main_arg2 main_v8
  let main_v10 : IVec S4x1x1024 1 := andi main_v7 main_v9
  let main_c_3 : IVec S_ 1 := constantI S_ 1 1#1
  let main_v11 : IVec S_ 1 := (fun x v => Host.reduce IntOp.andi x v reducesTo_S4x1x1024_S_d0_1_2 h_S_) main_v10 main_c_3
  let main_v12 : IVec S_ 1 := andi main_v5 main_v11
  let main_cst_4 : FVec F S_ .f32 := constant S_ .f32 0xFF800000#32
  let main_v13 : FVec F S1024 .f32 := broadcastInDim S1024 ![] bcast_S_S1024 main_cst_4
  let main_v14 : IVec S1024 1 := cmpf .ogt main_arg3 main_v13
  let main_cst_5 : FVec F S_ .f32 := constant S_ .f32 0x7F800000#32
  let main_v15 : FVec F S1024 .f32 := broadcastInDim S1024 ![] bcast_S_S1024 main_cst_5
  fn_part1 (F := F) main_arg3 main_arg4 main_v12 main_v14 main_v15
-- ==== Kernel.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S_ : Shape := ⟨0, ![]⟩
abbrev S4x8x8192x32 : Shape := ⟨4, ![4, 8, 8192, 32]⟩
abbrev S4x8x8192x128 : Shape := ⟨4, ![4, 8, 8192, 128]⟩
abbrev S4x8x256x32 : Shape := ⟨4, ![4, 8, 256, 32]⟩
abbrev S4x8x256x128 : Shape := ⟨4, ![4, 8, 256, 128]⟩
abbrev S4x4x2x256x64 : Shape := ⟨5, ![4, 4, 2, 256, 64]⟩
abbrev S4x4x256x1 : Shape := ⟨4, ![4, 4, 256, 1]⟩
abbrev S4x4x256x63 : Shape := ⟨4, ![4, 4, 256, 63]⟩
abbrev S4x4x1x256x64 : Shape := ⟨5, ![4, 4, 1, 256, 64]⟩
abbrev S4x4x256x64 : Shape := ⟨4, ![4, 4, 256, 64]⟩
abbrev S4x4x256x128 : Shape := ⟨4, ![4, 4, 256, 128]⟩
abbrev S4x4x1x256x128 : Shape := ⟨5, ![4, 4, 1, 256, 128]⟩
abbrev S4x4x2x256x128 : Shape := ⟨5, ![4, 4, 2, 256, 128]⟩
abbrev S4x4x2x8192x64 : Shape := ⟨5, ![4, 4, 2, 8192, 64]⟩
abbrev S4x4x8192x1 : Shape := ⟨4, ![4, 4, 8192, 1]⟩
abbrev S4x4x8192x63 : Shape := ⟨4, ![4, 4, 8192, 63]⟩
abbrev S4x4x1x8192x64 : Shape := ⟨5, ![4, 4, 1, 8192, 64]⟩
abbrev S4x4x8192x64 : Shape := ⟨4, ![4, 4, 8192, 64]⟩
abbrev S4x4x8192x128 : Shape := ⟨4, ![4, 4, 8192, 128]⟩
abbrev S4x4x1x8192x128 : Shape := ⟨5, ![4, 4, 1, 8192, 128]⟩
abbrev S4x4x2x8192x128 : Shape := ⟨5, ![4, 4, 2, 8192, 128]⟩
abbrev S4x8192x512 : Shape := ⟨3, ![4, 8192, 512]⟩
abbrev S1x2x512x128 : Shape := ⟨4, ![1, 2, 512, 128]⟩
abbrev S1x2x256x128 : Shape := ⟨4, ![1, 2, 256, 128]⟩
abbrev S1x2x8192x128 : Shape := ⟨4, ![1, 2, 8192, 128]⟩
abbrev S1x512x128 : Shape := ⟨3, ![1, 512, 128]⟩
abbrev S2x2x512x2048 : Shape := ⟨4, ![2, 2, 512, 2048]⟩
abbrev S1x1x512x128 : Shape := ⟨4, ![1, 1, 512, 128]⟩
abbrev S512x128 : Shape := ⟨2, ![512, 128]⟩
abbrev S512x1 : Shape := ⟨2, ![512, 1]⟩
abbrev S1x1x256x128 : Shape := ⟨4, ![1, 1, 256, 128]⟩
abbrev S256x128 : Shape := ⟨2, ![256, 128]⟩
abbrev S512x256 : Shape := ⟨2, ![512, 256]⟩
abbrev S1x1x512x256 : Shape := ⟨4, ![1, 1, 512, 256]⟩
abbrev S512 : Shape := ⟨1, ![512]⟩
abbrev S1x1x2048x128 : Shape := ⟨4, ![1, 1, 2048, 128]⟩
abbrev S2048x128 : Shape := ⟨2, ![2048, 128]⟩
abbrev S512x2048 : Shape := ⟨2, ![512, 2048]⟩
abbrev S1x1x512x2048 : Shape := ⟨4, ![1, 1, 512, 2048]⟩

abbrev nBuf : Space → Nat
  | .hbm => 57
  | .vmem => 13
  | .smem => 0
  | _ => 0

abbrev bufTy : (tb : Table) → Fin (tcTables nBuf tb) → BufTy
  | .hbm, ⟨0, _⟩ => ⟨S4x8x8192x96, .f32⟩
  | .hbm, ⟨1, _⟩ => ⟨S4x8x256x96, .f32⟩
  | .hbm, ⟨2, _⟩ => ⟨S4x8x256x64, .f32⟩
  | .hbm, ⟨3, _⟩ => ⟨S4x8x8192x96, .f32⟩
  | .hbm, ⟨4, _⟩ => ⟨S4x8x8192x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8x8192x96, .f32⟩
  | .hbm, ⟨11, _⟩ => ⟨S4x8x8192x96, .f32⟩
  | .hbm, ⟨12, _⟩ => ⟨S_, .f32⟩
  | .hbm, ⟨13, _⟩ => ⟨S4x8x8192x32, .f32⟩
  | .hbm, ⟨14, _⟩ => ⟨S4x8x8192x128, .f32⟩
  | .hbm, ⟨15, _⟩ => ⟨S4x8x8192x128, .bf16⟩
  | .hbm, ⟨16, _⟩ => ⟨S_, .f32⟩
  | .hbm, ⟨17, _⟩ => ⟨S4x8x256x32, .f32⟩
  | .hbm, ⟨18, _⟩ => ⟨S4x8x256x128, .f32⟩
  | .hbm, ⟨19, _⟩ => ⟨S4x8x256x128, .bf16⟩
  | .hbm, ⟨20, _⟩ => ⟨S4x4x2x256x64, .f32⟩
  | .hbm, ⟨21, _⟩ => ⟨S_, .f32⟩
  | .hbm, ⟨22, _⟩ => ⟨S4x4x256x1, .f32⟩
  | .hbm, ⟨23, _⟩ => ⟨S_, .f32⟩
  | .hbm, ⟨24, _⟩ => ⟨S4x4x256x63, .f32⟩
  | .hbm, ⟨25, _⟩ => ⟨S4x4x1x256x64, .f32⟩
  | .hbm, ⟨26, _⟩ => ⟨S4x4x256x64, .f32⟩
  | .hbm, ⟨27, _⟩ => ⟨S4x4x256x128, .f32⟩
  | .hbm, ⟨28, _⟩ => ⟨S4x4x1x256x64, .f32⟩
  | .hbm, ⟨29, _⟩ => ⟨S4x4x256x64, .f32⟩
  | .hbm, ⟨30, _⟩ => ⟨S4x4x256x128, .f32⟩
  | .hbm, ⟨31, _⟩ => ⟨S4x4x1x256x128, .f32⟩
  | .hbm, ⟨32, _⟩ => ⟨S4x4x1x256x128, .f32⟩
  | .hbm, ⟨33, _⟩ => ⟨S4x4x2x256x128, .f32⟩
  | .hbm, ⟨34, _⟩ => ⟨S4x8x256x128, .f32⟩
  | .hbm, ⟨35, _⟩ => ⟨S4x8x256x128, .bf16⟩
  | .hbm, ⟨36, _⟩ => ⟨S_, .f32⟩
  | .hbm, ⟨37, _⟩ => ⟨S4x8x8192x32, .f32⟩
  | .hbm, ⟨38, _⟩ => ⟨S4x8x8192x128, .f32⟩
  | .hbm, ⟨39, _⟩ => ⟨S4x8x8192x128, .bf16⟩
  | .hbm, ⟨40, _⟩ => ⟨S4x4x2x8192x64, .f32⟩
  | .hbm, ⟨41, _⟩ => ⟨S_, .f32⟩
  | .hbm, ⟨42, _⟩ => ⟨S4x4x8192x1, .f32⟩
  | .hbm, ⟨43, _⟩ => ⟨S_, .f32⟩
  | .hbm, ⟨44, _⟩ => ⟨S4x4x8192x63, .f32⟩
  | .hbm, ⟨45, _⟩ => ⟨S4x4x1x8192x64, .f32⟩
  | .hbm, ⟨46, _⟩ => ⟨S4x4x8192x64, .f32⟩
  | .hbm, ⟨47, _⟩ => ⟨S4x4x8192x128, .f32⟩
  | .hbm, ⟨48, _⟩ => ⟨S4x4x1x8192x64, .f32⟩
  | .hbm, ⟨49, _⟩ => ⟨S4x4x8192x64, .f32⟩
  | .hbm, ⟨50, _⟩ => ⟨S4x4x8192x128, .f32⟩
  | .hbm, ⟨51, _⟩ => ⟨S4x4x1x8192x128, .f32⟩
  | .hbm, ⟨52, _⟩ => ⟨S4x4x1x8192x128, .f32⟩
  | .hbm, ⟨53, _⟩ => ⟨S4x4x2x8192x128, .f32⟩
  | .hbm, ⟨54, _⟩ => ⟨S4x8x8192x128, .f32⟩
  | .hbm, ⟨55, _⟩ => ⟨S4x8x8192x128, .bf16⟩
  | .hbm, ⟨56, _⟩ => ⟨S4x8192x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x8192x128, .bf16⟩
  | .local _ .vmem, ⟨7, _⟩ => ⟨S1x2x8192x128, .bf16⟩
  | .local _ .vmem, ⟨8, _⟩ => ⟨S1x2x8192x128, .bf16⟩
  | .local _ .vmem, ⟨9, _⟩ => ⟨S1x2x8192x128, .bf16⟩
  | .local _ .vmem, ⟨10, _⟩ => ⟨S1x512x128, .bf16⟩
  | .local _ .vmem, ⟨11, _⟩ => ⟨S1x512x128, .bf16⟩
  | .local _ .vmem, ⟨12, _⟩ => ⟨S2x2x512x2048, .f32⟩
  | _, _ => ⟨S4x8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8x8192x96 : Shape := ⟨4, ![4, 8, 8192, 96]⟩
abbrev S4x8x256x96 : Shape := ⟨4, ![4, 8, 256, 96]⟩
abbrev S4x8x256x64 : Shape := ⟨4, ![4, 8, 256, 64]⟩
abbrev S4x8x8192x64 : Shape := ⟨4, ![4, 8, 8192, 64]⟩
abbrev S4x8x8448x96 : Shape := ⟨4, ![4, 8, 8448, 96]⟩
abbrev S4x8x8448x64 : Shape := ⟨4, ![4, 8, 8448, 64]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S4x8x8192x96, .f32⟩
  | .hbm, ⟨1, _⟩ => ⟨S4x8x256x96, .f32⟩
  | .hbm, ⟨2, _⟩ => ⟨S4x8x256x64, .f32⟩
  | .hbm, ⟨3, _⟩ => ⟨S4x8x8192x96, .f32⟩
  | .hbm, ⟨4, _⟩ => ⟨S4x8x8192x64, .f32⟩
  | .hbm, ⟨5, _⟩ => ⟨S4x8x8448x96, .f32⟩
  | .hbm, ⟨6, _⟩ => ⟨S4x8x8448x64, .f32⟩
  | .hbm, ⟨7, _⟩ => ⟨S4x8x8192x8448, .f32⟩
  | .hbm, ⟨8, _⟩ => ⟨S_, .f32⟩
  | .hbm, ⟨9, _⟩ => ⟨S_, .f32⟩
  | .hbm, ⟨10, _⟩ => ⟨S4x8x8192x8448, .f32⟩
  | .hbm, ⟨11, _⟩ => ⟨S4x8x8192x8448, .f32⟩
  | .hbm, ⟨12, _⟩ => ⟨S_, .f32⟩
  | .hbm, ⟨13, _⟩ => ⟨S4x8x8192, .f32⟩
  | .hbm, ⟨14, _⟩ => ⟨S_, .f32⟩
  | .hbm, ⟨15, _⟩ => ⟨S4x8x8192, .f32⟩
  | .hbm, ⟨16, _⟩ => ⟨S4x8x8192, .f32⟩
  | .hbm, ⟨17, _⟩ => ⟨S4x8x8192x1, .f32⟩
  | .hbm, ⟨18, _⟩ => ⟨S4x8x8192x8448, .f32⟩
  | .hbm, ⟨19, _⟩ => ⟨S4x8x8192x8448, .f32⟩
  | .hbm, ⟨20, _⟩ => ⟨S4x8x8192x8448, .f32⟩
  | .hbm, ⟨21, _⟩ => ⟨S_, .f32⟩
  | .hbm, ⟨22, _⟩ => ⟨S4x8x8192, .f32⟩
  | .hbm, ⟨23, _⟩ => ⟨S4x8x8192x1, .f32⟩
  | .hbm, ⟨24, _⟩ => ⟨S4x8x8192x8448, .f32⟩
  | .hbm, ⟨25, _⟩ => ⟨S4x8x8192x8448, .f32⟩
  | .hbm, ⟨26, _⟩ => ⟨S4x8x8192x64, .f32⟩
  | .hbm, ⟨27, _⟩ => ⟨S4x8192x8x64, .f32⟩
  | .hbm, ⟨28, _⟩ => ⟨S4x8192x512, .f32⟩
  | .hbm, ⟨29, _⟩ => ⟨S4x8192x512, .bf16⟩
  | _, _ => ⟨S4x8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S1024x2816 : Shape := ⟨2, ![1024, 2816]⟩
abbrev S1x2816 : Shape := ⟨2, ![1, 2816]⟩
abbrev S8x1024 : Shape := ⟨2, ![8, 1024]⟩
abbrev S1024x1024 : Shape := ⟨2, ![1024, 1024]⟩
abbrev S1x1x1024 : Shape := ⟨3, ![1, 1, 1024]⟩
abbrev S1024x1 : Shape := ⟨2, ![1024, 1]⟩
abbrev S8 : Shape := ⟨1, ![8]⟩
abbrev S8x1 : Shape := ⟨2, ![8, 1]⟩
abbrev S1040x1024 : Shape := ⟨2, ![1040, 1024]⟩
abbrev S1024x256 : Shape := ⟨2, ![1024, 256]⟩
abbrev S1040x256 : Shape := ⟨2, ![1040, 256]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S32768x1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S1x2816, .f32⟩
  | .hbm, ⟨16, _⟩ => ⟨S2816x1024, .bf16⟩
  | .hbm, ⟨17, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S3x2816, .f32⟩
  | .local _ .vmem, ⟨16, _⟩ => ⟨S1x2816, .f32⟩
  | .local _ .vmem, ⟨17, _⟩ => ⟨S2816x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnReferenceIdeal.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S4x1x2816 : Shape := ⟨3, ![4, 1, 2816]⟩
abbrev S4x8191x2816 : Shape := ⟨3, ![4, 8191, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S1024x2816, .f32⟩
  | .hbm, ⟨33, _⟩ => ⟨S4x8192x2816, .f32⟩
  | .hbm, ⟨34, _⟩ => ⟨S1024x2816, .f32⟩
  | .hbm, ⟨35, _⟩ => ⟨S4x8192x2816, .f32⟩
  | .hbm, ⟨36, _⟩ => ⟨S_, .f32⟩
  | .hbm, ⟨37, _⟩ => ⟨S4x1x2816, .f32⟩
  | .hbm, ⟨38, _⟩ => ⟨S4x8191x2816, .f32⟩
  | .hbm, ⟨39, _⟩ => ⟨S4x8192x2816, .f32⟩
  | .hbm, ⟨40, _⟩ => ⟨S4x8191x2816, .f32⟩
  | .hbm, ⟨41, _⟩ => ⟨S4x8192x2816, .f32⟩
  | .hbm, ⟨42, _⟩ => ⟨S1x2816, .f32⟩
  | .hbm, ⟨43, _⟩ => ⟨S2816, .f32⟩
  | .hbm, ⟨44, _⟩ => ⟨S1x1x2816, .f32⟩
  | .hbm, ⟨45, _⟩ => ⟨S4x8192x2816, .f32⟩
  | .hbm, ⟨46, _⟩ => ⟨S4x8192x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S1x1x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S_, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S4x8192x2816, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | .hbm, ⟨84, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== InProj.lean ====
abbrev S4x8192x1024 : Shape := ⟨3, ![4, 8192, 1024]⟩
abbrev S4x1x1024 : Shape := ⟨3, ![4, 1, 1024]⟩
abbrev S1024 : Shape := ⟨1, ![1024]⟩
abbrev S1024x7616 : Shape := ⟨2, ![1024, 7616]⟩
abbrev S1024x8 : Shape := ⟨2, ![1024, 8]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x640 : Shape := ⟨2, ![1024, 640]⟩
abbrev S1024x2048 : Shape := ⟨2, ![1024, 2048]⟩
abbrev S1024x5120 : Shape := ⟨2, ![1024, 5120]⟩
abbrev S1024x7168 : Shape := ⟨2, ![1024, 7168]⟩
abbrev S32768x1024 : Shape := ⟨2, ![32768, 1024]⟩
abbrev S1x1024 : Shape := ⟨2, ![1, 1024]⟩
abbrev S32768x640 : Shape := ⟨2, ![32768, 640]⟩
abbrev S32768x7168 : Shape := ⟨2, ![32768, 7168]⟩
abbrev S2048x1024 : Shape := ⟨2, ![2048, 1024]⟩
abbrev S1x1x1024 : Shape := ⟨3, ![1, 1, 1024]⟩
abbrev S1024x1024 : Shape := ⟨2, ![1024, 1024]⟩
abbrev S2048x640 : Shape := ⟨2, ![2048, 640]⟩
abbrev S2048 : Shape := ⟨1, ![2048]⟩
abbrev S2048x1 : Shape := ⟨2, ![2048, 1]⟩

abbrev nBuf : Space → Nat
  | .hbm => 30
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x7616, .f32⟩
  | .hbm, ⟨5, _⟩ => ⟨S1024x8, .f32⟩
  | .hbm, ⟨6, _⟩ => ⟨S1024x8, .f32⟩
  | .hbm, ⟨7, _⟩ => ⟨S1024x8, .f32⟩
  | .hbm, ⟨8, _⟩ => ⟨S1024x8, .f32⟩
  | .hbm, ⟨9, _⟩ => ⟨S1024x8, .f32⟩
  | .hbm, ⟨10, _⟩ => ⟨S1024x8, .f32⟩
  | .hbm, ⟨11, _⟩ => ⟨S1024x384, .f32⟩
  | .hbm, ⟨12, _⟩ => ⟨S_, .f32⟩
  | .hbm, ⟨13, _⟩ => ⟨S1024x64, .f32⟩
  | .hbm, ⟨14, _⟩ => ⟨S1024x32, .f32⟩
  | .hbm, ⟨15, _⟩ => ⟨S1024x32, .f32⟩
  | .hbm, ⟨16, _⟩ => ⟨S_, .f32⟩
  | .hbm, ⟨17, _⟩ => ⟨S1024x64, .f32⟩
  | .hbm, ⟨18, _⟩ => ⟨S_, .f32⟩
  | .hbm, ⟨19, _⟩ => ⟨S1024x32, .f32⟩
  | .hbm, ⟨20, _⟩ => ⟨S1024x640, .f32⟩
  | .hbm, ⟨21, _⟩ => ⟨S1024x2048, .f32⟩
  | .hbm, ⟨22, _⟩ => ⟨S1024x5120, .f32⟩
  | .hbm, ⟨23, _⟩ => ⟨S1024x7168, .f32⟩
  | .hbm, ⟨24, _⟩ => ⟨S1024x640, .bf16⟩
  | .hbm, ⟨25, _⟩ => ⟨S1024x7168, .bf16⟩
  | .hbm, ⟨26, _⟩ => ⟨S32768x1024, .f32⟩
  | .hbm, ⟨27, _⟩ => ⟨S1x1024, .f32⟩
  | .hbm, ⟨28, _⟩ => ⟨S32768x640, .f32⟩
  | .hbm, ⟨29, _⟩ => ⟨S32768x7168, .bf16⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x640, .bf16⟩
  | .local _ .vmem, ⟨8, _⟩ => ⟨S1024x1024, .bf16⟩
  | .local _ .vmem, ⟨9, _⟩ => ⟨S1024x1024, .bf16⟩
  | .local _ .vmem, ⟨10, _⟩ => ⟨S2048x640, .f32⟩
  | .local _ .vmem, ⟨11, _⟩ => ⟨S2048x640, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjReferenceIdeal.lean ====
abbrev S4x8192x1024 : Shape := ⟨3, ![4, 8192, 1024]⟩
abbrev S4x1x1024 : Shape := ⟨3, ![4, 1, 1024]⟩
abbrev S1024 : Shape := ⟨1, ![1024]⟩
abbrev S1024x7616 : Shape := ⟨2, ![1024, 7616]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x256 : Shape := ⟨2, ![1024, 256]⟩
abbrev S4x8192x256 : Shape := ⟨3, ![4, 8192, 256]⟩
abbrev S1024x128 : Shape := ⟨2, ![1024, 128]⟩
abbrev S4x8192x128 : Shape := ⟨3, ![4, 8192, 128]⟩
abbrev S1024x32 : Shape := ⟨2, ![1024, 32]⟩
abbrev S4x8192x32 : Shape := ⟨3, ![4, 8192, 32]⟩
abbrev S1024x512 : Shape := ⟨2, ![1024, 512]⟩
abbrev S4x8192x512 : Shape := ⟨3, ![4, 8192, 512]⟩
abbrev S1024x16 : Shape := ⟨2, ![1024, 16]⟩
abbrev S4x8192x16 : Shape := ⟨3, ![4, 8192, 16]⟩
abbrev S1024x1024 : Shape := ⟨2, ![1024, 1024]⟩
abbrev S4x8192x64 : Shape := ⟨3, ![4, 8192, 64]⟩
abbrev S4x8192x8 : Shape := ⟨3, ![4, 8192, 8]⟩
abbrev S4x8192x640 : Shape := ⟨3, ![4, 8192, 640]⟩
abbrev S4x8192x7168 : Shape := ⟨3, ![4, 8192, 7168]⟩
abbrev S32768x640 : Shape := ⟨2, ![32768, 640]⟩
abbrev S32768x7168 : Shape := ⟨2, ![32768, 7168]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x7616, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S1024x256, .f32⟩
  | .hbm, ⟨29, _⟩ => ⟨S4x8192x256, .f32⟩
  | .hbm, ⟨30, _⟩ => ⟨S1024x128, .f32⟩
  | .hbm, ⟨31, _⟩ => ⟨S4x8192x128, .f32⟩
  | .hbm, ⟨32, _⟩ => ⟨S1024x32, .f32⟩
  | .hbm, ⟨33, _⟩ => ⟨S4x8192x32, .f32⟩
  | .hbm, ⟨34, _⟩ => ⟨S1024x512, .f32⟩
  | .hbm, ⟨35, _⟩ => ⟨S4x8192x512, .f32⟩
  | .hbm, ⟨36, _⟩ => ⟨S1024x512, .f32⟩
  | .hbm, ⟨37, _⟩ => ⟨S4x8192x512, .f32⟩
  | .hbm, ⟨38, _⟩ => ⟨S1024x512, .f32⟩
  | .hbm, ⟨39, _⟩ => ⟨S4x8192x512, .f32⟩
  | .hbm, ⟨40, _⟩ => ⟨S1024x512, .f32⟩
  | .hbm, ⟨41, _⟩ => ⟨S4x8192x512, .f32⟩
  | .hbm, ⟨42, _⟩ => ⟨S1024x16, .f32⟩
  | .hbm, ⟨43, _⟩ => ⟨S4x8192x16, .f32⟩
  | .hbm, ⟨44, _⟩ => ⟨S1024x16, .f32⟩
  | .hbm, ⟨45, _⟩ => ⟨S4x8192x16, .f32⟩
  | .hbm, ⟨46, _⟩ => ⟨S1024x512, .f32⟩
  | .hbm, ⟨47, _⟩ => ⟨S4x8192x512, .f32⟩
  | .hbm, ⟨48, _⟩ => ⟨S1024x512, .f32⟩
  | .hbm, ⟨49, _⟩ => ⟨S4x8192x512, .f32⟩
  | .hbm, ⟨50, _⟩ => ⟨S1024x512, .f32⟩
  | .hbm, ⟨51, _⟩ => ⟨S4x8192x512, .f32⟩
  | .hbm, ⟨52, _⟩ => ⟨S1024x512, .f32⟩
  | .hbm, ⟨53, _⟩ => ⟨S4x8192x512, .f32⟩
  | .hbm, ⟨54, _⟩ => ⟨S1024x1024, .f32⟩
  | .hbm, ⟨55, _⟩ => ⟨S4x8192x1024, .f32⟩
  | .hbm, ⟨56, _⟩ => ⟨S1024x1024, .f32⟩
  | .hbm, ⟨57, _⟩ => ⟨S4x8192x1024, .f32⟩
  | .hbm, ⟨58, _⟩ => ⟨S1024x1024, .f32⟩
  | .hbm, ⟨59, _⟩ => ⟨S4x8192x1024, .f32⟩
  | .hbm, ⟨60, _⟩ => ⟨S_, .f32⟩
  | .hbm, ⟨61, _⟩ => ⟨S4x8192x64, .f32⟩
  | .hbm, ⟨62, _⟩ => ⟨S_, .f32⟩
  | .hbm, ⟨63, _⟩ => ⟨S4x8192x64, .f32⟩
  | .hbm, ⟨64, _⟩ => ⟨S4x8192x16, .f32⟩
  | .hbm, ⟨65, _⟩ => ⟨S4x8192x8, .f32⟩
  | .hbm, ⟨66, _⟩ => ⟨S4x8192x8, .f32⟩
  | .hbm, ⟨67, _⟩ => ⟨S4x8192x8, .f32⟩
  | .hbm, ⟨68, _⟩ => ⟨S4x8192x16, .f32⟩
  | .hbm, ⟨69, _⟩ => ⟨S4x8192x16, .f32⟩
  | .hbm, ⟨70, _⟩ => ⟨S4x8192x8, .f32⟩
  | .hbm, ⟨71, _⟩ => ⟨S4x8192x8, .f32⟩
  | .hbm, ⟨72, _⟩ => ⟨S4x8192x8, .f32⟩
  | .hbm, ⟨73, _⟩ => ⟨S4x8192x16, .f32⟩
  | .hbm, ⟨74, _⟩ => ⟨S_, .f32⟩
  | .hbm, ⟨75, _⟩ => ⟨S4x8192x32, .f32⟩
  | .hbm, ⟨76, _⟩ => ⟨S4x8192x640, .f32⟩
  | .hbm, ⟨77, _⟩ => ⟨S4x8192x7168, .f32⟩
  | .hbm, ⟨78, _⟩ => ⟨S4x8192x7168, .bf16⟩
  | .hbm, ⟨79, _⟩ => ⟨S32768x640, .f32⟩
  | .hbm, ⟨80, _⟩ => ⟨S32768x7168, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_3 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Merge.lean ====
abbrev S4x8192x512 : Shape := ⟨3, ![4, 8192, 512]⟩
abbrev S32768x7168 : Shape := ⟨2, ![32768, 7168]⟩
abbrev S128 : Shape := ⟨1, ![128]⟩
abbrev S3x1024 : Shape := ⟨2, ![3, 1024]⟩
abbrev S3x512x1024 : Shape := ⟨3, ![3, 512, 1024]⟩
abbrev S1024x1024 : Shape := ⟨2, ![1024, 1024]⟩
abbrev S4x8192x1024 : Shape := ⟨3, ![4, 8192, 1024]⟩
abbrev S4x1x1024 : Shape := ⟨3, ![4, 1, 1024]⟩
abbrev S32768x512 : Shape := ⟨2, ![32768, 512]⟩
abbrev S1x128 : Shape := ⟨2, ![1, 128]⟩
abbrev S1x3072 : Shape := ⟨2, ![1, 3072]⟩
abbrev S32768x1024 : Shape := ⟨2, ![32768, 1024]⟩
abbrev S512x512 : Shape := ⟨2, ![512, 512]⟩
abbrev S512x1024 : Shape := ⟨2, ![512, 1024]⟩
abbrev S1x1x1024 : Shape := ⟨3, ![1, 1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x512x1024 : Shape := ⟨3, ![1, 512, 1024]⟩
abbrev S256x1024 : Shape := ⟨2, ![256, 1024]⟩
abbrev S1x1024 : Shape := ⟨2, ![1, 1024]⟩

abbrev nBuf : Space → Nat
  | .hbm => 23
  | .vmem => 30
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S32768x7168, .bf16⟩
  | .hbm, ⟨6, _⟩ => ⟨S128, .f32⟩
  | .hbm, ⟨7, _⟩ => ⟨S3x1024, .f32⟩
  | .hbm, ⟨8, _⟩ => ⟨S3x512x1024, .f32⟩
  | .hbm, ⟨9, _⟩ => ⟨S1024x1024, .f32⟩
  | .hbm, ⟨10, _⟩ => ⟨S4x8192x1024, .f32⟩
  | .hbm, ⟨11, _⟩ => ⟨S4x1x1024, .f32⟩
  | .hbm, ⟨12, _⟩ => ⟨S32768x512, .bf16⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S1x128, .f32⟩
  | .hbm, ⟨18, _⟩ => ⟨S1x3072, .f32⟩
  | .hbm, ⟨19, _⟩ => ⟨S3x512x1024, .bf16⟩
  | .hbm, ⟨20, _⟩ => ⟨S1024x1024, .bf16⟩
  | .hbm, ⟨21, _⟩ => ⟨S32768x1024, .f32⟩
  | .hbm, ⟨22, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x128, .f32⟩
  | .local _ .vmem, ⟨21, _⟩ => ⟨S1x3072, .f32⟩
  | .local _ .vmem, ⟨22, _⟩ => ⟨S3x512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S1x1x1024, .f32⟩
  | .local _ .vmem, ⟨27, _⟩ => ⟨S1x1x1024, .f32⟩
  | .local _ .vmem, ⟨28, _⟩ => ⟨S512x1024, .f32⟩
  | .local _ .vmem, ⟨29, _⟩ => ⟨S512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S4x8192x512 : Shape := ⟨3, ![4, 8192, 512]⟩
abbrev S32768x7168 : Shape := ⟨2, ![32768, 7168]⟩
abbrev S128 : Shape := ⟨1, ![128]⟩
abbrev S3x1024 : Shape := ⟨2, ![3, 1024]⟩
abbrev S3x512x1024 : Shape := ⟨3, ![3, 512, 1024]⟩
abbrev S1024x1024 : Shape := ⟨2, ![1024, 1024]⟩
abbrev S4x8192x1024 : Shape := ⟨3, ![4, 8192, 1024]⟩
abbrev S4x1x1024 : Shape := ⟨3, ![4, 1, 1024]⟩
abbrev S32768x512 : Shape := ⟨2, ![32768, 512]⟩
abbrev S32768x1024 : Shape := ⟨2, ![32768, 1024]⟩
abbrev S4x8192x4x128 : Shape := ⟨4, ![4, 8192, 4, 128]⟩
abbrev S4x4x8192x128 : Shape := ⟨4, ![4, 4, 8192, 128]⟩
abbrev S_ : Shape := ⟨0, ![]⟩
abbrev S4x4x8192 : Shape := ⟨3, ![4, 4, 8192]⟩
abbrev S4x4x8192x1 : Shape := ⟨4, ![4, 4, 8192, 1]⟩
abbrev S1x1x1x128 : Shape := ⟨4, ![1, 1, 1, 128]⟩
abbrev S1x1024 : Shape := ⟨2, ![1, 1024]⟩
abbrev S1024 : Shape := ⟨1, ![1024]⟩
abbrev S1x1x1024 : Shape := ⟨3, ![1, 1, 1024]⟩
abbrev S1x512x1024 : Shape := ⟨3, ![1, 512, 1024]⟩
abbrev S512x1024 : Shape := ⟨2, ![512, 1024]⟩

abbrev nBuf : Space → Nat
  | .hbm => 163
  | .vmem => 0
  | .smem => 0
  | _ => 0

abbrev hbmTy0_0 (i : Nat) : BufTy := match i % 128 with
  | 0 => ⟨S4x8192x512, .bf16⟩
  | 1 => ⟨S4x8192x512, .f32⟩
  | 2 => ⟨S4x8192x512, .f32⟩
  | 3 => ⟨S4x8192x512, .f32⟩
  | 4 => ⟨S4x8192x512, .f32⟩
  | 5 => ⟨S32768x7168, .bf16⟩
  | 6 => ⟨S128, .f32⟩
  | 7 => ⟨S3x1024, .f32⟩
  | 8 => ⟨S3x512x1024, .f32⟩
  | 9 => ⟨S1024x1024, .f32⟩
  | 10 => ⟨S4x8192x1024, .f32⟩
  | 11 => ⟨S4x1x1024, .f32⟩
  | 12 => ⟨S32768x512, .bf16⟩
  | 13 => ⟨S32768x512, .f32⟩
  | 14 => ⟨S4x8192x512, .f32⟩
  | 15 => ⟨S32768x512, .bf16⟩
  | 16 => ⟨S32768x512, .f32⟩
  | 17 => ⟨S4x8192x512, .f32⟩
  | 18 => ⟨S32768x512, .bf16⟩
  | 19 => ⟨S32768x512, .f32⟩
  | 20 => ⟨S4x8192x512, .f32⟩
  | 21 => ⟨S32768x512, .bf16⟩
  | 22 => ⟨S32768x512, .f32⟩
  | 23 => ⟨S4x8192x512, .f32⟩
  | 24 => ⟨S32768x512, .bf16⟩
  | 25 => ⟨S32768x512, .f32⟩
  | 26 => ⟨S4x8192x512, .f32⟩
  | 27 => ⟨S32768x512, .bf16⟩
  | 28 => ⟨S32768x512, .f32⟩
  | 29 => ⟨S4x8192x512, .f32⟩
  | 30 => ⟨S32768x512, .bf16⟩
  | 31 => ⟨S32768x512, .f32⟩
  | 32 => ⟨S4x8192x512, .f32⟩
  | 33 => ⟨S32768x512, .bf16⟩
  | 34 => ⟨S32768x512, .f32⟩
  | 35 => ⟨S4x8192x512, .f32⟩
  | 36 => ⟨S32768x1024, .bf16⟩
  | 37 => ⟨S32768x1024, .f32⟩
  | 38 => ⟨S4x8192x1024, .f32⟩
  | 39 => ⟨S32768x1024, .bf16⟩
  | 40 => ⟨S32768x1024, .f32⟩
  | 41 => ⟨S4x8192x1024, .f32⟩
  | 42 => ⟨S32768x1024, .bf16⟩
  | 43 => ⟨S32768x1024, .f32⟩
  | 44 => ⟨S4x8192x1024, .f32⟩
  | 45 => ⟨S4x8192x512, .f32⟩
  | 46 => ⟨S4x8192x4x128, .f32⟩
  | 47 => ⟨S4x4x8192x128, .f32⟩
  | 48 => ⟨S4x4x8192x128, .f32⟩
  | 49 => ⟨S_, .f32⟩
  | 50 => ⟨S4x4x8192, .f32⟩
  | 51 => ⟨S4x4x8192x1, .f32⟩
  | 52 => ⟨S_, .f32⟩
  | 53 => ⟨S4x4x8192x1, .f32⟩
  | 54 => ⟨S4x4x8192x1, .f32⟩
  | 55 => ⟨S_, .f32⟩
  | 56 => ⟨S4x4x8192x1, .f32⟩
  | 57 => ⟨S4x4x8192x1, .f32⟩
  | 58 => ⟨S4x4x8192x1, .f32⟩
  | 59 => ⟨S4x4x8192x128, .f32⟩
  | 60 => ⟨S4x4x8192x128, .f32⟩
  | 61 => ⟨S1x1x1x128, .f32⟩
  | 62 => ⟨S4x4x8192x128, .f32⟩
  | 63 => ⟨S4x4x8192x128, .f32⟩
  | 64 => ⟨S4x8192x4x128, .f32⟩
  | 65 => ⟨S4x8192x512, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S4x8192x512, .f32⟩
  | 75 => ⟨S4x8192x512, .f32⟩
  | 76 => ⟨S4x8192x512, .f32⟩
  | 77 => ⟨S4x8192x4x128, .f32⟩
  | 78 => ⟨S4x4x8192x128, .f32⟩
  | 79 => ⟨S4x4x8192x128, .f32⟩
  | 80 => ⟨S_, .f32⟩
  | 81 => ⟨S4x4x8192, .f32⟩
  | 82 => ⟨S4x4x8192x1, .f32⟩
  | 83 => ⟨S_, .f32⟩
  | 84 => ⟨S4x4x8192x1, .f32⟩
  | 85 => ⟨S4x4x8192x1, .f32⟩
  | 86 => ⟨S_, .f32⟩
  | 87 => ⟨S4x4x8192x1, .f32⟩
  | 88 => ⟨S4x4x8192x1, .f32⟩
  | 89 => ⟨S4x4x8192x1, .f32⟩
  | 90 => ⟨S4x4x8192x128, .f32⟩
  | 91 => ⟨S4x4x8192x128, .f32⟩
  | 92 => ⟨S4x8192x4x128, .f32⟩
  | 93 => ⟨S4x8192x512, .f32⟩
  | 94 => ⟨S4x8192x512, .f32⟩
  | 95 => ⟨S4x8192x512, .f32⟩
  | 96 => ⟨S_, .f32⟩
  | 97 => ⟨S4x8192x512, .f32⟩
  | 98 => ⟨S4x8192x512, .f32⟩
  | 99 => ⟨S_, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S1x1024, .f32⟩
  | 106 => ⟨S1024, .f32⟩
  | 107 => ⟨S1x1x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S_, .f32⟩
  | 113 => ⟨S4x8192x1024, .f32⟩
  | 114 => ⟨S4x8192x1024, .f32⟩
  | 115 => ⟨S_, .f32⟩
  | 116 => ⟨S4x8192x1024, .f32⟩
  | 117 => ⟨S4x8192x1024, .f32⟩
  | 118 => ⟨S1x512x1024, .f32⟩
  | 119 => ⟨S512x1024, .f32⟩
  | 120 => ⟨S4x8192x1024, .f32⟩
  | 121 => ⟨S4x8192x1024, .f32⟩
  | 122 => ⟨S1x1024, .f32⟩
  | 123 => ⟨S1024, .f32⟩
  | 124 => ⟨S1x1x1024, .f32⟩
  | 125 => ⟨S4x8192x1024, .f32⟩
  | 126 => ⟨S4x8192x1024, .f32⟩
  | 127 => ⟨S4x8192x1024, .f32⟩
  | _ => ⟨S4x8192x512, .bf16⟩

abbrev hbmTy0_1 (i : Nat) : BufTy := match i % 128 with
  | 0 => ⟨S4x8192x1024, .f32⟩
  | 1 => ⟨S_, .f32⟩
  | 2 => ⟨S4x8192x1024, .f32⟩
  | 3 => ⟨S4x8192x1024, .f32⟩
  | 4 => ⟨S_, .f32⟩
  | 5 => ⟨S4x8192x1024, .f32⟩
  | 6 => ⟨S4x8192x1024, .f32⟩
  | 7 => ⟨S1x512x1024, .f32⟩
  | 8 => ⟨S512x1024, .f32⟩
  | 9 => ⟨S4x8192x1024, .f32⟩
  | 10 => ⟨S4x8192x1024, .f32⟩
  | 11 => ⟨S4x8192x1024, .f32⟩
  | 12 => ⟨S1x1024, .f32⟩
  | 13 => ⟨S1024, .f32⟩
  | 14 => ⟨S1x1x1024, .f32⟩
  | 15 => ⟨S4x8192x1024, .f32⟩
  | 16 => ⟨S4x8192x1024, .f32⟩
  | 17 => ⟨S4x8192x1024, .f32⟩
  | 18 => ⟨S4x8192x1024, .f32⟩
  | 19 => ⟨S_, .f32⟩
  | 20 => ⟨S4x8192x1024, .f32⟩
  | 21 => ⟨S4x8192x1024, .f32⟩
  | 22 => ⟨S_, .f32⟩
  | 23 => ⟨S4x8192x1024, .f32⟩
  | 24 => ⟨S4x8192x1024, .f32⟩
  | 25 => ⟨S1x512x1024, .f32⟩
  | 26 => ⟨S512x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S32768x1024, .f32⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_v38 : Ref sig .tc := ⟨.hbm, 51, rfl⟩
abbrev main_cst_0 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_2 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_cst_4 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_5 : Ref sig .tc := ⟨.hbm, 112, rfl⟩
abbrev main_v78 : Ref sig .tc := ⟨.hbm, 113, rfl⟩
abbrev main_v79 : Ref sig .tc := ⟨.hbm, 114, rfl⟩
abbrev main_cst_6 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_7 : Ref sig .tc := ⟨.hbm, 129, rfl⟩
abbrev main_v93 : Ref sig .tc := ⟨.hbm, 130, rfl⟩
abbrev main_v94 : Ref sig .tc := ⟨.hbm, 131, rfl⟩
abbrev main_cst_8 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_9 : Ref sig .tc := ⟨.hbm, 147, rfl⟩
abbrev main_v109 : Ref sig .tc := ⟨.hbm, 148, rfl⟩
abbrev main_v110 : Ref sig .tc := ⟨.hbm, 149, rfl⟩
abbrev main_cst_10 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩

abbrev nD : Nat := 1
abbrev τ : Topo := Topo.v7x

variable {F : FTy → Type} [FloatOps F]
-- ==== Ada.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S3x6144 : Shape := ⟨2, ![3, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 63
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x6144, .f32⟩
  | .hbm, ⟨23, _⟩ => ⟨S1024x6144, .f32⟩
  | .hbm, ⟨24, _⟩ => ⟨S4x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S4x6144, .f32⟩
  | .hbm, ⟨29, _⟩ => ⟨S4x6144, .f32⟩
  | .hbm, ⟨30, _⟩ => ⟨S1x1024x6144, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S3x6144, .f32⟩
  | .hbm, ⟨39, _⟩ => ⟨S1x6144, .f32⟩
  | .hbm, ⟨40, _⟩ => ⟨S8x6144, .f32⟩
  | .hbm, ⟨41, _⟩ => ⟨S1x1024x6144, .f32⟩
  | .hbm, ⟨42, _⟩ => ⟨S1024x6144, .f32⟩
  | .hbm, ⟨43, _⟩ => ⟨S4x6144, .f32⟩
  | .hbm, ⟨44, _⟩ => ⟨S1x6144, .f32⟩
  | .hbm, ⟨45, _⟩ => ⟨S6144, .f32⟩
  | .hbm, ⟨46, _⟩ => ⟨S1x6144, .f32⟩
  | .hbm, ⟨47, _⟩ => ⟨S4x6144, .f32⟩
  | .hbm, ⟨48, _⟩ => ⟨S4x6144, .f32⟩
  | .hbm, ⟨49, _⟩ => ⟨S1x1024x6144, .f32⟩
  | .hbm, ⟨50, _⟩ => ⟨S1024x6144, .f32⟩
  | .hbm, ⟨51, _⟩ => ⟨S6144, .f32⟩
  | .hbm, ⟨52, _⟩ => ⟨S1x6144, .f32⟩
  | .hbm, ⟨53, _⟩ => ⟨S6144, .f32⟩
  | .hbm, ⟨54, _⟩ => ⟨S6144, .f32⟩
  | .hbm, ⟨55, _⟩ => ⟨S1x6144, .f32⟩
  | .hbm, ⟨56, _⟩ => ⟨S6144, .f32⟩
  | .hbm, ⟨57, _⟩ => ⟨S3x6144, .f32⟩
  | .hbm, ⟨58, _⟩ => ⟨S1x6144, .f32⟩
  | .hbm, ⟨59, _⟩ => ⟨S8x6144, .f32⟩
  | .hbm, ⟨60, _⟩ => ⟨S1x8x6144, .f32⟩
  | .hbm, ⟨61, _⟩ => ⟨S1x8x6144, .f32⟩
  | .hbm, ⟨62, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.InProjIdealBody.lean ====
/-
  The body of the input projection's kernel at every grid point (the idealised program), the run of the whole call and its frame.

  The grid has 112 points: 16 blocks of 2048 rows, and for each of them the 7 column blocks of the wide result.
  At a row block's first point the body norms, scales and shifts the rows into a scratch buffer and stores the narrow
  result's block; at every point it multiplies the scratch by one column block of the weights. The narrow result's block
  is written back at the row block's last point, where the body stores nothing into it: what it holds there is what the
  row block's first point left, and so is what the scratch holds.
-/
module

public import proofs.«01_k».proof.Proof.Gen.InProjIdeal.Frame
public import proofs.«01_k».proof.Proof.Gen.InProjIdeal.Skeleton
public import Idealize.ShloMosaic.Lib.VecWindow
public import Idealize.ShloMosaic.Lib.Pipeline.ReadBack
public import Idealize.ShloMosaic.Lib.Pipeline.TableIdle
public import Idealize.ShloMosaic.Lib.Claim

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

theorem hz3 : (![0, 0, 0] : Fin 3 → Nat) = fun _ => 0 := funext fun a => by fin_cases a <;> rfl

/-! ## The two ways through the body -/

/-- Whether the point is the first of its row block, as the body asks it. -/
abbrev starts (i : grid0.Coords) : Prop := k0_cond1 i = 1#1

/-- It is at the multiples of seven. -/
theorem starts_iff : ∀ t : Fin cfg0.N, starts (grid0.coords t) ↔ t.val % 7 = 0 :=
  (fun t => by
    have ht : t.val < 112 := Nat.lt_of_lt_of_eq t.isLt N_0
    have e0 : (grid0.coords t 0).val = t.val / 7 % 16 := Pipeline.Grid.coords_val t 0 (by decide) rfl
    have e1 : (grid0.coords t 1).val = t.val / 1 % 7 := Pipeline.Grid.coords_val t 1 (by decide) rfl
    simp only [starts, k0_cond1, e0, e1]
    word_cmp
   : ∀ t : Fin grid0.N, starts (grid0.coords t) ↔ t.val % 7 = 0)

-- the run's term holds the whole body and both results
set_option maxHeartbeats 1000000 in
/-- At a row block's first point the body leaves the normed rows in the scratch and both products in the results' blocks. -/
theorem run_first (c : Dev nD) (i : grid0.Coords) (arg2 : Memref sig .tc .vmem S2048x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x640 .bf16) (harg6 : arg6.IsWhole) (arg7 : Memref sig .tc .vmem S1024x1024 .bf16) (harg7 : arg7.IsWhole) (arg8 : Memref sig .tc .vmem S2048x640 .f32) (harg8 : arg8.IsWhole) (arg9 : Memref sig .tc .vmem S2048x1024 .bf16) (harg9 : arg9.IsWhole) (arg10 : Memref sig .tc .vmem S2048x1024 .bf16) (harg10 : arg10.IsWhole) (hc0 : starts i)
    (x0 : Vec F S2048x1024 .f32) (x1 : Vec F S1x1x1024 .f32) (x2 : Vec F S1x1x1024 .f32) (x3 : Vec F S1x1024 .f32) (x4 : Vec F S1024x640 .bf16) (x5 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 x3 x2 x1 x4) ∗ owns (c : Thread nD τ) arg9 fullShare (k0_pay4 (k0_pay2 x0 x3 x2 x1) x5) ∗ owns (c : Thread nD τ) arg10 fullShare (k0_pay2 x0 x3 x2 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr
      swap; · iexact H6
      ipureintro
      sl_unfold_words
      rw [View.read_writes_full]
      simp only [View.readAt_eq_ld, harg2.read_unread, harg3.read_unread, harg4.read_unread, harg5.read_unread, harg6.read_unread, harg7.read_unread, harg10.read_unread]
      simp only [View.ld_unit_zero (S := S2048x1024) hz2, View.ld_unit_zero (S := S1024x640) hz2, View.ld_unit_zero (S := S1x1024) hz2,
        View.ld_unit_zero (S := S1024x1024) hz2, View.ld_unit_zero (S := S1x1x1024) hz3]
    isplitl [H7]
    · iexists _; isplitr
      swap; · iexact H7
      ipureintro
      sl_unfold_words
      rw [View.read_writes_full]
      simp only [View.readAt_eq_ld, harg2.read_unread, harg3.read_unread, harg4.read_unread, harg5.read_unread, harg6.read_unread, harg7.read_unread, harg10.read_unread]
      simp only [View.ld_unit_zero (S := S2048x1024) hz2, View.ld_unit_zero (S := S1024x640) hz2, View.ld_unit_zero (S := S1x1024) hz2,
        View.ld_unit_zero (S := S1024x1024) hz2, View.ld_unit_zero (S := S1x1x1024) hz3]
      exact congrArg (fun x => k0_pay4 x x5) (View.readCov_cons_toLoadRect _ _ _ _)
    iexists _; isplitr
    swap; · iexact H8
    ipureintro
    sl_unfold_words
    rw [View.read_writes_full]
    simp only [View.readAt_eq_ld, harg2.read_unread, harg3.read_unread, harg4.read_unread, harg5.read_unread, harg6.read_unread, harg7.read_unread, harg10.read_unread]
    simp only [View.ld_unit_zero (S := S2048x1024) hz2, View.ld_unit_zero (S := S1024x640) hz2, View.ld_unit_zero (S := S1x1024) hz2,
      View.ld_unit_zero (S := S1024x1024) hz2, View.ld_unit_zero (S := S1x1x1024) hz3]

-- the run's term holds the whole body
set_option maxHeartbeats 1000000 in
/-- At a later point it leaves the scratch and the narrow result's block as they were, and the scratch's product in the wide result's block. -/
theorem run_later (c : Dev nD) (i : grid0.Coords) (arg2 : Memref sig .tc .vmem S2048x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x640 .bf16) (harg6 : arg6.IsWhole) (arg7 : Memref sig .tc .vmem S1024x1024 .bf16) (harg7 : arg7.IsWhole) (arg8 : Memref sig .tc .vmem S2048x640 .f32) (harg8 : arg8.IsWhole) (arg9 : Memref sig .tc .vmem S2048x1024 .bf16) (harg9 : arg9.IsWhole) (arg10 : Memref sig .tc .vmem S2048x1024 .bf16) (harg10 : arg10.IsWhole) (hc0 : ¬starts i)
    (x0 : Vec F S2048x1024 .f32) (x1 : Vec F S1x1x1024 .f32) (x2 : Vec F S1x1x1024 .f32) (x3 : Vec F S1x1024 .f32) (x4 : Vec F S1024x640 .bf16) (x5 : Vec F S1024x1024 .bf16) (x6 : Vec F S2048x640 .f32) (x8 : Vec F S2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay4 x8 x5) ∗ owns (c : Thread nD τ) arg10 fullShare x8) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr
      swap; · iexact H7
      ipureintro
      sl_unfold_words
      rw [View.read_writes_full]
      simp only [View.readAt_eq_ld, harg2.read_unread, harg3.read_unread, harg4.read_unread, harg5.read_unread, harg6.read_unread, harg7.read_unread, harg10.read_unread]
      simp only [View.ld_unit_zero (S := S2048x1024) hz2, View.ld_unit_zero (S := S1024x640) hz2, View.ld_unit_zero (S := S1x1024) hz2,
        View.ld_unit_zero (S := S1024x1024) hz2, View.ld_unit_zero (S := S1x1x1024) hz3]
    iexists _; isplitr; · ipureintro; exact harg10.read_unread _
    iexact H8

/-! ## What the buffers hold after each point -/

/-- The first point of the point's row block. -/
def first (t : Fin cfg0.N) : Fin cfg0.N := ⟨t.val - t.val % 7, Nat.lt_of_le_of_lt (Nat.sub_le _ _) t.isLt⟩

theorem first_eq (t : Fin cfg0.N) (h : t.val % 7 = 0) : first t = t := Fin.ext (by unfold first; dsimp only; omega)

theorem first_pred (t : Fin cfg0.N) (h : ¬t.val % 7 = 0) :
    first ⟨t.val - 1, Nat.lt_of_le_of_lt (Nat.sub_le _ _) t.isLt⟩ = first t := Fin.ext (by unfold first; dsimp only; omega)

/-- The row block's normed, scaled and shifted rows: what the scratch holds throughout the row block. -/
def normed (c : Dev nD) (t : Fin cfg0.N) : Vec F S2048x1024 .bf16 :=
  k0_pay2 (iblk m c 0 (first t)) (iblk m c 3 (first t)) (iblk m c 2 (first t)) (iblk m c 1 (first t))

/-- The narrow result's block of the row block. -/
def narrow (c : Dev nD) (t : Fin cfg0.N) : Vec F S2048x640 .f32 :=
  k0_pay3 (iblk m c 0 (first t)) (iblk m c 3 (first t)) (iblk m c 2 (first t)) (iblk m c 1 (first t)) (iblk m c 4 (first t))

/-- The wide result's block of the point. -/
def wide (c : Dev nD) (t : Fin cfg0.N) : Vec F S2048x1024 .bf16 := k0_pay4 (normed m c t) (iblk m c 5 t)

/-! ## The buffers the body is called with -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x640 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x640 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x1024 .bf16 := win0_7.stage (cfg0.slots t 7)
abbrev hs7 (t : Fin cfg0.N) : (ms7 t).IsWhole := hstage0_7 ((cfg0.slots t 7).cast nbuf0_7)
abbrev scratch : Memref sig .tc .vmem S2048x1024 .bf16 := Memref.whole cc0_scratch0

/-- What the launch hands the region: the scratch at some contents, the generator register at some state. -/
theorem handed_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The invariant before position `n`: at first what the launch hands over, later the scratch at the rows of the row block the
    point before is in. -/
def inv (c : Dev nD) : (n : ℕ) → n ≤ cfg0.N → sProp 𝕄
  | 0, _ => Pipeline.ΦA spec0 c
  | n + 1, hn => iprop(iprop(owns (c : Thread nD τ) scratch fullShare (normed m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scratch fullShare (normed m c t)) ∗ (∃ r, prngReg c r)) := rfl

theorem inv_pos (c : Dev nD) (n : ℕ) (h : n ≤ cfg0.N) (hz : n ≠ 0) :
    inv m c n h = iprop(iprop(owns (c : Thread nD τ) scratch fullShare (normed m c ⟨n - 1, by omega⟩)) ∗ (∃ r, prngReg c r)) := by
  cases n with
  | zero => exact absurd rfl hz
  | succ n => rfl

/-- The invariant at a row block's first point gives the scratch at some contents. -/
theorem inv_some (c : Dev nD) (n : ℕ) (h : n ≤ cfg0.N) :
    inv m c n h ⊢ iprop(iprop((∃ d, owns (c : Thread nD τ) scratch fullShare d)) ∗ (∃ r, prngReg c r)) := by
  cases n with
  | zero => rw [inv_zero m c 0 h rfl, handed_eq]
  | succ n =>
    rw [inv_pos m c (n + 1) h (Nat.succ_ne_zero n)]
    iintro ⟨HS, Hg⟩
    isplitl [HS]
    · iexists _; iexact HS
    iexact Hg

/-! ## The proof data -/

/-- After each point: every input's buffer at its block, the results' at `narrow` and `wide`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => narrow m c t
    | ⟨7, _⟩ => wide m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = narrow m c t := by dsimp only [dats]
theorem after7 (c : Dev nD) (t : Fin cfg0.N) : (dats m 0 c).after 7 t = wide m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The narrow result's buffer through the points that leave it alone -/

theorem live_first : ∀ t : Fin cfg0.N, t.val % 7 = 0 → cfg0.idle 6 (grid0.coords t) = false := by decide +kernel
theorem idle_later : ∀ t : Fin cfg0.N, ¬t.val % 7 = 0 → cfg0.idle 6 (grid0.coords t) = true := by decide +kernel
theorem flush_last : ∀ t : Fin cfg0.N, (cfg0.win 6).flush t = decide (t.val % 7 = 6) := by decide +kernel

/-- Whether nothing has been stored into the buffer since the last write-back: only before a row block's first point. -/
def untouched (n : ℕ) : Bool := decide (n % 7 = 0)

theorem untouched_eq (t : Fin cfg0.N) : cfg0.fresh 6 t.val = untouched t.val := by
  refine Pipeline.Cfg.fresh_tab cfg0 6 untouched rfl (fun s => ?_) t.val (Nat.le_of_lt t.isLt)
  rw [flush_last]
  by_cases h : s.val % 7 = 0
  · rw [live_first s h, Bool.false_and, Bool.or_false]
    exact decide_eq_decide.2 (by omega)
  · rw [idle_later s h, Bool.true_and]
    unfold untouched
    rw [decide_eq_false h, Bool.or_false]
    exact decide_eq_decide.2 (by omega)

theorem narrow_carried (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after6, after6]
  by_cases h : t.val % 7 = 0
  · rw [live_first t h] at hi; exact absurd hi Bool.false_ne_true
  · unfold narrow; rw [first_pred t h]

/-- At a later point the buffer holds the row block's block already. -/
theorem before6 (c : Dev nD) (t : Fin cfg0.N) (h : ¬t.val % 7 = 0) (d) : (dats m 0 c).before 6 t d = narrow m c t := by
  rw [Dat.before_out_traj _ 6 rfl (fun _ _ => rfl) (narrow_carried m c) t.val t rfl d,
    if_neg (by rw [untouched_eq]; unfold untouched; rw [decide_eq_false h]; exact Bool.false_ne_true)]
  have e := narrow_carried m c t (fun h0 => h (by rw [h0])) (idle_later t h) (by rw [untouched_eq]; unfold untouched; exact decide_eq_false h)
  exact e.symm.trans (after6 m c t)

/-- What the body hands back of the narrow result's buffer at a later point is the row block's block, written back there or not. -/
theorem leaves6 (c : Dev nD) (t : Fin cfg0.N) (h : ¬t.val % 7 = 0) :
    owns (c : Thread nD τ) (ms6 t) fullShare (narrow m c t) ⊢ ((dats m 0 c).leavesExact 6 t : sProp 𝕄) := by
  unfold Dat.leavesExact
  rw [idle_later t h]
  cases hf : (cfg0.win 6).flush t
  · dsimp only
    simp only [before6 m c t h]
    iintro H
    iexists (fun _ => Classical.arbitrary _); iexact H
  · dsimp only
    rw [after6]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after5]
theorem leaves7 (c : Dev nD) (t : Fin cfg0.N) :
    (dats m 0 c).leavesExact 7 t = owns (c : Thread nD τ) (ms7 t) fullShare (wide m c t) := by
  unfold Dat.leavesExact; rw [show cfg0.idle 7 (grid0.coords t) = false from rfl, after7]
theorem leaves6_first (c : Dev nD) (t : Fin cfg0.N) (h : t.val % 7 = 0) :
    (dats m 0 c).leavesExact 6 t = owns (c : Thread nD τ) (ms6 t) fullShare (narrow m c t) := by
  unfold Dat.leavesExact; rw [live_first t h, after6]

-- two runs of the whole body
set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = inv m c (t.val + 1) t.isLt from rfl, inv_succ, inv_castSucc m c t,
    leaves0, leaves1, leaves2, leaves3, leaves4, leaves5, leaves7]
  by_cases h : t.val % 7 = 0
  · rw [leaves6_first m c t h]
    refine (sep_mono_l (inv_some m c _ _)).trans ?_
    show iprop(iprop(iprop((∃ d, owns (c : Thread nD τ) scratch fullShare d)) ∗ (∃ r, prngReg c r)) ∗ _) ⊢ _
    unfold wide narrow normed
    rw [first_eq t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((starts_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos m c t.val _ (fun h0 => h (by rw [h0]))]
    rw [show normed m c ⟨t.val - 1, Nat.lt_of_le_of_lt (Nat.sub_le _ _) t.isLt⟩ = normed m c t from by unfold normed; rw [first_pred t h]]
    simp only [before6 m c t h]
    unfold wide
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun hh => h ((starts_iff t).mp hh)) (iblk m c 0 t) (iblk m c 1 t) (iblk m c 2 t) (iblk m c 3 t) (iblk m c 4 t) (iblk m c 5 t) (narrow m c t) (normed m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t h); iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]

theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, handed_eq]
  exact inv_some m c _ _

/-! ## The run and the frame -/

-- the run rule's implicit arguments are found by unifying its conclusion with this one, which takes unfolding plain
-- definitions in a metavariable's type
set_option backward.isDefEq.respectTransparency.types false in
/-- Every execution of the call ends with the arrays at what the proof data gives and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The frame: the call ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.InProjIdeal.Body
end
-- ==== Proof.Block.lean ====
/-
  What one grid point of the attention call leaves in its output block, as a value of its five input blocks: for each of
  the two heads of the block the running maximum and the running weighted sum over the five chunks of keys (the context's
  256, then four times 2048 of the latent's), written as a repeated step.
-/
module

public import proofs.«01_k».proof.Proof.Gen.KernelIdeal.Frame
public import Idealize.ShloMosaic.Lib.Tactic
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl

/-! ## The step over one chunk of keys -/

/-- The scores of the 512 queries against the context's 256 keys. -/
def scoreC (q : FVec F S512x128 .bf16) (k : Vec F S1x1x256x128 .bf16) : FVec F S512x256 .f32 :=
  matmul dot_S512x128_S256x128_S512x256_1_1_0_0_n_n none q (shapeCast S256x128 k shapeCasts_S1x1x256x128_S256x128)
    (constant S512x256 .f32 0x00000000#32)

/-- The scores of the 512 queries against 2048 of the latent's keys. -/
def scoreL (q : FVec F S512x128 .bf16) (k : Vec F S1x1x2048x128 .bf16) : FVec F S512x2048 .f32 :=
  matmul dot_S512x128_S2048x128_S512x2048_1_1_0_0_n_n none q (shapeCast S2048x128 k shapeCasts_S1x1x2048x128_S2048x128)
    (constant S512x2048 .f32 0x00000000#32)

/-- Each query's largest score of the context chunk. -/
def topC (s : FVec F S512x256 .f32) : FVec F S512x1 .f32 :=
  shapeCast S512x1 (multiReduction .maximumf [1] S512 s 0xFF800000#32 reduces_S512x256_S512 (.inl rfl) rfl) shapeCasts_S512_S512x1

/-- Each query's largest score of a latent chunk. -/
def topL (s : FVec F S512x2048 .f32) : FVec F S512x1 .f32 :=
  shapeCast S512x1 (multiReduction .maximumf [1] S512 s 0xFF800000#32 reduces_S512x2048_S512 (.inl rfl) rfl) shapeCasts_S512_S512x1

/-- The weighted sum after the context chunk: the old one rescaled from the maximum `m` to `m'`, plus the chunk's. -/
def accC (m m' : FVec F S512x1 .f32) (acc : FVec F S512x128 .f32) (s : FVec F S512x256 .f32) (v : Vec F S1x1x256x128 .bf16) :
    FVec F S512x128 .f32 :=
  addf (mulf (broadcastTo S512x128 (exp2 (subf m m')) broadcasts_S512x1_S512x128) acc)
    (matmul dot_S512x256_S256x128_S512x128_1_0_0_1_n_n none
      (truncf .bf16 (exp2 (subf (shapeCast S512x256 (shapeCast S1x1x512x256 s shapeCasts_S512x256_S1x1x512x256) shapeCasts_S1x1x512x256_S512x256)
        (broadcastTo S512x256 m' broadcasts_S512x1_S512x256))) bitsLt_bf16_f32)
      (shapeCast S256x128 v shapeCasts_S1x1x256x128_S256x128) (constant S512x128 .f32 0x00000000#32))

/-- The weighted sum after a latent chunk. -/
def accL (m m' : FVec F S512x1 .f32) (acc : FVec F S512x128 .f32) (s : FVec F S512x2048 .f32) (v : Vec F S1x1x2048x128 .bf16) :
    FVec F S512x128 .f32 :=
  addf (mulf (broadcastTo S512x128 (exp2 (subf m m')) broadcasts_S512x1_S512x128) acc)
    (matmul dot_S512x2048_S2048x128_S512x128_1_0_0_1_n_n none
      (truncf .bf16 (exp2 (subf (shapeCast S512x2048 (shapeCast S1x1x512x2048 s shapeCasts_S512x2048_S1x1x512x2048) shapeCasts_S1x1x512x2048_S512x2048)
        (broadcastTo S512x2048 m' broadcasts_S512x1_S512x2048))) bitsLt_bf16_f32)
      (shapeCast S2048x128 v shapeCasts_S1x1x2048x128_S2048x128) (constant S512x128 .f32 0x00000000#32))

/-- The running maximum before any key. -/
def max0 : FVec F S512x1 .f32 := broadcast S512x1 (Scalar.ofBits .f32 0xFF800000#32)

/-- The running weighted sum before any key. -/
def acc0 : FVec F S512x128 .f32 := broadcast S512x128 (Scalar.ofBits .f32 0x00000000#32)

/-- The running pair after the context chunk. -/
def firstStep (q : FVec F S512x128 .bf16) (k v : Vec F S1x1x256x128 .bf16) : FVec F S512x1 .f32 × FVec F S512x128 .f32 :=
  (maximumf max0 (topC (scoreC q k)), accC max0 (maximumf max0 (topC (scoreC q k))) acc0 (scoreC q k) v)

/-- The running pair after one more latent chunk. -/
def nextStep (q : FVec F S512x128 .bf16) (k v : Vec F S1x1x2048x128 .bf16) (p : FVec F S512x1 .f32 × FVec F S512x128 .f32) :
    FVec F S512x1 .f32 × FVec F S512x128 .f32 :=
  (maximumf p.1 (topL (scoreL q k)), accL p.1 (maximumf p.1 (topL (scoreL q k))) p.2 (scoreL q k) v)

/-- A head's queries in the query block. -/
def qOf (x0 : Vec F S1x2x512x128 .bf16) (h : Fin 2) : FVec F S512x128 .bf16 :=
  match h with
  | 0 => shapeCast S512x128 (View.ld x0 (Rect.unit ![0, 0, 0, 0] S1x1x512x128.size inb_S1x2x512x128_S1x1x512x128_0_0_0_0)) shapeCasts_S1x1x512x128_S512x128
  | 1 => shapeCast S512x128 (View.ld x0 (Rect.unit ![0, 1, 0, 0] S1x1x512x128.size inb_S1x2x512x128_S1x1x512x128_0_1_0_0)) shapeCasts_S1x1x512x128_S512x128

/-- A head's context rows (keys or values). -/
def ctxOf (x : Vec F S1x2x256x128 .bf16) (h : Fin 2) : Vec F S1x1x256x128 .bf16 :=
  match h with
  | 0 => View.ld x (Rect.unit ![0, 0, 0, 0] S1x1x256x128.size inb_S1x2x256x128_S1x1x256x128_0_0_0_0)
  | 1 => View.ld x (Rect.unit ![0, 1, 0, 0] S1x1x256x128.size inb_S1x2x256x128_S1x1x256x128_0_1_0_0)

/-- A head's latent rows of one chunk (keys or values). -/
def latOf (x : Vec F S1x2x8192x128 .bf16) (h : Fin 2) (c : Fin 4) : Vec F S1x1x2048x128 .bf16 :=
  match h, c with
  | 0, 0 => View.ld x (Rect.unit ![0, 0, 0, 0] S1x1x2048x128.size inb_S1x2x8192x128_S1x1x2048x128_0_0_0_0)
  | 0, 1 => View.ld x (Rect.unit ![0, 0, 2048, 0] S1x1x2048x128.size inb_S1x2x8192x128_S1x1x2048x128_0_0_2048_0)
  | 0, 2 => View.ld x (Rect.unit ![0, 0, 4096, 0] S1x1x2048x128.size inb_S1x2x8192x128_S1x1x2048x128_0_0_4096_0)
  | 0, 3 => View.ld x (Rect.unit ![0, 0, 6144, 0] S1x1x2048x128.size inb_S1x2x8192x128_S1x1x2048x128_0_0_6144_0)
  | 1, 0 => View.ld x (Rect.unit ![0, 1, 0, 0] S1x1x2048x128.size inb_S1x2x8192x128_S1x1x2048x128_0_1_0_0)
  | 1, 1 => View.ld x (Rect.unit ![0, 1, 2048, 0] S1x1x2048x128.size inb_S1x2x8192x128_S1x1x2048x128_0_1_2048_0)
  | 1, 2 => View.ld x (Rect.unit ![0, 1, 4096, 0] S1x1x2048x128.size inb_S1x2x8192x128_S1x1x2048x128_0_1_4096_0)
  | 1, 3 => View.ld x (Rect.unit ![0, 1, 6144, 0] S1x1x2048x128.size inb_S1x2x8192x128_S1x1x2048x128_0_1_6144_0)

/-- A head's weighted sum after all five chunks. -/
def headAcc (x0 : Vec F S1x2x512x128 .bf16) (x1 x2 : Vec F S1x2x256x128 .bf16) (x3 x4 : Vec F S1x2x8192x128 .bf16) (h : Fin 2) :
    FVec F S512x128 .f32 :=
  (nextStep (qOf x0 h) (latOf x3 h 3) (latOf x4 h 3) (nextStep (qOf x0 h) (latOf x3 h 2) (latOf x4 h 2)
    (nextStep (qOf x0 h) (latOf x3 h 1) (latOf x4 h 1) (nextStep (qOf x0 h) (latOf x3 h 0) (latOf x4 h 0)
      (firstStep (qOf x0 h) (ctxOf x1 h) (ctxOf x2 h)))))).2

/-- The two heads' sums divided by their own weights' sums (lane 64 of the even head's, lane 0 of the odd head's), the
    even head in the lower 64 lanes and the odd head in the upper ones. -/
def merge (A0 A1 : FVec F S512x128 .f32) : FVec F S512x128 .f32 :=
  select (cmpi .slt (iota .tc S512x128 32 [1] iota_S512x128_d1_w32) (broadcast S512x128 64#32))
    (mulf A0 (broadcastTo S512x128 (divf (broadcast S512x1 (Scalar.ofBits .f32 0x3F800000#32))
      (extractStridedSlice S512x1 ![0, 64] A0 slices_S512x128_o0_64_S512x1)) broadcasts_S512x1_S512x128))
    (mulf A1 (broadcastTo S512x128 (divf (broadcast S512x1 (Scalar.ofBits .f32 0x3F800000#32))
      (extractStridedSlice S512x1 ![0, 0] A1 slices_S512x128_o0_0_S512x1)) broadcasts_S512x1_S512x128))

/-- The output block. -/
def outBlock (x0 : Vec F S1x2x512x128 .bf16) (x1 x2 : Vec F S1x2x256x128 .bf16) (x3 x4 : Vec F S1x2x8192x128 .bf16) : Vec F S1x512x128 .bf16 :=
  shapeCast S1x512x128 (truncf .bf16 (merge (headAcc x0 x1 x2 x3 x4 0) (headAcc x0 x1 x2 x3 x4 1)) bitsLt_bf16_f32) shapeCasts_S512x128_S1x512x128

set_option maxHeartbeats 2000000 in
/-- The body's run leaves `outBlock` of the input blocks: every load of the score buffer reads the scores that the same
    head stored for the same chunk. -/
theorem block_eq (c : Dev nD) (i : grid0.Coords) (a3 : Memref sig .tc .vmem S1x2x512x128 .bf16) (h3 : a3.IsWhole)
    (a4 : Memref sig .tc .vmem S1x2x256x128 .bf16) (h4 : a4.IsWhole) (a5 : Memref sig .tc .vmem S1x2x256x128 .bf16) (h5 : a5.IsWhole)
    (a6 : Memref sig .tc .vmem S1x2x8192x128 .bf16) (h6 : a6.IsWhole) (a7 : Memref sig .tc .vmem S1x2x8192x128 .bf16) (h7 : a7.IsWhole)
    (a8 : Memref sig .tc .vmem S1x512x128 .bf16) (h8 : a8.IsWhole) (a9 : Memref sig .tc .vmem S2x2x512x2048 .f32) (h9 : a9.IsWhole)
    (x0 : Vec F S1x2x512x128 .bf16) (x1 x2 : Vec F S1x2x256x128 .bf16) (x3 x4 : Vec F S1x2x8192x128 .bf16) :
    out0_A_5 c i a3 h3 a4 h4 a5 h5 a6 h6 a7 h7 a8 h8 a9 h9 x0 x1 x2 x3 x4 = outBlock x0 x1 x2 x3 x4 := by
  unfold out0_A_5
  rw [View.read_writes_eq_canon _ _ _ (cover0_A_5 c i a3 h3 a4 h4 a5 h5 a6 h6 a7 h7 a8 h8 a9 h9 x0 x1 x2 x3 x4)]
  unfold kernelRun0_A
  dsimp only
  sl_unfold_words
  rw [View.canon_unit_zero hz3]
  simp (disch := decide) only [↓View.readCov_skip, ↓View.readCov_cons_toLoadRect, View.readAt_eq_ld, h3.read_unread, h4.read_unread, h5.read_unread,
    h6.read_unread, h7.read_unread]
  rfl

end Cert.Attn
end
-- ==== Proof.Softmax.lean ====
/-
  The running softmax over chunks of keys, on one row of finite scores: whatever maxima the chunks are shifted by, the
  weighted sum is the unshifted one up to a common positive factor, which the final quotient cancels.
-/
module

public import Idealize.ShloMosaic.Lib.Pointwise

@[expose] public section

set_option maxRecDepth 16384

noncomputable section

namespace Cert.Attn

open Idealize.ShloMosaic

/-- The word of minus infinity. -/
theorem ofBits_neg_inf : Ideal.ofBits FTy.f32 0xFF800000#32 = (⊥ : EReal) := by simp [Ideal.ofBits, Ideal.ieee]

/-- The word of 96. -/
theorem ofBits_96 : Ideal.ofBits FTy.f32 0x42C00000#32 = ((96 : ℝ) : EReal) := by
  simp [Ideal.ofBits, Ideal.ieee]
  rw [← EReal.coe_mul]
  norm_num

/-- A sum of reals in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one, is a real. -/
theorem fold_max_real {ι : Type} (s : Finset ι) (hs : s.Nonempty) (f : ι → ℝ) :
    ∃ T : ℝ, s.fold max ⊥ (fun i => (f i : EReal)) = (T : EReal) := by
  classical
  induction s using Finset.induction_on with
  | empty => exact absurd hs (by simp)
  | insert a s ha ih =>
    rw [Finset.fold_insert ha]
    rcases s.eq_empty_or_nonempty with rfl | h
    · exact ⟨f a, by simp⟩
    · obtain ⟨T, hT⟩ := ih h
      exact ⟨max (f a) T, by rw [hT]; exact (EReal.coe_strictMono.monotone.map_max).symm⟩

/-- What a row's running pair stands for: the maximum `m` is some real `M`, and the weighted sums are `2 ^ (-M)` times the
    unshifted sums `B`. -/
def RowInv (m : EReal) (a : Fin 128 → EReal) (B : Fin 128 → ℝ) : Prop :=
  ∃ M : ℝ, m = (M : EReal) ∧ ∀ j, a j = (((2 : ℝ) ^ (-M) * B j : ℝ) : EReal)

theorem exp2_sub_coe (x y : ℝ) : Ideal.exp2 ((x : EReal) - (y : EReal)) = (((2 : ℝ) ^ (-y) * (2 : ℝ) ^ x : ℝ) : EReal) := by
  rw [← EReal.coe_sub, Ideal.exp2_coe, ← Real.rpow_add two_pos]
  congr 1
  show (2 : ℝ) ^ (x - y) = _
  congr 1; ring

/-- The weights' sum of a chunk, with the shift taken out. -/
theorem chunk_sum {n : ℕ} (σ : Fin n → ℝ) (ν : Fin n → ℝ) (M : ℝ) :
    ∑ κ, Ideal.exp2 ((σ κ : EReal) - (M : EReal)) * (ν κ : EReal)
      = (((2 : ℝ) ^ (-M) * ∑ κ, (2 : ℝ) ^ (σ κ) * ν κ : ℝ) : EReal) := by
  rw [Finset.mul_sum, coe_sum]
  refine Finset.sum_congr rfl fun κ _ => ?_
  rw [exp2_sub_coe, ← EReal.coe_mul, mul_assoc]

/-- The first chunk, from the maximum `⊥` and the sum `0`. -/
theorem row_first {n : ℕ} [NeZero n] (σ : Fin n → ℝ) (ν : Fin n → Fin 128 → ℝ) :
    RowInv (max ⊥ ((Finset.univ : Finset (Fin n)).fold max ⊥ fun κ => (σ κ : EReal)))
      (fun j => Ideal.exp2 (⊥ - max ⊥ ((Finset.univ : Finset (Fin n)).fold max ⊥ fun κ => (σ κ : EReal))) * 0
        + ∑ κ, Ideal.exp2 ((σ κ : EReal) - max ⊥ ((Finset.univ : Finset (Fin n)).fold max ⊥ fun κ => (σ κ : EReal))) * (ν κ j : EReal))
      (fun j => ∑ κ, (2 : ℝ) ^ (σ κ) * ν κ j) := by
  obtain ⟨T, hT⟩ := fold_max_real (Finset.univ : Finset (Fin n)) ⟨0, Finset.mem_univ _⟩ σ
  rw [hT, bot_sup_eq T.toEReal]
  exact ⟨T, rfl, fun j => by beta_reduce; rw [mul_zero, zero_add, chunk_sum]⟩

/-- One more chunk. -/
theorem row_next {n : ℕ} [NeZero n] (m : EReal) (a : Fin 128 → EReal) (B : Fin 128 → ℝ) (h : RowInv m a B)
    (σ : Fin n → ℝ) (ν : Fin n → Fin 128 → ℝ) :
    RowInv (max m ((Finset.univ : Finset (Fin n)).fold max ⊥ fun κ => (σ κ : EReal)))
      (fun j => Ideal.exp2 (m - max m ((Finset.univ : Finset (Fin n)).fold max ⊥ fun κ => (σ κ : EReal))) * a j
        + ∑ κ, Ideal.exp2 ((σ κ : EReal) - max m ((Finset.univ : Finset (Fin n)).fold max ⊥ fun κ => (σ κ : EReal))) * (ν κ j : EReal))
      (fun j => B j + ∑ κ, (2 : ℝ) ^ (σ κ) * ν κ j) := by
  obtain ⟨T, hT⟩ := fold_max_real (Finset.univ : Finset (Fin n)) ⟨0, Finset.mem_univ _⟩ σ
  obtain ⟨M, rfl, ha⟩ := h
  have hM : max (M : EReal) (T : EReal) = ((max M T : ℝ) : EReal) := (EReal.coe_strictMono.monotone.map_max).symm
  rw [hT, hM]
  refine ⟨max M T, rfl, fun j => ?_⟩
  beta_reduce
  rw [ha, chunk_sum, exp2_sub_coe, ← EReal.coe_mul, ← EReal.coe_add]
  congr 1
  rw [mul_add, mul_assoc, ← mul_assoc ((2 : ℝ) ^ M), ← Real.rpow_add two_pos, add_neg_cancel, Real.rpow_zero, one_mul]

/-- The quotient by another lane of the same row. -/
theorem row_quot (m : EReal) (a : Fin 128 → EReal) (B : Fin 128 → ℝ) (h : RowInv m a B) (j l : Fin 128) (hl : 0 < B l) :
    a j * Ideal.div 1 (a l) = ((B j / B l : ℝ) : EReal) := by
  obtain ⟨M, rfl, ha⟩ := h
  have hp : (0 : ℝ) < 2 ^ (-M) := Real.rpow_pos_of_pos two_pos _
  have h0 : (2 : ℝ) ^ (-M) * B l ≠ 0 := (mul_pos hp hl).ne'
  rw [ha, ha, Ideal.div_coe h0, one_mul, ← EReal.coe_mul]
  congr 1
  field_simp

/-- The textbook softmax of a row of reals, weighted: the shift by any real and the quotient under the sum make no
    difference. -/
theorem softmax_row {n : ℕ} [NeZero n] (τ : Fin n → ℝ) (ν : Fin n → ℝ) :
    ∑ κ, Ideal.div (Ideal.exp ((τ κ : EReal) - max ⊥ ((Finset.univ : Finset (Fin n)).fold max ⊥ fun κ => (τ κ : EReal))))
        (0 + ∑ κ', Ideal.exp ((τ κ' : EReal) - max ⊥ ((Finset.univ : Finset (Fin n)).fold max ⊥ fun κ => (τ κ : EReal)))) * (ν κ : EReal)
      = (((∑ κ, Real.exp (τ κ) * ν κ) / (∑ κ, Real.exp (τ κ)) : ℝ) : EReal) := by
  obtain ⟨T, hT⟩ := fold_max_real (Finset.univ : Finset (Fin n)) ⟨0, Finset.mem_univ _⟩ τ
  rw [hT, bot_sup_eq T.toEReal]
  have he : ∀ κ, Ideal.exp ((τ κ : EReal) - (T : EReal)) = ((Real.exp (-T) * Real.exp (τ κ) : ℝ) : EReal) := fun κ => by
    rw [← EReal.coe_sub, Ideal.exp_coe, ← Real.exp_add]
    congr 2; ring
  simp only [he]
  rw [← coe_sum, zero_add, ← Finset.mul_sum]
  have hs : (0 : ℝ) < ∑ κ, Real.exp (τ κ) := Finset.sum_pos (fun κ _ => Real.exp_pos _) ⟨0, Finset.mem_univ _⟩
  have hT0 : (0 : ℝ) < Real.exp (-T) := Real.exp_pos _
  simp only [Ideal.div_coe (mul_pos hT0 hs).ne', ← EReal.coe_mul]
  rw [← coe_sum]
  congr 1
  rw [Finset.sum_div]
  refine Finset.sum_congr rfl fun κ _ => ?_
  field_simp

end Cert.Attn
end
-- ==== Proof.Rows.lean ====
/-
  The step over one chunk of keys at the ideal values, read at a query (a row) and a lane.
-/
module

public import proofs.«01_k».proof.Proof.Block
public import Idealize.ShloMosaic.Lib.Pointwise
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem

theorem scoreC_apply (q : FVec Ideal S512x128 .bf16) (k : Vec Ideal S1x1x256x128 .bf16) (i : Fin 512) (κ : Fin 256) :
    scoreC q k (ix2 i κ) = ∑ l : Fin 128, q (ix2 i l) * k (ix4 (0 : Fin 1) (0 : Fin 1) κ l) := by
  unfold scoreC
  pointwise

theorem scoreL_apply (q : FVec Ideal S512x128 .bf16) (k : Vec Ideal S1x1x2048x128 .bf16) (i : Fin 512) (κ : Fin 2048) :
    scoreL q k (ix2 i κ) = ∑ l : Fin 128, q (ix2 i l) * k (ix4 (0 : Fin 1) (0 : Fin 1) κ l) := by
  unfold scoreL
  pointwise

theorem topC_apply (s : FVec Ideal S512x256 .f32) (i : Fin 512) :
    topC s (ix2 i (0 : Fin 1)) = (Finset.univ : Finset (Fin 256)).fold max ⊥ fun κ => s (ix2 i κ) := by
  unfold topC
  pointwise
  rw [ofBits_neg_inf]

theorem topL_apply (s : FVec Ideal S512x2048 .f32) (i : Fin 512) :
    topL s (ix2 i (0 : Fin 1)) = (Finset.univ : Finset (Fin 2048)).fold max ⊥ fun κ => s (ix2 i κ) := by
  unfold topL
  pointwise
  rw [ofBits_neg_inf]

theorem accC_apply (m m' : FVec Ideal S512x1 .f32) (acc : FVec Ideal S512x128 .f32) (s : FVec Ideal S512x256 .f32)
    (v : Vec Ideal S1x1x256x128 .bf16) (i : Fin 512) (j : Fin 128) :
    accC m m' acc s v (ix2 i j)
      = Ideal.exp2 (m (ix2 i (0 : Fin 1)) - m' (ix2 i (0 : Fin 1))) * acc (ix2 i j)
        + ∑ κ : Fin 256, Ideal.exp2 (s (ix2 i κ) - m' (ix2 i (0 : Fin 1))) * v (ix4 (0 : Fin 1) (0 : Fin 1) κ j) := by
  unfold accC
  pointwise
  rfl

theorem accL_apply (m m' : FVec Ideal S512x1 .f32) (acc : FVec Ideal S512x128 .f32) (s : FVec Ideal S512x2048 .f32)
    (v : Vec Ideal S1x1x2048x128 .bf16) (i : Fin 512) (j : Fin 128) :
    accL m m' acc s v (ix2 i j)
      = Ideal.exp2 (m (ix2 i (0 : Fin 1)) - m' (ix2 i (0 : Fin 1))) * acc (ix2 i j)
        + ∑ κ : Fin 2048, Ideal.exp2 (s (ix2 i κ) - m' (ix2 i (0 : Fin 1))) * v (ix4 (0 : Fin 1) (0 : Fin 1) κ j) := by
  unfold accL
  pointwise
  rfl

/-- The lane test of `merge`. -/
theorem lane_lt : ∀ j : Fin 128, IntOp.cmpi .slt (BitVec.ofNat 32 j.val) 64#32 = if j.val < 64 then 1#1 else 0#1 := by decide

theorem merge_lo (A0 A1 : FVec Ideal S512x128 .f32) (i : Fin 512) (j : Fin 128) (hj : j.val < 64) :
    merge A0 A1 (ix2 i j) = A0 (ix2 i j) * Ideal.div 1 (A0 (ix2 i (64 : Fin 128))) := by
  unfold merge
  pointwise
  rw [lane_lt, if_pos hj]
  rfl

theorem merge_hi (A0 A1 : FVec Ideal S512x128 .f32) (i : Fin 512) (j : Fin 128) (hj : ¬ j.val < 64) :
    merge A0 A1 (ix2 i j) = A1 (ix2 i j) * Ideal.div 1 (A1 (ix2 i (0 : Fin 128))) := by
  unfold merge
  pointwise
  rw [lane_lt, if_neg hj]
  rfl

theorem qOf_apply (x0 : Vec Ideal S1x2x512x128 .bf16) (h : Fin 2) (i : Fin 512) (l : Fin 128) :
    qOf x0 h (ix2 i l) = x0 (ix4 (0 : Fin 1) h i l) := by
  fin_cases h <;> (simp only [qOf]; pointwise; try rfl)

theorem ctxOf_apply (x : Vec Ideal S1x2x256x128 .bf16) (h : Fin 2) (κ : Fin 256) (l : Fin 128) :
    ctxOf x h (ix4 (0 : Fin 1) (0 : Fin 1) κ l) = x (ix4 (0 : Fin 1) h κ l) := by
  fin_cases h <;> (simp only [ctxOf]; pointwise; try rfl)

theorem latOf_apply (x : Vec Ideal S1x2x8192x128 .bf16) (h : Fin 2) (c : Fin 4) (κ : Fin 2048) (l : Fin 128) :
    latOf x h c (ix4 (0 : Fin 1) (0 : Fin 1) κ l)
      = x (ix4 (0 : Fin 1) h (⟨2048 * c.val + κ.val, by omega⟩ : Fin 8192) l) := by
  fin_cases h <;> fin_cases c <;> (simp only [latOf]; pointwise; try rfl)

end Cert.Attn
end
-- ==== Proof.Head.lean ====
/-
  A head's running pair on finite blocks: after each chunk its row stands for the unshifted weighted sums of the keys seen
  so far; and the output block's row, a quotient of two such sums.
-/
module

public import proofs.«01_k».proof.Proof.Rows
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem

/-- A finite score. -/
def sc {n : ℕ} (Q : Fin 128 → ℝ) (K : Fin n → Fin 128 → ℝ) (κ : Fin n) : ℝ := ∑ l, Q l * K κ l

theorem firstStep_inv (q : FVec Ideal S512x128 .bf16) (k v : Vec Ideal S1x1x256x128 .bf16) (i : Fin 512) (Q : Fin 128 → ℝ)
    (K W : Fin 256 → Fin 128 → ℝ) (hq : ∀ l, q (ix2 i l) = (Q l : EReal)) (hk : ∀ κ l, k (ix4 (0 : Fin 1) (0 : Fin 1) κ l) = (K κ l : EReal))
    (hv : ∀ κ l, v (ix4 (0 : Fin 1) (0 : Fin 1) κ l) = (W κ l : EReal)) :
    RowInv ((firstStep q k v).1 (ix2 i (0 : Fin 1))) (fun j => (firstStep q k v).2 (ix2 i j))
      (fun j => ∑ κ, (2 : ℝ) ^ (sc Q K κ) * W κ j) := by
  have hs : ∀ κ, scoreC q k (ix2 i κ) = (sc Q K κ : EReal) := fun κ => by
    rw [scoreC_apply]
    simp only [hq, hk, ← EReal.coe_mul]
    rw [← coe_sum]
    rfl
  have hm0 : (max0 : FVec Ideal S512x1 .f32) (ix2 i (0 : Fin 1)) = (⊥ : EReal) := ofBits_neg_inf
  have ha0 : ∀ j, (acc0 : FVec Ideal S512x128 .f32) (ix2 i j) = (0 : EReal) := fun j => Ideal.ofBits_zero_f32
  have ht : (maximumf max0 (topC (scoreC q k)) : FVec Ideal S512x1 .f32) (ix2 i (0 : Fin 1))
      = max ⊥ ((Finset.univ : Finset (Fin 256)).fold max ⊥ fun κ => (sc Q K κ : EReal)) := by
    have e : (maximumf max0 (topC (scoreC q k)) : FVec Ideal S512x1 .f32) (ix2 i (0 : Fin 1))
      = max ((max0 : FVec Ideal S512x1 .f32) (ix2 i (0 : Fin 1))) (topC (scoreC q k) (ix2 i (0 : Fin 1))) := rfl
    rw [e, hm0, topC_apply]
    simp only [hs]
  unfold firstStep
  dsimp only
  simp only [accC_apply, ht, hm0, ha0, hs, hv]
  exact row_first (fun κ => sc Q K κ) W

theorem nextStep_inv (q : FVec Ideal S512x128 .bf16) (k v : Vec Ideal S1x1x2048x128 .bf16) (p : FVec Ideal S512x1 .f32 × FVec Ideal S512x128 .f32)
    (i : Fin 512) (Q : Fin 128 → ℝ)
    (K W : Fin 2048 → Fin 128 → ℝ) (hq : ∀ l, q (ix2 i l) = (Q l : EReal)) (hk : ∀ κ l, k (ix4 (0 : Fin 1) (0 : Fin 1) κ l) = (K κ l : EReal))
    (hv : ∀ κ l, v (ix4 (0 : Fin 1) (0 : Fin 1) κ l) = (W κ l : EReal)) (B : Fin 128 → ℝ)
    (hp : RowInv (p.1 (ix2 i (0 : Fin 1))) (fun j => p.2 (ix2 i j)) B) :
    RowInv ((nextStep q k v p).1 (ix2 i (0 : Fin 1))) (fun j => (nextStep q k v p).2 (ix2 i j))
      (fun j => B j + ∑ κ, (2 : ℝ) ^ (sc Q K κ) * W κ j) := by
  have hs : ∀ κ, scoreL q k (ix2 i κ) = (sc Q K κ : EReal) := fun κ => by
    rw [scoreL_apply]
    simp only [hq, hk, ← EReal.coe_mul]
    rw [← coe_sum]
    rfl
  have ht : (maximumf p.1 (topL (scoreL q k)) : FVec Ideal S512x1 .f32) (ix2 i (0 : Fin 1))
      = max (p.1 (ix2 i (0 : Fin 1))) ((Finset.univ : Finset (Fin 2048)).fold max ⊥ fun κ => (sc Q K κ : EReal)) := by
    have e : (maximumf p.1 (topL (scoreL q k)) : FVec Ideal S512x1 .f32) (ix2 i (0 : Fin 1))
      = max (p.1 (ix2 i (0 : Fin 1))) (topL (scoreL q k) (ix2 i (0 : Fin 1))) := rfl
    rw [e, topL_apply]
    simp only [hs]
  unfold nextStep
  dsimp only
  simp only [accL_apply, ht, hs, hv]
  exact row_next _ _ B hp (fun κ => sc Q K κ) W

/-- A latent row's place in the whole: row `κ` of chunk `c`. -/
abbrev latRow (c : Fin 4) (κ : Fin 2048) : Fin 8192 := ⟨2048 * c.val + κ.val, by omega⟩

/-- The unshifted weighted sum over the context's and the latent's keys, in the kernel's order. -/
def rowSum (Q : Fin 128 → ℝ) (K1 W1 : Fin 256 → Fin 128 → ℝ) (K3 W4 : Fin 8192 → Fin 128 → ℝ) (j : Fin 128) : ℝ :=
  (∑ κ, (2 : ℝ) ^ (sc Q K1 κ) * W1 κ j) + ∑ κ, (2 : ℝ) ^ (sc Q K3 κ) * W4 κ j

theorem sum_chunks (f : Fin 8192 → ℝ) :
    ∑ κ, f κ = ∑ κ, f (latRow 0 κ) + ∑ κ, f (latRow 1 κ) + ∑ κ, f (latRow 2 κ) + ∑ κ, f (latRow 3 κ) := by
  have e : ∑ κ, f κ = ∑ c : Fin 4, ∑ κ : Fin 2048, f (latRow c κ) := by
    rw [← Finset.sum_product', Finset.univ_product_univ]
    refine (Fintype.sum_equiv (finProdFinEquiv (m := 4) (n := 2048)) _ _ fun x => ?_).symm
    exact congrArg f (Fin.ext (by simp only [finProdFinEquiv_apply_val]; omega))
  rw [e, Fin.sum_univ_four]

theorem headAcc_inv (x0 : Vec Ideal S1x2x512x128 .bf16) (x1 x2 : Vec Ideal S1x2x256x128 .bf16) (x3 x4 : Vec Ideal S1x2x8192x128 .bf16)
    (h : Fin 2) (i : Fin 512) (Q : Fin 128 → ℝ) (K1 W1 : Fin 256 → Fin 128 → ℝ) (K3 W4 : Fin 8192 → Fin 128 → ℝ)
    (h0 : ∀ l, x0 (ix4 (0 : Fin 1) h i l) = (Q l : EReal)) (h1 : ∀ κ l, x1 (ix4 (0 : Fin 1) h κ l) = (K1 κ l : EReal))
    (h2 : ∀ κ l, x2 (ix4 (0 : Fin 1) h κ l) = (W1 κ l : EReal)) (h3 : ∀ κ l, x3 (ix4 (0 : Fin 1) h κ l) = (K3 κ l : EReal))
    (h4 : ∀ κ l, x4 (ix4 (0 : Fin 1) h κ l) = (W4 κ l : EReal)) :
    ∃ M, RowInv M (fun j => headAcc x0 x1 x2 x3 x4 h (ix2 i j)) (rowSum Q K1 W1 K3 W4) := by
  have hq : ∀ l, qOf x0 h (ix2 i l) = (Q l : EReal) := fun l => (qOf_apply x0 h i l).trans (h0 l)
  have hk : ∀ c κ l, latOf x3 h c (ix4 (0 : Fin 1) (0 : Fin 1) κ l) = ((fun κ => K3 (latRow c κ)) κ l : EReal) := fun c κ l =>
    (latOf_apply x3 h c κ l).trans (h3 _ l)
  have hv : ∀ c κ l, latOf x4 h c (ix4 (0 : Fin 1) (0 : Fin 1) κ l) = ((fun κ => W4 (latRow c κ)) κ l : EReal) := fun c κ l =>
    (latOf_apply x4 h c κ l).trans (h4 _ l)
  have s0 := firstStep_inv (qOf x0 h) (ctxOf x1 h) (ctxOf x2 h) i Q K1 W1 hq (fun κ l => (ctxOf_apply x1 h κ l).trans (h1 κ l))
    (fun κ l => (ctxOf_apply x2 h κ l).trans (h2 κ l))
  have s1 := nextStep_inv (qOf x0 h) (latOf x3 h 0) (latOf x4 h 0) _ i Q _ _ hq (hk 0) (hv 0) _ s0
  have s2 := nextStep_inv (qOf x0 h) (latOf x3 h 1) (latOf x4 h 1) _ i Q _ _ hq (hk 1) (hv 1) _ s1
  have s3 := nextStep_inv (qOf x0 h) (latOf x3 h 2) (latOf x4 h 2) _ i Q _ _ hq (hk 2) (hv 2) _ s2
  have s4 := nextStep_inv (qOf x0 h) (latOf x3 h 3) (latOf x4 h 3) _ i Q _ _ hq (hk 3) (hv 3) _ s3
  have e : rowSum Q K1 W1 K3 W4 = fun j => (∑ κ, (2 : ℝ) ^ (sc Q K1 κ) * W1 κ j)
      + ∑ κ, (2 : ℝ) ^ (sc Q (fun κ => K3 (latRow 0 κ)) κ) * W4 (latRow 0 κ) j
      + ∑ κ, (2 : ℝ) ^ (sc Q (fun κ => K3 (latRow 1 κ)) κ) * W4 (latRow 1 κ) j
      + ∑ κ, (2 : ℝ) ^ (sc Q (fun κ => K3 (latRow 2 κ)) κ) * W4 (latRow 2 κ) j
      + ∑ κ, (2 : ℝ) ^ (sc Q (fun κ => K3 (latRow 3 κ)) κ) * W4 (latRow 3 κ) j := funext fun j => by
    unfold rowSum
    rw [sum_chunks fun κ => (2 : ℝ) ^ (sc Q K3 κ) * W4 κ j]
    simp only [add_assoc]
    rfl
  rw [e]
  exact ⟨_, s4⟩

section
variable (x0 : Vec Ideal S1x2x512x128 .bf16) (x1 x2 : Vec Ideal S1x2x256x128 .bf16) (x3 x4 : Vec Ideal S1x2x8192x128 .bf16)

theorem outBlock_apply (i : Fin 512) (j : Fin 128) :
    outBlock x0 x1 x2 x3 x4 (ix3 (0 : Fin 1) i j) = merge (headAcc x0 x1 x2 x3 x4 0) (headAcc x0 x1 x2 x3 x4 1) (ix2 i j) := by
  unfold outBlock
  generalize merge (headAcc x0 x1 x2 x3 x4 0) (headAcc x0 x1 x2 x3 x4 1) = A
  pointwise

/-- Row `i` of the output block, in the lanes of head `h`: the quotient of the row's weighted sum by its sum in the lane `o`
    of ones (64 for the even head, 0 for the odd one). -/
theorem outBlock_row (h : Fin 2) (i : Fin 512) (j : Fin 128) (o : Fin 128) (hj : h = 0 ∧ j.val < 64 ∧ o = 64 ∨ h = 1 ∧ ¬ j.val < 64 ∧ o = 0)
    (Q : Fin 128 → ℝ) (K1 W1 : Fin 256 → Fin 128 → ℝ) (K3 W4 : Fin 8192 → Fin 128 → ℝ)
    (h0 : ∀ l, x0 (ix4 (0 : Fin 1) h i l) = (Q l : EReal)) (h1 : ∀ κ l, x1 (ix4 (0 : Fin 1) h κ l) = (K1 κ l : EReal))
    (h2 : ∀ κ l, x2 (ix4 (0 : Fin 1) h κ l) = (W1 κ l : EReal)) (h3 : ∀ κ l, x3 (ix4 (0 : Fin 1) h κ l) = (K3 κ l : EReal))
    (h4 : ∀ κ l, x4 (ix4 (0 : Fin 1) h κ l) = (W4 κ l : EReal)) (ho : 0 < rowSum Q K1 W1 K3 W4 o) :
    outBlock x0 x1 x2 x3 x4 (ix3 (0 : Fin 1) i j) = ((rowSum Q K1 W1 K3 W4 j / rowSum Q K1 W1 K3 W4 o : ℝ) : EReal) := by
  rw [outBlock_apply]
  obtain ⟨M, hM⟩ := headAcc_inv x0 x1 x2 x3 x4 h i Q K1 W1 K3 W4 h0 h1 h2 h3 h4
  rcases hj with ⟨rfl, hj, rfl⟩ | ⟨rfl, hj, rfl⟩
  · rw [merge_lo _ _ _ _ hj]
    exact row_quot _ _ _ hM j 64 ho
  · rw [merge_hi _ _ _ _ hj]
    exact row_quot _ _ _ hM j 0 ho

end

end Cert.Attn
end
-- ==== Proof.HostArrays.lean ====
/-
  The five arrays that the attention call reads, at an index, as the host operations before it write them.
-/
module

public import proofs.«01_k».proof.Proof.Gen.KernelIdeal.Frame
public import Idealize.ShloMosaic.Lib.StableHlo.ReadAt
public import Idealize.ShloMosaic.Lib.Pointwise
public import proofs.«01_k».proof.Proof.Softmax

@[expose] public section

set_option maxRecDepth 16384

noncomputable section

namespace Cert.Attn

open Cert.KernelIdeal Cert.KernelIdeal.Gen Idealize.ShloMosaic Idealize.ShloMosaic.TcCoe Idealize.SL.Sem

/-- The factor of the queries: one over the root of 96, in base 2. -/
def scale : ℝ := (√96)⁻¹ * (1 / Real.log 2)

/-- A query row in 128 lanes. -/
def qLane (r : S4x8x8192x96.Idx → ℝ) (b : Fin 4) (h : Fin 8) (i : Fin 8192) (l : Fin 128) : ℝ :=
  if hl : l.val < 96 then r (ix4 b h i (⟨l.val, hl⟩ : Fin 96)) * scale else 0

/-- A key row in 128 lanes. -/
def kLane {n : ℕ} (r : (⟨4, ![4, 8, n, 96]⟩ : Shape).Idx → ℝ) (b : Fin 4) (h : Fin 8) (i : Fin n) (l : Fin 128) : ℝ :=
  if hl : l.val < 96 then r (ix4 b h i (⟨l.val, hl⟩ : Fin 96)) else 0

/-- A value row in 128 lanes: an even head's values, a one and zeros; an odd head's one, zeros and values. -/
def vLane {n : ℕ} (r : (⟨4, ![4, 8, n, 64]⟩ : Shape).Idx → ℝ) (b : Fin 4) (h : Fin 8) (i : Fin n) (l : Fin 128) : ℝ :=
  if h.val % 2 < 1 then
    if hl : l.val < 64 then r (ix4 b h i (⟨l.val, hl⟩ : Fin 64)) else if l.val - 64 < 1 then 1 else 0
  else
    if l.val < 1 then 1 else if l.val - 1 < 63 then 0 else r (ix4 b h i (⟨l.val - 1 - 63, by omega⟩ : Fin 64))

theorem ofBits_2 : Ideal.ofBits FTy.f32 0x40000000#32 = ((2 : ℝ) : EReal) := by
  simp [Ideal.ofBits, Ideal.ieee]
  rw [← EReal.coe_mul]
  norm_num

theorem scale_eq :
    Ideal.div (Ideal.rsqrt (Ideal.ofBits FTy.f32 0x42C00000#32)) (Ideal.log (Ideal.ofBits FTy.f32 0x40000000#32)) = (scale : EReal) := by
  have hlog : Real.log 2 ≠ 0 := (Real.log_pos one_lt_two).ne'
  rw [ofBits_96, ofBits_2, Ideal.rsqrt_coe, if_neg (by norm_num), if_neg (by norm_num), Ideal.log_coe, if_neg (by norm_num),
    Ideal.div_coe hlog, ← EReal.coe_mul]
  rfl

theorem even_head (h : Fin 8) (hh : h.val % 2 < 1) (p : h.val / 2 * 2 < 8) : (⟨h.val / 2 * 2, p⟩ : Fin 8) = h := Fin.ext (by dsimp only; omega)

theorem odd_head (h : Fin 8) (hh : ¬ h.val % 2 < 1) (p : h.val / 2 * 2 + 1 < 8) : (⟨h.val / 2 * 2 + 1, p⟩ : Fin 8) = h :=
  Fin.ext (by dsimp only; omega)

theorem vLane_eq {n : ℕ} (r : (⟨4, ![4, 8, n, 64]⟩ : Shape).Idx → ℝ) (x : (⟨4, ![4, 8, n, 64]⟩ : Shape).Idx → EReal)
    (hx : x = fun i => (r i : EReal)) (b : Fin 4) (h : Fin 8) (i : Fin n) (l : Fin 128) :
    (if h1 : h.val % 2 < 1 then
      if h2 : l.val < 64 then x (ix4 b (⟨h.val / 2 * 2, by omega⟩ : Fin 8) i (⟨l.val, h2⟩ : Fin 64))
      else if h3 : l.val - 64 < 1 then (1 : EReal) else 0
    else
      if h4 : l.val < 1 then (1 : EReal)
      else
        if h5 : l.val - 1 < 63 then (0 : EReal)
        else x (ix4 b (⟨h.val / 2 * 2 + 1, by omega⟩ : Fin 8) i (⟨l.val - 1 - 63, by omega⟩ : Fin 64)))
      = (vLane r b h i l : EReal) := by
  subst hx
  unfold vLane
  by_cases hh : h.val % 2 < 1
  · rw [dif_pos hh, if_pos hh]
    by_cases hl : l.val < 64
    · rw [dif_pos hl, dif_pos hl, even_head h hh]
    · rw [dif_neg hl, dif_neg hl]
      by_cases h1 : l.val - 64 < 1
      · rw [if_pos h1, dif_pos h1, EReal.coe_one]
      · rw [if_neg h1, dif_neg h1, EReal.coe_zero]
  · rw [dif_neg hh, if_neg hh]
    by_cases hl : l.val < 1
    · rw [dif_pos hl, if_pos hl, EReal.coe_one]
    · rw [dif_neg hl, if_neg hl]
      by_cases h1 : l.val - 1 < 63
      · rw [dif_pos h1, if_pos h1, EReal.coe_zero]
      · rw [dif_neg h1, if_neg h1, odd_head h hh]

variable (m : (ℓ : Loc nD τ sig) → Buf (Elt Ideal) ℓ) (c : Dev nD)

theorem q_at (r : S4x8x8192x96.Idx → ℝ) (hr : (m (c, Proc.tc.devRef main_arg0) : FVec Ideal S4x8x8192x96 .f32) = fun i => (r i : EReal))
    (b : Fin 4) (h : Fin 8) (i : Fin 8192) (l : Fin 128) :
    (V m c main_v7 : FVec Ideal S4x8x8192x128 .bf16) (ix4 b h i l) = (qLane r b h i l : EReal) := by
  unfold V
  repeat after_reads_at
  unfold qLane
  by_cases hl : l.val < 96
  · rw [dif_pos hl, dif_pos hl, scale_eq, EReal.coe_mul]
    exact congrArg (· * (scale : EReal)) (congrFun hr _)
  · rw [dif_neg hl, dif_neg hl, EReal.coe_zero]

theorem kc_at (r : S4x8x256x96.Idx → ℝ) (hr : (m (c, Proc.tc.devRef main_arg1) : FVec Ideal S4x8x256x96 .f32) = fun i => (r i : EReal))
    (b : Fin 4) (h : Fin 8) (i : Fin 256) (l : Fin 128) :
    (V m c main_v10 : FVec Ideal S4x8x256x128 .bf16) (ix4 b h i l) = (kLane r b h i l : EReal) := by
  unfold V
  repeat after_reads_at
  unfold kLane
  by_cases hl : l.val < 96
  · rw [dif_pos hl, dif_pos hl]
    exact congrFun hr _
  · rw [dif_neg hl, dif_neg hl, EReal.coe_zero]

theorem kl_at (r : S4x8x8192x96.Idx → ℝ) (hr : (m (c, Proc.tc.devRef main_arg3) : FVec Ideal S4x8x8192x96 .f32) = fun i => (r i : EReal))
    (b : Fin 4) (h : Fin 8) (i : Fin 8192) (l : Fin 128) :
    (V m c main_v27 : FVec Ideal S4x8x8192x128 .bf16) (ix4 b h i l) = (kLane r b h i l : EReal) := by
  unfold V
  repeat after_reads_at
  unfold kLane
  by_cases hl : l.val < 96
  · rw [dif_pos hl, dif_pos hl]
    exact congrFun hr _
  · rw [dif_neg hl, dif_neg hl, EReal.coe_zero]

theorem vc_at (r : S4x8x256x64.Idx → ℝ) (hr : (m (c, Proc.tc.devRef main_arg2) : FVec Ideal S4x8x256x64 .f32) = fun i => (r i : EReal))
    (b : Fin 4) (h : Fin 8) (i : Fin 256) (l : Fin 128) :
    (V m c main_v24 : FVec Ideal S4x8x256x128 .bf16) (ix4 b h i l) = (vLane r b h i l : EReal) := by
  unfold V
  repeat after_reads_at
  exact vLane_eq (n := 256) r _ hr b h i l

theorem vl_at (r : S4x8x8192x64.Idx → ℝ) (hr : (m (c, Proc.tc.devRef main_arg4) : FVec Ideal S4x8x8192x64 .f32) = fun i => (r i : EReal))
    (b : Fin 4) (h : Fin 8) (i : Fin 8192) (l : Fin 128) :
    (V m c main_v41 : FVec Ideal S4x8x8192x128 .bf16) (ix4 b h i l) = (vLane r b h i l : EReal) := by
  unfold V
  repeat after_reads_at
  exact vLane_eq (n := 8192) r _ hr b h i l

end Cert.Attn
end
-- ==== Proof.Ref.lean ====
/-
  The reference's result at an index, on finite arguments: the softmax-weighted mean of the values over the 8448 keys, the
  context's before the latent's.
-/
module

public import proofs.«01_k».proof.Proof.Softmax
public import proofs.«01_k».proof.Proof.Gen.ReferenceIdeal.Read
public import Idealize.ShloMosaic.Lib.Pointwise

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

/-- The joined keys: the context's 256 rows, then the latent's 8192. -/
def keyAt (r1 : S4x8x256x96.Idx → ℝ) (r3 : S4x8x8192x96.Idx → ℝ) (b : Fin 4) (h : Fin 8) (κ : Fin 8448) (l : Fin 96) : ℝ :=
  if hκ : κ.val < 256 then r1 (ix4 b h (⟨κ.val, hκ⟩ : Fin 256) l) else r3 (ix4 b h (⟨κ.val - 256, by omega⟩ : Fin 8192) l)

/-- The joined values. -/
def valAt (r2 : S4x8x256x64.Idx → ℝ) (r4 : S4x8x8192x64.Idx → ℝ) (b : Fin 4) (h : Fin 8) (κ : Fin 8448) (d : Fin 64) : ℝ :=
  if hκ : κ.val < 256 then r2 (ix4 b h (⟨κ.val, hκ⟩ : Fin 256) d) else r4 (ix4 b h (⟨κ.val - 256, by omega⟩ : Fin 8192) d)

/-- A query's scaled score against a key. -/
def scoreAt (r0 : S4x8x8192x96.Idx → ℝ) (r1 : S4x8x256x96.Idx → ℝ) (r3 : S4x8x8192x96.Idx → ℝ) (b : Fin 4) (h : Fin 8) (i : Fin 8192)
    (κ : Fin 8448) : ℝ :=
  (∑ l : Fin 96, r0 (ix4 b h i l) * keyAt r1 r3 b h κ l) * (√96)⁻¹

section
variable (r0 : S4x8x8192x96.Idx → ℝ) (r1 : S4x8x256x96.Idx → ℝ) (r2 : S4x8x256x64.Idx → ℝ) (r3 : S4x8x8192x96.Idx → ℝ)
  (r4 : S4x8x8192x64.Idx → ℝ)

/-- An array of reals as extended reals. -/
abbrev up {s : Shape} (r : s.Idx → ℝ) : FVec Ideal s .f32 := fun i => (r i : EReal)

theorem keys_apply (b : Fin 4) (h : Fin 8) (κ : Fin 8448) (l : Fin 96) :
    val_main_v0 (F := Ideal) (up r1) (up r3) (ix4 b h κ l) = (keyAt r1 r3 b h κ l : EReal) := by
  unfold val_main_v0 keyAt
  pointwise
  split <;> rfl

theorem values_apply (b : Fin 4) (h : Fin 8) (κ : Fin 8448) (d : Fin 64) :
    val_main_v1 (F := Ideal) (up r2) (up r4) (ix4 b h κ d) = (valAt r2 r4 b h κ d : EReal) := by
  unfold val_main_v1 valAt
  pointwise
  split <;> rfl

theorem rsqrt_96 : Ideal.rsqrt (((96 : ℝ) : EReal)) = (((√96)⁻¹ : ℝ) : EReal) := by
  rw [Ideal.rsqrt_coe, if_neg (by norm_num), if_neg (by norm_num)]

theorem scores_apply (b : Fin 4) (h : Fin 8) (i : Fin 8192) (κ : Fin 8448) :
    val_main_v5 (F := Ideal) (up r0) (up r1) (up r3) (ix4 b h i κ) = (scoreAt r0 r1 r3 b h i κ : EReal) := by
  unfold val_main_v5 val_main_v2
  pointwise [val_main_v4, val_main_v3, val_main_cst]
  simp only [keys_apply, up, ← EReal.coe_mul]
  rw [ofBits_96, rsqrt_96, ← coe_sum, ← EReal.coe_mul]
  rfl

/-- A row's maximum over the keys. -/
theorem rowMax_apply (y : FVec Ideal S4x8x8192x8448 .f32) (b : Fin 4) (h : Fin 8) (i : Fin 8192) :
    Host.reduce FloatOps.maximumf y (val_main_cst_0 (F := Ideal)) reducesTo_S4x8x8192x8448_S4x8x8192_d3 h_S_ (ix3 b h i)
      = (Finset.univ : Finset (Fin 8448)).fold max ⊥ fun κ => y (ix4 b h i κ) := by
  have hr : S4x8x8192x8448.Reduces [3] S4x8x8192 := by decide
  rw [Host.reduce_eq_fold_single _ _ _ _ hr]
  have e : y ∘ hr.lift (ix3 b h i) = fun κ : Fin 8448 => y (ix4 b h i κ) := funext fun κ => congrArg y (funext fun a => Fin.ext (by
    match a with
    | ⟨0, _⟩ => rfl
    | ⟨1, _⟩ => rfl
    | ⟨2, _⟩ => rfl
    | ⟨3, _⟩ => rfl))
  rw [e, val_main_cst_0_apply]
  show Finset.fold max (Ideal.ofBits FTy.f32 0xFF800000#32) _ _ = _
  rw [ofBits_neg_inf]
  rfl

theorem max_apply (b : Fin 4) (h : Fin 8) (i : Fin 8192) :
    val_main_v8 (F := Ideal) (up r0) (up r1) (up r3) (ix3 b h i)
      = max ⊥ ((Finset.univ : Finset (Fin 8448)).fold max ⊥ fun κ => (scoreAt r0 r1 r3 b h i κ : EReal)) := by
  rw [val_main_v8_apply, val_main_v7_apply, val_main_cst_1_apply]
  unfold val_main_v6
  rw [rowMax_apply]
  simp only [scores_apply]
  show max (Ideal.ofBits FTy.f32 0xFF800000#32) _ = _
  rw [ofBits_neg_inf]

theorem weights_apply (b : Fin 4) (h : Fin 8) (i : Fin 8192) (κ : Fin 8448) :
    val_main_v12 (F := Ideal) (up r0) (up r1) (up r3) (ix4 b h i κ)
      = Ideal.exp ((scoreAt r0 r1 r3 b h i κ : EReal)
          - max ⊥ ((Finset.univ : Finset (Fin 8448)).fold max ⊥ fun κ => (scoreAt r0 r1 r3 b h i κ : EReal))) := by
  have e : idx_main_v9 (idx_main_v10 (ix4 b h i κ)) = ix3 b h i := funext fun a => Fin.ext (by
    match a with
    | ⟨0, _⟩ => rfl
    | ⟨1, _⟩ => rfl
    | ⟨2, _⟩ => rfl)
  rw [val_main_v12_apply, val_main_v11_apply, val_main_v10_apply, val_main_v9_apply, e, max_apply, scores_apply]
  simp only [Ideal.hostUnary_exp_def, Ideal.subf_def]

theorem ref_apply (b : Fin 4) (i : Fin 8192) (h : Fin 8) (d : Fin 64) :
    val_main_v20 (F := Ideal) (up r0) (up r1) (up r2) (up r3) (up r4) (ix3 b i (⟨64 * h.val + d.val, by omega⟩ : Fin 512))
      = (((∑ κ, Real.exp (scoreAt r0 r1 r3 b h i κ) * valAt r2 r4 b h κ d) / (∑ κ, Real.exp (scoreAt r0 r1 r3 b h i κ)) : ℝ) : EReal) := by
  rw [← softmax_row]
  unfold val_main_v20 val_main_v19 val_main_v18 val_main_v17 val_main_v16 val_main_v15 val_main_v14 val_main_v13
  pointwise [val_main_cst_2]
  have h1 : (64 * h.val + d.val) / 64 = h.val := by omega
  have h2 : (64 * h.val + d.val) % 64 = d.val := by omega
  simp only [h1, h2, Fin.eta, weights_apply, values_apply]

end

end Cert.Attn
end
-- ==== Proof.Equation.lean ====
/-
  The kernel's quotient of base-2 sums over padded lanes is the reference's quotient of exponential sums.
-/
module

public import proofs.«01_k».proof.Proof.Head
public import proofs.«01_k».proof.Proof.HostArrays
public import proofs.«01_k».proof.Proof.Ref

@[expose] public section

set_option maxRecDepth 16384

noncomputable section

namespace Cert.Attn

open Idealize.ShloMosaic

/-- The scores of 128 lanes are those of the 96 columns, scaled. -/
theorem sc_lane {n : ℕ} (r0 : (⟨4, ![4, 8, 8192, 96]⟩ : Shape).Idx → ℝ) (r : (⟨4, ![4, 8, n, 96]⟩ : Shape).Idx → ℝ) (b : Fin 4) (h : Fin 8)
    (i : Fin 8192) (κ : Fin n) :
    sc (qLane r0 b h i) (kLane r b h) κ = (∑ l : Fin 96, r0 (ix4 b h i l) * r (ix4 b h κ l)) * scale := by
  unfold sc
  have e := Fin.sum_univ_add (a := 96) (b := 32) fun l : Fin (96 + 32) => qLane r0 b h i l * kLane r b h κ l
  refine Eq.trans e ?_
  rw [Finset.sum_mul]
  have z : ∑ l : Fin 32, qLane r0 b h i (Fin.natAdd 96 l) * kLane r b h κ (Fin.natAdd 96 l) = 0 :=
    Finset.sum_eq_zero fun l _ => by
      unfold kLane
      rw [dif_neg (by simp), mul_zero]
  rw [z, add_zero]
  refine Finset.sum_congr rfl fun l _ => ?_
  unfold qLane kLane
  rw [dif_pos (show ((Fin.castAdd 32 l : Fin 128) : ℕ) < 96 from l.isLt), dif_pos (show ((Fin.castAdd 32 l : Fin 128) : ℕ) < 96 from l.isLt)]
  have el : (⟨((Fin.castAdd 32 l : Fin 128) : ℕ), l.isLt⟩ : Fin 96) = l := Fin.ext rfl
  rw [el]
  ring

theorem two_pow_scale (x : ℝ) : (2 : ℝ) ^ (x * scale) = Real.exp (x * (√96)⁻¹) := by
  have hlog : Real.log 2 ≠ 0 := (Real.log_pos one_lt_two).ne'
  rw [Real.rpow_def_of_pos two_pos]
  congr 1
  unfold scale
  field_simp

section
variable (r0 : (⟨4, ![4, 8, 8192, 96]⟩ : Shape).Idx → ℝ) (r1 : (⟨4, ![4, 8, 256, 96]⟩ : Shape).Idx → ℝ)
  (r2 : (⟨4, ![4, 8, 256, 64]⟩ : Shape).Idx → ℝ) (r3 : (⟨4, ![4, 8, 8192, 96]⟩ : Shape).Idx → ℝ)
  (r4 : (⟨4, ![4, 8, 8192, 64]⟩ : Shape).Idx → ℝ)

theorem sum_joined (f : Fin 8448 → ℝ) :
    ∑ κ, f κ = ∑ κ : Fin 256, f ⟨κ.val, by omega⟩ + ∑ κ : Fin 8192, f ⟨256 + κ.val, by omega⟩ :=
  Fin.sum_univ_add (a := 256) (b := 8192) f

/-- The kernel's sum in the lane `j`, over any lane of values `w` that is the joined value row there. -/
theorem rowSum_eq (b : Fin 4) (h : Fin 8) (i : Fin 8192) (j : Fin 128) (w : Fin 8448 → ℝ)
    (hc : ∀ κ : Fin 256, vLane r2 b h κ j = w ⟨κ.val, by omega⟩) (hl : ∀ κ : Fin 8192, vLane r4 b h κ j = w ⟨256 + κ.val, by omega⟩) :
    rowSum (qLane r0 b h i) (kLane r1 b h) (vLane r2 b h) (kLane r3 b h) (vLane r4 b h) j
      = ∑ κ, Real.exp (scoreAt r0 r1 r3 b h i κ) * w κ := by
  unfold rowSum
  rw [sum_joined]
  refine congrArg₂ (· + ·) (Finset.sum_congr rfl fun κ _ => ?_) (Finset.sum_congr rfl fun κ _ => ?_)
  · rw [hc, sc_lane, two_pow_scale]
    unfold scoreAt keyAt
    have hκ : ((⟨κ.val, by omega⟩ : Fin 8448) : ℕ) < 256 := κ.isLt
    simp only [dif_pos hκ]
  · rw [hl, sc_lane, two_pow_scale]
    unfold scoreAt keyAt
    have hκ : ¬ ((⟨256 + κ.val, by omega⟩ : Fin 8448) : ℕ) < 256 := by dsimp only; omega
    have e : ∀ hp : 256 + κ.val - 256 < 8192, (⟨256 + κ.val - 256, hp⟩ : Fin 8192) = κ := fun _ => Fin.ext (by dsimp only; omega)
    simp only [dif_neg hκ, e]

/-- The reference's row element. -/
def attn (b : Fin 4) (i : Fin 8192) (h : Fin 8) (d : Fin 64) : ℝ :=
  (∑ κ, Real.exp (scoreAt r0 r1 r3 b h i κ) * valAt r2 r4 b h κ d) / (∑ κ, Real.exp (scoreAt r0 r1 r3 b h i κ))

/-- The lane of an element of a head's row. -/
def laneOf (h : Fin 8) (d : Fin 64) : Fin 128 := if h.val % 2 < 1 then ⟨d.val, by omega⟩ else ⟨64 + d.val, by omega⟩

/-- The lane of ones of a head. -/
def oneOf (h : Fin 8) : Fin 128 := if h.val % 2 < 1 then 64 else 0

theorem vLane_one {n : ℕ} (r : (⟨4, ![4, 8, n, 64]⟩ : Shape).Idx → ℝ) (b : Fin 4) (h : Fin 8) (κ : Fin n) : vLane r b h κ (oneOf h) = 1 := by
  unfold vLane oneOf
  by_cases hh : h.val % 2 < 1
  · rw [if_pos hh, if_pos hh, dif_neg (by decide), if_pos (by decide)]
  · rw [if_neg hh, if_neg hh, if_pos (by decide)]

theorem vLane_val {n : ℕ} (r : (⟨4, ![4, 8, n, 64]⟩ : Shape).Idx → ℝ) (b : Fin 4) (h : Fin 8) (κ : Fin n) (d : Fin 64) :
    vLane r b h κ (laneOf h d) = r (ix4 b h κ d) := by
  unfold vLane laneOf
  by_cases hh : h.val % 2 < 1
  · simp only [if_pos hh]
    rw [dif_pos d.isLt]
  · simp only [if_neg hh]
    rw [if_neg (by omega), if_neg (by omega)]
    exact congrArg (fun t => r (ix4 b h κ t)) (Fin.ext (by dsimp only; omega))

theorem rowSum_one (b : Fin 4) (h : Fin 8) (i : Fin 8192) :
    rowSum (qLane r0 b h i) (kLane r1 b h) (vLane r2 b h) (kLane r3 b h) (vLane r4 b h) (oneOf h)
      = ∑ κ, Real.exp (scoreAt r0 r1 r3 b h i κ) := by
  rw [rowSum_eq r0 r1 r2 r3 r4 b h i (oneOf h) (fun _ => 1) (fun κ => vLane_one r2 b h κ) (fun κ => vLane_one r4 b h κ)]
  simp only [mul_one]

theorem rowSum_val (b : Fin 4) (h : Fin 8) (i : Fin 8192) (d : Fin 64) :
    rowSum (qLane r0 b h i) (kLane r1 b h) (vLane r2 b h) (kLane r3 b h) (vLane r4 b h) (laneOf h d)
      = ∑ κ, Real.exp (scoreAt r0 r1 r3 b h i κ) * valAt r2 r4 b h κ d := by
  refine rowSum_eq r0 r1 r2 r3 r4 b h i (laneOf h d) (fun κ => valAt r2 r4 b h κ d) (fun κ => ?_) fun κ => ?_
  · rw [vLane_val]
    unfold valAt
    have hκ : ((⟨κ.val, by omega⟩ : Fin 8448) : ℕ) < 256 := κ.isLt
    simp only [dif_pos hκ]
  · rw [vLane_val]
    unfold valAt
    have hκ : ¬ ((⟨256 + κ.val, by omega⟩ : Fin 8448) : ℕ) < 256 := by dsimp only; omega
    have e : ∀ hp : 256 + κ.val - 256 < 8192, (⟨256 + κ.val - 256, hp⟩ : Fin 8192) = κ := fun _ => Fin.ext (by dsimp only; omega)
    simp only [dif_neg hκ, e]

theorem rowSum_one_pos (b : Fin 4) (h : Fin 8) (i : Fin 8192) :
    0 < rowSum (qLane r0 b h i) (kLane r1 b h) (vLane r2 b h) (kLane r3 b h) (vLane r4 b h) (oneOf h) := by
  rw [rowSum_one]
  exact Finset.sum_pos (fun κ _ => Real.exp_pos _) ⟨0, Finset.mem_univ _⟩

theorem quot_eq (b : Fin 4) (h : Fin 8) (i : Fin 8192) (d : Fin 64) :
    rowSum (qLane r0 b h i) (kLane r1 b h) (vLane r2 b h) (kLane r3 b h) (vLane r4 b h) (laneOf h d)
      / rowSum (qLane r0 b h i) (kLane r1 b h) (vLane r2 b h) (kLane r3 b h) (vLane r4 b h) (oneOf h) = attn r0 r1 r2 r3 r4 b i h d := by
  rw [rowSum_one, rowSum_val]
  rfl

end

end Cert.Attn
end
-- ==== Proof.Blocks.lean ====
/-
  The blocks that a grid point reads, as elements of the arrays.
-/
module

public import proofs.«01_k».proof.Proof.Equation
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- The blocks' places: batch `t / 64`, pair of heads `t / 16 % 4`, tile of queries `t % 16`. -/
theorem idx : ∀ t : Fin cfg0.N,
    win0_0.index t = ![t.val / 64, t.val / 16 % 4, t.val % 16, 0] ∧ win0_1.index t = ![t.val / 64, t.val / 16 % 4, 0, 0]
      ∧ win0_2.index t = ![t.val / 64, t.val / 16 % 4, 0, 0] ∧ win0_3.index t = ![t.val / 64, t.val / 16 % 4, 0, 0]
      ∧ win0_4.index t = ![t.val / 64, t.val / 16 % 4, 0, 0] ∧ win0_5.index t = ![t.val / 64, t.val % 16, t.val / 16 % 4] :=
  (by decide +kernel : ∀ t : Fin grid0.N, _)

theorem t_lt (t : Fin cfg0.N) : t.val < 256 := t.isLt

/-- The batch, the head and the query row that a point's block holds. -/
def bOf (t : Fin cfg0.N) : Fin 4 := ⟨t.val / 64, by have := t_lt t; omega⟩
def hOf (t : Fin cfg0.N) (h : Fin 2) : Fin 8 := ⟨t.val / 16 % 4 * 2 + h.val, by omega⟩
def iOf (t : Fin cfg0.N) (i : Fin 512) : Fin 8192 := ⟨t.val % 16 * 512 + i.val, by omega⟩

theorem emb0 (t : Fin cfg0.N) (h : Fin 2) (i : Fin 512) (l : Fin 128) :
    (win0_0.blk t).view.emb (ix4 (0 : Fin 1) h i l) = (ix4 (bOf t) (hOf t h) (iOf t i) l : S4x8x8192x128.Idx) := by
  unfold bOf hOf iOf
  blk_ext [idx t]

theorem emb1 (t : Fin cfg0.N) (h : Fin 2) (i : Fin 256) (l : Fin 128) :
    (win0_1.blk t).view.emb (ix4 (0 : Fin 1) h i l) = (ix4 (bOf t) (hOf t h) i l : S4x8x256x128.Idx) := by
  unfold bOf hOf
  blk_ext [idx t]

theorem emb2 (t : Fin cfg0.N) (h : Fin 2) (i : Fin 256) (l : Fin 128) :
    (win0_2.blk t).view.emb (ix4 (0 : Fin 1) h i l) = (ix4 (bOf t) (hOf t h) i l : S4x8x256x128.Idx) := by
  unfold bOf hOf
  blk_ext [idx t]

theorem emb3 (t : Fin cfg0.N) (h : Fin 2) (i : Fin 8192) (l : Fin 128) :
    (win0_3.blk t).view.emb (ix4 (0 : Fin 1) h i l) = (ix4 (bOf t) (hOf t h) i l : S4x8x8192x128.Idx) := by
  unfold bOf hOf
  blk_ext [idx t]

theorem emb4 (t : Fin cfg0.N) (h : Fin 2) (i : Fin 8192) (l : Fin 128) :
    (win0_4.blk t).view.emb (ix4 (0 : Fin 1) h i l) = (ix4 (bOf t) (hOf t h) i l : S4x8x8192x128.Idx) := by
  unfold bOf hOf
  blk_ext [idx t]

variable (c : Dev nD)

theorem read0 (X : Buf (Elt Ideal) ((c : Thread nD τ).loc main_v7)) (t : Fin cfg0.N) (h : Fin 2) (i : Fin 512) (l : Fin 128) :
    ((cfg0.win 0).blk t).view.read (Elt Ideal) X (ix4 (0 : Fin 1) h i l) = X (ix4 (bOf t) (hOf t h) (iOf t i) l) := by
  refine Eq.trans ?_ (congrArg X (emb0 t h i l))
  blk_simp

theorem read1 (X : Buf (Elt Ideal) ((c : Thread nD τ).loc main_v10)) (t : Fin cfg0.N) (h : Fin 2) (i : Fin 256) (l : Fin 128) :
    ((cfg0.win 1).blk t).view.read (Elt Ideal) X (ix4 (0 : Fin 1) h i l) = X (ix4 (bOf t) (hOf t h) i l) := by
  refine Eq.trans ?_ (congrArg X (emb1 t h i l))
  blk_simp

theorem read2 (X : Buf (Elt Ideal) ((c : Thread nD τ).loc main_v24)) (t : Fin cfg0.N) (h : Fin 2) (i : Fin 256) (l : Fin 128) :
    ((cfg0.win 2).blk t).view.read (Elt Ideal) X (ix4 (0 : Fin 1) h i l) = X (ix4 (bOf t) (hOf t h) i l) := by
  refine Eq.trans ?_ (congrArg X (emb2 t h i l))
  blk_simp

theorem read3 (X : Buf (Elt Ideal) ((c : Thread nD τ).loc main_v27)) (t : Fin cfg0.N) (h : Fin 2) (i : Fin 8192) (l : Fin 128) :
    ((cfg0.win 3).blk t).view.read (Elt Ideal) X (ix4 (0 : Fin 1) h i l) = X (ix4 (bOf t) (hOf t h) i l) := by
  refine Eq.trans ?_ (congrArg X (emb3 t h i l))
  blk_simp

theorem read4 (X : Buf (Elt Ideal) ((c : Thread nD τ).loc main_v41)) (t : Fin cfg0.N) (h : Fin 2) (i : Fin 8192) (l : Fin 128) :
    ((cfg0.win 4).blk t).view.read (Elt Ideal) X (ix4 (0 : Fin 1) h i l) = X (ix4 (bOf t) (hOf t h) i l) := by
  refine Eq.trans ?_ (congrArg X (emb4 t h i l))
  blk_simp

variable (m : (ℓ : Loc nD τ sig) → Buf (Elt Ideal) ℓ)

theorem blk0 (t : Fin cfg0.N) (h : Fin 2) (i : Fin 512) (l : Fin 128) :
    (iblk m c 0 t : FVec Ideal S1x2x512x128 .bf16) (ix4 (0 : Fin 1) h i l)
      = (V m c main_v7 : FVec Ideal S4x8x8192x128 .bf16) (ix4 (bOf t) (hOf t h) (iOf t i) l) :=
  read0 c (V m c main_v7) t h i l

theorem blk1 (t : Fin cfg0.N) (h : Fin 2) (i : Fin 256) (l : Fin 128) :
    (iblk m c 1 t : FVec Ideal S1x2x256x128 .bf16) (ix4 (0 : Fin 1) h i l)
      = (V m c main_v10 : FVec Ideal S4x8x256x128 .bf16) (ix4 (bOf t) (hOf t h) i l) :=
  read1 c (V m c main_v10) t h i l

theorem blk2 (t : Fin cfg0.N) (h : Fin 2) (i : Fin 256) (l : Fin 128) :
    (iblk m c 2 t : FVec Ideal S1x2x256x128 .bf16) (ix4 (0 : Fin 1) h i l)
      = (V m c main_v24 : FVec Ideal S4x8x256x128 .bf16) (ix4 (bOf t) (hOf t h) i l) :=
  read2 c (V m c main_v24) t h i l

theorem blk3 (t : Fin cfg0.N) (h : Fin 2) (i : Fin 8192) (l : Fin 128) :
    (iblk m c 3 t : FVec Ideal S1x2x8192x128 .bf16) (ix4 (0 : Fin 1) h i l)
      = (V m c main_v27 : FVec Ideal S4x8x8192x128 .bf16) (ix4 (bOf t) (hOf t h) i l) :=
  read3 c (V m c main_v27) t h i l

theorem blk4 (t : Fin cfg0.N) (h : Fin 2) (i : Fin 8192) (l : Fin 128) :
    (iblk m c 4 t : FVec Ideal S1x2x8192x128 .bf16) (ix4 (0 : Fin 1) h i l)
      = (V m c main_v41 : FVec Ideal S4x8x8192x128 .bf16) (ix4 (bOf t) (hOf t h) i l) :=
  read4 c (V m c main_v41) t h i l

end Cert.Attn
end
-- ==== Proof.Array.lean ====
/-
  The array that the attention call leaves: every element is the reference's row element.
-/
module

public import proofs.«01_k».proof.Proof.Equation
public import proofs.«01_k».proof.Proof.Blocks
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

variable (r0 : S4x8x8192x96.Idx → ℝ) (r1 : S4x8x256x96.Idx → ℝ) (r2 : S4x8x256x64.Idx → ℝ) (r3 : S4x8x8192x96.Idx → ℝ)
  (r4 : S4x8x8192x64.Idx → ℝ)

/-- The reference's array. -/
def outArr : FVec Ideal S4x8192x512 .bf16 := fun y =>
  ((attn r0 r1 r2 r3 r4 (y 0) (y 1) ⟨(y 2).val / 64, by have : (y 2).val < 512 := (y 2).isLt; omega⟩ ⟨(y 2).val % 64, by omega⟩ : ℝ) : EReal)

/-- The element of a block. -/
theorem block_at (h0 : (m (c, Proc.tc.devRef main_arg0) : FVec Ideal S4x8x8192x96 .f32) = fun i => (r0 i : EReal))
    (h1 : (m (c, Proc.tc.devRef main_arg1) : FVec Ideal S4x8x256x96 .f32) = fun i => (r1 i : EReal))
    (h2 : (m (c, Proc.tc.devRef main_arg2) : FVec Ideal S4x8x256x64 .f32) = fun i => (r2 i : EReal))
    (h3 : (m (c, Proc.tc.devRef main_arg3) : FVec Ideal S4x8x8192x96 .f32) = fun i => (r3 i : EReal))
    (h4 : (m (c, Proc.tc.devRef main_arg4) : FVec Ideal S4x8x8192x64 .f32) = fun i => (r4 i : EReal))
    (t : Fin cfg0.N) (h : Fin 2) (i : Fin 512) (d : Fin 64) :
    outBlock (iblk m c 0 t) (iblk m c 1 t) (iblk m c 2 t) (iblk m c 3 t) (iblk m c 4 t) (ix3 (0 : Fin 1) i (laneOf (hOf t h) d))
      = ((attn r0 r1 r2 r3 r4 (bOf t) (iOf t i) (hOf t h) d : ℝ) : EReal) := by
  rw [← quot_eq]
  refine outBlock_row _ _ _ _ _ h i (laneOf (hOf t h) d) (oneOf (hOf t h)) ?_ (qLane r0 (bOf t) (hOf t h) (iOf t i)) (kLane r1 (bOf t) (hOf t h))
    (vLane r2 (bOf t) (hOf t h)) (kLane r3 (bOf t) (hOf t h)) (vLane r4 (bOf t) (hOf t h)) (fun l => ?_) (fun κ l => ?_) (fun κ l => ?_)
    (fun κ l => ?_) (fun κ l => ?_) (rowSum_one_pos r0 r1 r2 r3 r4 _ _ _)
  · unfold laneOf oneOf hOf
    match h with
    | ⟨0, _⟩ => exact Or.inl ⟨rfl, by dsimp only; rw [if_pos (by omega)]; exact d.isLt, by dsimp only; rw [if_pos (by omega)]⟩
    | ⟨1, _⟩ => exact Or.inr ⟨rfl, by dsimp only; rw [if_neg (by omega)]; dsimp only; omega, by dsimp only; rw [if_neg (by omega)]⟩
  · exact (blk0 c m t h i l).trans (q_at m c r0 h0 _ _ _ l)
  · exact (blk1 c m t h κ l).trans (kc_at m c r1 h1 _ _ κ l)
  · exact (blk2 c m t h κ l).trans (vc_at m c r2 h2 _ _ κ l)
  · exact (blk3 c m t h κ l).trans (kl_at m c r3 h3 _ _ κ l)
  · exact (blk4 c m t h κ l).trans (vl_at m c r4 h4 _ _ κ l)

theorem emb5 (t : Fin cfg0.N) (h : Fin 2) (i : Fin 512) (d : Fin 64) :
    (win0_5.blk t).view.emb (ix3 (0 : Fin 1) i (laneOf (hOf t h) d))
      = (ix3 (bOf t) (iOf t i) (⟨(hOf t h).val * 64 + d.val, by omega⟩ : Fin 512) : S4x8192x512.Idx) := by
  have e : (laneOf (hOf t h) d).val = h.val * 64 + d.val := by
    unfold laneOf hOf
    match h with
    | ⟨0, _⟩ => dsimp only; rw [if_pos (by omega)]; dsimp only; omega
    | ⟨1, _⟩ => dsimp only; rw [if_neg (by omega)]
  unfold bOf iOf
  generalize laneOf (hOf t h) d = j at e ⊢
  unfold hOf
  blk_ext [idx t]

theorem outArr_at (b : Fin 4) (i : Fin 8192) (h : Fin 8) (d : Fin 64) :
    outArr r0 r1 r2 r3 r4 (ix3 b i (⟨h.val * 64 + d.val, by omega⟩ : Fin 512)) = ((attn r0 r1 r2 r3 r4 b i h d : ℝ) : EReal) := by
  unfold outArr
  have eh : ∀ p, (⟨(h.val * 64 + d.val) / 64, p⟩ : Fin 8) = h := fun _ => Fin.ext (by dsimp only; omega)
  have ed : ∀ p, (⟨(h.val * 64 + d.val) % 64, p⟩ : Fin 64) = d := fun _ => Fin.ext (by dsimp only; omega)
  exact congrArg (fun x : ℝ => (x : EReal)) (congrArg₂ (attn r0 r1 r2 r3 r4 b i) (eh _) (ed _))

theorem lane_cases (t : Fin cfg0.N) (j : Fin 128) : ∃ (h : Fin 2) (d : Fin 64), j = laneOf (hOf t h) d := by
  by_cases hj : j.val < 64
  · refine ⟨0, ⟨j.val, hj⟩, Fin.ext ?_⟩
    unfold laneOf hOf
    dsimp only
    rw [if_pos (by simp)]
  · refine ⟨1, ⟨j.val - 64, by omega⟩, Fin.ext ?_⟩
    unfold laneOf hOf
    dsimp only
    rw [if_neg (by simp)]
    dsimp only
    omega

/-- The array after the run. -/
theorem array_eq (h0 : (m (c, Proc.tc.devRef main_arg0) : FVec Ideal S4x8x8192x96 .f32) = fun i => (r0 i : EReal))
    (h1 : (m (c, Proc.tc.devRef main_arg1) : FVec Ideal S4x8x256x96 .f32) = fun i => (r1 i : EReal))
    (h2 : (m (c, Proc.tc.devRef main_arg2) : FVec Ideal S4x8x256x64 .f32) = fun i => (r2 i : EReal))
    (h3 : (m (c, Proc.tc.devRef main_arg3) : FVec Ideal S4x8x8192x96 .f32) = fun i => (r3 i : EReal))
    (h4 : (m (c, Proc.tc.devRef main_arg4) : FVec Ideal S4x8x8192x64 .f32) = fun i => (r4 i : EReal)) :
    (dats m 0 c).arrAt 5 cfg0.N = outArr r0 r1 r2 r3 r4 := by
  refine (dats m 0 c).arrAt_eq_of_covers 5 (outArr r0 r1 r2 r3 r4) (by decide +kernel) fun t hf y => ?_
  blk_simp
  rw [after0_5]
  unfold outsAt0
  rw [block_eq]
  obtain ⟨z, i, j, rfl⟩ : ∃ (z : Fin 1) (i : Fin 512) (j : Fin 128), y = ix3 z i j := ⟨y 0, y 1, y 2, by ext a; fin_cases a <;> rfl⟩
  obtain ⟨h, d, rfl⟩ := lane_cases t j
  have ez : z = 0 := Subsingleton.elim _ _
  subst ez
  refine Eq.trans (block_at m c r0 r1 r2 r3 r4 h0 h1 h2 h3 h4 t h i d) ?_
  exact ((congrArg (outArr r0 r1 r2 r3 r4) (emb5 t h i d)).trans (outArr_at r0 r1 r2 r3 r4 _ _ _ _)).symm

end Cert.Attn
end
-- ==== Proof.Pre.lean ====
/-
  The precondition read: every element of the five arguments is a real number.
-/
module

public import proofs.«01_k».proof.Defs
public import proofs.«01_k».proof.Proof.Softmax
public import proofs.«01_k».proof.Proof.Gen.Pre_finite
public import Idealize.ShloMosaic.Lib.ReduceAll
public import Idealize.ShloMosaic.Lib.Affine
public import Idealize.ShloMosaic.Lib.Pointwise.Select
public import Idealize.ShloMosaic.Lib.Pointwise

@[expose] public section

set_option maxRecDepth 16384

noncomputable section

namespace Cert.Attn

open Idealize.ShloMosaic Cert.Pre_finite

theorem ofBits_pos_inf : Ideal.ofBits FTy.f32 0x7F800000#32 = (⊤ : EReal) := by simp [Ideal.ofBits, Ideal.ieee]

/-- An element strictly between the infinities is a real number. -/
theorem real_of_between {s : Shape} (x y z : FVec Ideal s .f32) (i : s.Idx) (hy : y i = Ideal.ofBits FTy.f32 0xFF800000#32)
    (hz : z i = Ideal.ofBits FTy.f32 0x7F800000#32) (h : andi (cmpf .ogt x y) (cmpf .olt x z) i = 1#1) : ∃ r : ℝ, x i = (r : EReal) := by
  obtain ⟨h1, h2⟩ := IntOp.andi_eq_one.1 h
  have g1 : y i < x i := (Ideal.cmp_ogt_eq_one _ _).1 h1
  have g2 : x i < z i := (Ideal.cmp_olt_eq_one _ _).1 h2
  rw [hy, ofBits_neg_inf] at g1
  rw [hz, ofBits_pos_inf] at g2
  exact ⟨(x i).toReal, (EReal.coe_toReal g2.ne g1.ne').symm⟩

theorem reals {s : Shape} {x : FVec Ideal s .f32} (h : ∀ i, ∃ r : ℝ, x i = (r : EReal)) : ∃ r : s.Idx → ℝ, x = fun i => (r i : EReal) :=
  ⟨fun i => (h i).choose, funext fun i => (h i).choose_spec⟩

theorem pre_reals [Cert.Pre_finite.Facts] (x0 : FVec Ideal S4x8x8192x96 .f32) (x1 : FVec Ideal S4x8x256x96 .f32) (x2 : FVec Ideal S4x8x256x64 .f32)
    (x3 : FVec Ideal S4x8x8192x96 .f32) (x4 : FVec Ideal S4x8x8192x64 .f32) (h : fn (F := Ideal) x0 x1 x2 x3 x4 = fun _ => 1#1) :
    (∃ r : S4x8x8192x96.Idx → ℝ, x0 = fun i => (r i : EReal)) ∧ (∃ r : S4x8x256x96.Idx → ℝ, x1 = fun i => (r i : EReal))
      ∧ (∃ r : S4x8x256x64.Idx → ℝ, x2 = fun i => (r i : EReal)) ∧ (∃ r : S4x8x8192x96.Idx → ℝ, x3 = fun i => (r i : EReal))
      ∧ (∃ r : S4x8x8192x64.Idx → ℝ, x4 = fun i => (r i : EReal)) := by
  have e := congrFun h (fun a => a.elim0)
  unfold fn fn_part1 fn_part2 at e
  dsimp only at e
  haveI : Subsingleton S_.Idx := ⟨fun a b => funext fun k => k.elim0⟩
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals fun i => real_of_between x0 _ _ i rfl rfl (Host.reduce_andi_all _ _ _ _ _ e0 i),
    reals fun i => real_of_between x1 _ _ i rfl rfl (Host.reduce_andi_all _ _ _ _ _ e1 i),
    reals fun i => real_of_between x2 _ _ i rfl rfl (Host.reduce_andi_all _ _ _ _ _ e2 i),
    reals fun i => real_of_between x3 _ _ i rfl rfl (Host.reduce_andi_all _ _ _ _ _ e3 i),
    reals fun i => real_of_between x4 _ _ i rfl rfl (Host.reduce_andi_all _ _ _ _ _ e4 i)⟩

end Cert.Attn
end
-- ==== Proof.FfnSpec.lean ====
/-
  The feed-forward block's result as plain sums, over arrays of extended reals.
-/
module

public import Idealize.ShloMosaic.Lib.Pointwise

@[expose] public section

set_option maxRecDepth 16384

noncomputable section

namespace Cert.Ffn

open Idealize.ShloMosaic

/-- A token normed by its root mean square, scaled and shifted. -/
def norm (x nw sc sh : Fin 1024 → EReal) (k : Fin 1024) : EReal :=
  x k * Ideal.rsqrt (Ideal.div (∑ j : Fin 1024, x j * x j) (Ideal.ofBits .f32 0x44800000#32) + Ideal.ofBits .f32 0x358637BD#32) * nw k
    * (Ideal.ofBits .f32 0x3F800000#32 + sc k) + sh k

/-- The hidden activation: the gelu (by tanh) of the three-tap sum, times the up-projection. -/
def hid (p a n w0 w1 w2 b u : EReal) : EReal :=
  (p * w0 + a * w1 + n * w2 + b)
    * (Ideal.ofBits .f32 0x3F000000#32 * (Ideal.ofBits .f32 0x3F800000#32
        + Ideal.tanh (Ideal.ofBits .f32 0x3F4C422A#32 * ((p * w0 + a * w1 + n * w2 + b) + Ideal.ofBits .f32 0x3D372713#32
          * ((p * w0 + a * w1 + n * w2 + b) * ((p * w0 + a * w1 + n * w2 + b) * (p * w0 + a * w1 + n * w2 + b)))))))
    * u

/-- Arrays of extended reals. -/
abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

variable (h : Arr3 4 8192 1024) (sh sc gt : Arr3 4 1 1024) (nw : Arr1 1024) (w : Arr2 1024 5632) (wd : Arr2 3 2816) (bd : Arr1 2816)
  (wo : Arr2 2816 1024)

/-- A token's normed, scaled and shifted features. -/
def aAt (b : Fin 4) (s : Fin 8192) (k : Fin 1024) : EReal :=
  norm (fun k => h (ix3 b s k)) (fun k => nw (ix1 k)) (fun k => sc (ix3 b (0 : Fin 1) k)) (fun k => sh (ix3 b (0 : Fin 1) k)) k

/-- The gate's projection of a token. -/
def gateAt (b : Fin 4) (s : Fin 8192) (f : Fin 2816) : EReal :=
  ∑ k : Fin 1024, aAt h sh sc nw b s k * w (ix2 k (⟨f.val, by omega⟩ : Fin 5632))

/-- The up-projection of a token. -/
def upAt (b : Fin 4) (s : Fin 8192) (f : Fin 2816) : EReal :=
  ∑ k : Fin 1024, aAt h sh sc nw b s k * w (ix2 k (⟨2816 + f.val, by omega⟩ : Fin 5632))

/-- The gate of the token before, nought for the first. -/
def prevAt (b : Fin 4) (s : Fin 8192) (f : Fin 2816) : EReal :=
  if s.val < 1 then 0 else gateAt h sh sc nw w b (⟨s.val - 1, by omega⟩ : Fin 8192) f

/-- The gate of the token after, nought for the last. -/
def nextAt (b : Fin 4) (s : Fin 8192) (f : Fin 2816) : EReal :=
  if hs : s.val < 8191 then gateAt h sh sc nw w b (⟨1 + s.val, by omega⟩ : Fin 8192) f else 0

/-- A hidden activation. -/
def hidAt (b : Fin 4) (s : Fin 8192) (f : Fin 2816) : EReal :=
  hid (prevAt h sh sc nw w b s f) (gateAt h sh sc nw w b s f) (nextAt h sh sc nw w b s f) (wd (ix2 (0 : Fin 3) f)) (wd (ix2 (1 : Fin 3) f))
    (wd (ix2 (2 : Fin 3) f)) (bd (ix1 f)) (upAt h sh sc nw w b s f)

/-- An element of the result. -/
def outAt (b : Fin 4) (s : Fin 8192) (d : Fin 1024) : EReal :=
  h (ix3 b s d) + gt (ix3 b (0 : Fin 1) d) * ∑ f : Fin 2816, hidAt h sh sc nw w wd bd b s f * wo (ix2 f d)

/-- The result, its tokens in one axis. -/
def outArr : Arr2 32768 1024 := fun y =>
  outAt h sh sc gt nw w wd bd wo ⟨(y 0).val / 8192, by have : (y 0).val < 32768 := (y 0).isLt; omega⟩ ⟨(y 0).val % 8192, by omega⟩ (y 1)

end Cert.Ffn
end
-- ==== Proof.FfnRef.lean ====
/-
  The feed-forward reference's result at an index.
-/
module

public import proofs.«01_k».proof.Proof.FfnSpec
public import proofs.«01_k».proof.Proof.Gen.FfnReferenceIdeal.Read
public import Idealize.ShloMosaic.Lib.Pointwise

@[expose] public section

set_option maxRecDepth 16384

noncomputable section

namespace Cert.Ffn

open Cert.FfnReferenceIdeal Cert.FfnReferenceIdeal.Gen Cert.FfnReferenceIdeal.Read Idealize.ShloMosaic Idealize.ShloMosaic.TcCoe Idealize.SL.Sem

variable (h : Arr3 4 8192 1024) (sh sc gt : Arr3 4 1 1024) (nw : Arr1 1024) (w : Arr2 1024 5632) (wd : Arr2 3 2816) (bd : Arr1 2816)
  (wo : Arr2 2816 1024)

theorem ref_a (b : Fin 4) (s : Fin 8192) (k : Fin 1024) :
    val_main_v18 (F := Ideal) h sh sc nw (ix3 b s k) = aAt h sh sc nw b s k := by
  unfold aAt norm
  pointwise [val_main_v18, val_main_v17, val_main_v16, val_main_v15, val_main_v14, val_main_v13, val_main_cst_2, val_main_v12, val_main_v11,
    val_main_v10, val_main_v9, val_main_v8, val_main_v7, val_main_v6, val_main_v5, val_main_cst_1, val_main_v4, val_main_v3, val_main_cst_0,
    val_main_v2, val_main_v1, val_main_cst, val_main_v0]

theorem ref_gate (b : Fin 4) (s : Fin 8192) (f : Fin 2816) :
    val_main_v20 (F := Ideal) h sh sc nw w (ix3 b s f) = gateAt h sh sc nw w b s f := by
  unfold gateAt val_main_v20
  pointwise [val_main_v19]
  simp only [ref_a]

theorem ref_up (b : Fin 4) (s : Fin 8192) (f : Fin 2816) :
    val_main_v22 (F := Ideal) h sh sc nw w (ix3 b s f) = upAt h sh sc nw w b s f := by
  unfold upAt val_main_v22
  pointwise [val_main_v21]
  simp only [ref_a]

theorem ref_prev (b : Fin 4) (s : Fin 8192) (f : Fin 2816) :
    val_main_v25 (F := Ideal) h sh sc nw w (ix3 b s f) = prevAt h sh sc nw w b s f := by
  unfold prevAt val_main_v25
  pointwise [val_main_v24, val_main_v23, val_main_cst_3]
  simp only [ref_gate]
  split <;> rfl

theorem ref_next (b : Fin 4) (s : Fin 8192) (f : Fin 2816) :
    val_main_v27 (F := Ideal) h sh sc nw w (ix3 b s f) = nextAt h sh sc nw w b s f := by
  unfold nextAt val_main_v27
  pointwise [val_main_v26, val_main_v23, val_main_cst_3]
  simp only [ref_gate]

theorem ref_hid (b : Fin 4) (s : Fin 8192) (f : Fin 2816) :
    val_main_v61 (F := Ideal) h sh sc nw w wd bd (ix3 b s f) = hidAt h sh sc nw w wd bd b s f := by
  unfold hidAt hid
  rw [← ref_prev, ← ref_next, ← ref_gate, ← ref_up]
  pointwise [val_main_v61, val_main_v60, val_main_v59, val_main_v58, val_main_cst_7, val_main_v57, val_main_v56, val_main_cst_6, val_main_v55,
    val_main_v54, val_main_v53, val_main_cst_5, val_main_v52, val_main_v51, val_main_v50, val_main_cst_4, val_main_v49, val_main_v48,
    val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30,
    val_main_v29, val_main_v28]
  have e (g : EReal) : g * g * g = g * (g * g) := mul_comm _ _
  simp only [e]

theorem ref_out (b : Fin 4) (s : Fin 8192) (d : Fin 1024) :
    val_main_v65 (F := Ideal) h sh sc gt nw w wd bd wo (ix3 b s d) = outAt h sh sc gt nw w wd bd wo b s d := by
  unfold outAt
  pointwise [val_main_v65, val_main_v64, val_main_v63, val_main_v62]
  simp only [ref_hid]

theorem ref_eq : val_main_v66 (F := Ideal) h sh sc gt nw w wd bd wo = outArr h sh sc gt nw w wd bd wo := by
  funext y
  obtain ⟨r, d, rfl⟩ : ∃ (r : Fin 32768) (d : Fin 1024), y = ix2 r d := ⟨y 0, y 1, by ext a; fin_cases a <;> rfl⟩
  unfold outArr val_main_v66
  pointwise
  exact ref_out h sh sc gt nw w wd bd wo _ _ _

end Cert.Ffn
end
-- ==== Proof.FfnBlock.lean ====
module

public import proofs.«01_k».proof.Proof.Gen.FfnIdeal.Frame
public import Idealize.ShloMosaic.Lib.Tactic
public import Idealize.ShloMosaic.Lib.Pipeline.ReadBack

@[expose] public section

set_option maxRecDepth 16384

noncomputable section

namespace Cert.Ffn

open Cert.FfnIdeal Cert.FfnIdeal.Gen Idealize.ShloMosaic Idealize.ShloMosaic.TcCoe Idealize.SL.Sem

variable {F : FTy → Type} [FloatOps F]

variable (m : (ℓ : Loc nD τ sig) → Buf (Elt F) ℓ)

theorem hz2 : (![0, 0] : Fin 2 → Nat) = fun _ => 0 := funext fun a => by fin_cases a <;> rfl

theorem hz3 : (![0, 0, 0] : Fin 3 → Nat) = fun _ => 0 := funext fun a => by fin_cases a <;> rfl

/-- The normed, shifted and scaled rows of the block itself. -/
def mid (x1 : Vec F S1024x1024 .f32) (x3 x4 : Vec F S1x1x1024 .f32) (x6 : Vec F S1x1024 .f32) : FVec F S1024x1024 .bf16 :=
  k0_pay7 (k0_pay5 x1) (k0_pay6 x1) x6 x4 x3

/-- Those rows between the eight rows before the block and the eight after it. -/
def ext (i : grid0.Coords) (x0 : Vec F S8x1024 .f32) (x1 : Vec F S1024x1024 .f32) (x2 : Vec F S8x1024 .f32) (x3 x4 : Vec F S1x1x1024 .f32)
    (x6 : Vec F S1x1024 .f32) : FVec F S1040x1024 .bf16 :=
  k0_pay9 (k0_pay3 i) (k0_pay4 i) (mid x1 x3 x4 x6) (k0_pay8 x0 x6 x4) x3 x2 x6 x4 x3

/-- What the kernel computes for 256 of the hidden columns, from those columns of the weights. -/
def chunk (am : FVec F S1024x1024 .bf16) (ae : FVec F S1040x1024 .bf16) (wg wu : Vec F S1024x256 .bf16) (w0 w1 w2 b : Vec F S1x256 .f32) :
    FVec F S1024x256 .bf16 := k0_pay13 (k0_pay12 am ae wg wu w0 w1 w2 b)

/-- The eleven stores into the hidden activations, the last first. -/
def pieces (am : FVec F S1024x1024 .bf16) (ae : FVec F S1040x1024 .bf16) (x7 x8 : Vec F S1024x2816 .bf16) (x9 : Vec F S3x2816 .f32)
    (x10 : Vec F S1x2816 .f32) : List (View.Piece (Elt F) S1024x2816 .bf16) :=
  [⟨Rect.unit ![0, 2560] ![1024, 256] (by decide), chunk am ae (View.ld x7 (Rect.unit ![0, 2560] ![1024, 256] (by decide))) (View.ld x8 (Rect.unit ![0, 2560] ![1024, 256] (by decide)))
      (View.ld x9 (Rect.unit ![0, 2560] ![1, 256] (by decide))) (View.ld x9 (Rect.unit ![1, 2560] ![1, 256] (by decide))) (View.ld x9 (Rect.unit ![2, 2560] ![1, 256] (by decide)))
      (View.ld x10 (Rect.unit ![0, 2560] ![1, 256] (by decide)))⟩,
   ⟨Rect.unit ![0, 2304] ![1024, 256] (by decide), chunk am ae (View.ld x7 (Rect.unit ![0, 2304] ![1024, 256] (by decide))) (View.ld x8 (Rect.unit ![0, 2304] ![1024, 256] (by decide)))
      (View.ld x9 (Rect.unit ![0, 2304] ![1, 256] (by decide))) (View.ld x9 (Rect.unit ![1, 2304] ![1, 256] (by decide))) (View.ld x9 (Rect.unit ![2, 2304] ![1, 256] (by decide)))
      (View.ld x10 (Rect.unit ![0, 2304] ![1, 256] (by decide)))⟩,
   ⟨Rect.unit ![0, 2048] ![1024, 256] (by decide), chunk am ae (View.ld x7 (Rect.unit ![0, 2048] ![1024, 256] (by decide))) (View.ld x8 (Rect.unit ![0, 2048] ![1024, 256] (by decide)))
      (View.ld x9 (Rect.unit ![0, 2048] ![1, 256] (by decide))) (View.ld x9 (Rect.unit ![1, 2048] ![1, 256] (by decide))) (View.ld x9 (Rect.unit ![2, 2048] ![1, 256] (by decide)))
      (View.ld x10 (Rect.unit ![0, 2048] ![1, 256] (by decide)))⟩,
   ⟨Rect.unit ![0, 1792] ![1024, 256] (by decide), chunk am ae (View.ld x7 (Rect.unit ![0, 1792] ![1024, 256] (by decide))) (View.ld x8 (Rect.unit ![0, 1792] ![1024, 256] (by decide)))
      (View.ld x9 (Rect.unit ![0, 1792] ![1, 256] (by decide))) (View.ld x9 (Rect.unit ![1, 1792] ![1, 256] (by decide))) (View.ld x9 (Rect.unit ![2, 1792] ![1, 256] (by decide)))
      (View.ld x10 (Rect.unit ![0, 1792] ![1, 256] (by decide)))⟩,
   ⟨Rect.unit ![0, 1536] ![1024, 256] (by decide), chunk am ae (View.ld x7 (Rect.unit ![0, 1536] ![1024, 256] (by decide))) (View.ld x8 (Rect.unit ![0, 1536] ![1024, 256] (by decide)))
      (View.ld x9 (Rect.unit ![0, 1536] ![1, 256] (by decide))) (View.ld x9 (Rect.unit ![1, 1536] ![1, 256] (by decide))) (View.ld x9 (Rect.unit ![2, 1536] ![1, 256] (by decide)))
      (View.ld x10 (Rect.unit ![0, 1536] ![1, 256] (by decide)))⟩,
   ⟨Rect.unit ![0, 1280] ![1024, 256] (by decide), chunk am ae (View.ld x7 (Rect.unit ![0, 1280] ![1024, 256] (by decide))) (View.ld x8 (Rect.unit ![0, 1280] ![1024, 256] (by decide)))
      (View.ld x9 (Rect.unit ![0, 1280] ![1, 256] (by decide))) (View.ld x9 (Rect.unit ![1, 1280] ![1, 256] (by decide))) (View.ld x9 (Rect.unit ![2, 1280] ![1, 256] (by decide)))
      (View.ld x10 (Rect.unit ![0, 1280] ![1, 256] (by decide)))⟩,
   ⟨Rect.unit ![0, 1024] ![1024, 256] (by decide), chunk am ae (View.ld x7 (Rect.unit ![0, 1024] ![1024, 256] (by decide))) (View.ld x8 (Rect.unit ![0, 1024] ![1024, 256] (by decide)))
      (View.ld x9 (Rect.unit ![0, 1024] ![1, 256] (by decide))) (View.ld x9 (Rect.unit ![1, 1024] ![1, 256] (by decide))) (View.ld x9 (Rect.unit ![2, 1024] ![1, 256] (by decide)))
      (View.ld x10 (Rect.unit ![0, 1024] ![1, 256] (by decide)))⟩,
   ⟨Rect.unit ![0, 768] ![1024, 256] (by decide), chunk am ae (View.ld x7 (Rect.unit ![0, 768] ![1024, 256] (by decide))) (View.ld x8 (Rect.unit ![0, 768] ![1024, 256] (by decide)))
      (View.ld x9 (Rect.unit ![0, 768] ![1, 256] (by decide))) (View.ld x9 (Rect.unit ![1, 768] ![1, 256] (by decide))) (View.ld x9 (Rect.unit ![2, 768] ![1, 256] (by decide)))
      (View.ld x10 (Rect.unit ![0, 768] ![1, 256] (by decide)))⟩,
   ⟨Rect.unit ![0, 512] ![1024, 256] (by decide), chunk am ae (View.ld x7 (Rect.unit ![0, 512] ![1024, 256] (by decide))) (View.ld x8 (Rect.unit ![0, 512] ![1024, 256] (by decide)))
      (View.ld x9 (Rect.unit ![0, 512] ![1, 256] (by decide))) (View.ld x9 (Rect.unit ![1, 512] ![1, 256] (by decide))) (View.ld x9 (Rect.unit ![2, 512] ![1, 256] (by decide)))
      (View.ld x10 (Rect.unit ![0, 512] ![1, 256] (by decide)))⟩,
   ⟨Rect.unit ![0, 256] ![1024, 256] (by decide), chunk am ae (View.ld x7 (Rect.unit ![0, 256] ![1024, 256] (by decide))) (View.ld x8 (Rect.unit ![0, 256] ![1024, 256] (by decide)))
      (View.ld x9 (Rect.unit ![0, 256] ![1, 256] (by decide))) (View.ld x9 (Rect.unit ![1, 256] ![1, 256] (by decide))) (View.ld x9 (Rect.unit ![2, 256] ![1, 256] (by decide)))
      (View.ld x10 (Rect.unit ![0, 256] ![1, 256] (by decide)))⟩,
   ⟨Rect.unit ![0, 0] ![1024, 256] (by decide), chunk am ae (View.ld x7 (Rect.unit ![0, 0] ![1024, 256] (by decide))) (View.ld x8 (Rect.unit ![0, 0] ![1024, 256] (by decide)))
      (View.ld x9 (Rect.unit ![0, 0] ![1, 256] (by decide))) (View.ld x9 (Rect.unit ![1, 0] ![1, 256] (by decide))) (View.ld x9 (Rect.unit ![2, 0] ![1, 256] (by decide)))
      (View.ld x10 (Rect.unit ![0, 0] ![1, 256] (by decide)))⟩]

/-- Reading the whole of the hidden activations back reads what the stores left. -/
theorem readCov_whole {κ : Kind} {sp : Space} (v : View sig κ sp S1024x2816 .bf16) (L : List (View.Piece (Elt F) S1024x2816 .bf16))
    (inb : ∀ a, (![0, 0] : Fin 2 → Nat) a + S1024x2816.size a ≤ S1024x2816.size a) :
    v.readCov L (Rect.unit (s := S1024x2816) ![0, 0] S1024x2816.size inb).toLoadRect = View.canon L := by
  rw [View.readCov_eq_canon']
  exact View.ld_unit_zero (S := S1024x2816) hz2 inb (View.canon L)

/-- What a grid point leaves in its output block, from its input blocks. -/
theorem block_eq (c : Dev nD) (t : Fin cfg0.N) : outsAt0 m c t =
    k0_pay2 (View.canon (pieces (mid (iblk m c 1 t) (iblk m c 3 t) (iblk m c 4 t) (iblk m c 6 t))
      (ext (grid0.coords t) (iblk m c 0 t) (iblk m c 1 t) (iblk m c 2 t) (iblk m c 3 t) (iblk m c 4 t) (iblk m c 6 t))
      (iblk m c 7 t) (iblk m c 8 t) (iblk m c 9 t) (iblk m c 10 t))) (iblk m c 11 t) (iblk m c 1 t) (iblk m c 5 t) := by
  unfold outsAt0 out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))]
  unfold kernelRun0_A
  dsimp only
  sl_unfold_words
  rw [View.canon_unit_zero hz2]
  simp (disch := decide) only [View.readAt_eq_ld, (hs0_0 t).read_unread, (hs0_1 t).read_unread,(hs0_2 t).read_unread,(hs0_3 t).read_unread,(hs0_4 t).read_unread,(hs0_5 t).read_unread,(hs0_6 t).read_unread,(hs0_7 t).read_unread,(hs0_8 t).read_unread,(hs0_9 t).read_unread,(hs0_10 t).read_unread,(hs0_11 t).read_unread]
  simp only [View.ld_unit_zero (S := S1024x1024) hz2, View.ld_unit_zero (S := S8x1024) hz2, View.ld_unit_zero (S := S1x1024) hz2,
    View.ld_unit_zero (S := S2816x1024) hz2, View.ld_unit_zero (S := S1x1x1024) hz3]
  rw [readCov_whole]
  refine congrArg (fun L => k0_pay2 (View.canon L) _ _ _) ?_
  unfold pieces
  repeat' refine congrArg₂ List.cons (congrArg (Sigma.mk _) ?_) ?_
  all_goals rfl

end Cert.Ffn
end
-- ==== Proof.FfnRows.lean ====
/-
  The feed-forward block's stages at the ideal values, read at a row and a column.
-/
module

public import proofs.«01_k».proof.Proof.FfnBlock
public import proofs.«01_k».proof.Proof.FfnSpec
public import Idealize.ShloMosaic.Lib.Pointwise

@[expose] public section

set_option maxRecDepth 16384

noncomputable section

namespace Cert.Ffn

open Cert.FfnIdeal Cert.FfnIdeal.Gen Idealize.ShloMosaic Idealize.ShloMosaic.TcCoe Idealize.SL.Sem

theorem mid_apply (x1 : Vec Ideal S1024x1024 .f32) (x3 x4 : Vec Ideal S1x1x1024 .f32) (x6 : Vec Ideal S1x1024 .f32) (i k : Fin 1024) :
    mid x1 x3 x4 x6 (ix2 i k)
      = norm (fun k => x1 (ix2 i k)) (fun k => x6 (ix2 (0 : Fin 1) k)) (fun k => x4 (ix3 (0 : Fin 1) (0 : Fin 1) k))
          (fun k => x3 (ix3 (0 : Fin 1) (0 : Fin 1) k)) k := by
  unfold mid k0_pay7 k0_pay6 norm
  pointwise [k0_pay5]

theorem chunk_apply (am : FVec Ideal S1024x1024 .bf16) (ae : FVec Ideal S1040x1024 .bf16) (wg wu : Vec Ideal S1024x256 .bf16)
    (w0 w1 w2 b : Vec Ideal S1x256 .f32) (i : Fin 1024) (l : Fin 256) :
    chunk am ae wg wu w0 w1 w2 b (ix2 i l)
      = hid (∑ k : Fin 1024, ae (ix2 (⟨i.val + 7, by omega⟩ : Fin 1040) k) * wg (ix2 k l))
          (∑ k : Fin 1024, ae (ix2 (⟨i.val + 8, by omega⟩ : Fin 1040) k) * wg (ix2 k l))
          (∑ k : Fin 1024, ae (ix2 (⟨i.val + 9, by omega⟩ : Fin 1040) k) * wg (ix2 k l))
          (w0 (ix2 (0 : Fin 1) l)) (w1 (ix2 (0 : Fin 1) l)) (w2 (ix2 (0 : Fin 1) l)) (b (ix2 (0 : Fin 1) l))
          (∑ k : Fin 1024, am (ix2 i k) * wu (ix2 k l)) := by
  unfold chunk k0_pay13 k0_pay12 hid
  pointwise
  have e1 : (i.val + 8 + 1040 - 1) % 1040 = i.val + 7 := by omega
  have e2 : (i.val + 8 + 1040 - 1039) % 1040 = i.val + 9 := by omega
  have e3 : 8 + i.val = i.val + 8 := by omega
  simp only [e3, e1, e2]

theorem last_apply (a : Vec Ideal S1024x2816 .bf16) (wo : Vec Ideal S2816x1024 .bf16) (h : Vec Ideal S1024x1024 .f32)
    (g : Vec Ideal S1x1x1024 .f32) (i d : Fin 1024) :
    k0_pay2 a wo h g (ix2 i d) = h (ix2 i d) + g (ix3 (0 : Fin 1) (0 : Fin 1) d) * ∑ f : Fin 2816, a (ix2 i f) * wo (ix2 f d) := by
  unfold k0_pay2
  pointwise

theorem ext_mid (i : grid0.Coords) (x0 : Vec Ideal S8x1024 .f32) (x1 : Vec Ideal S1024x1024 .f32) (x2 : Vec Ideal S8x1024 .f32)
    (x3 x4 : Vec Ideal S1x1x1024 .f32) (x6 : Vec Ideal S1x1024 .f32) (r : Fin 1040) (k : Fin 1024) (h8 : 8 ≤ r.val) (hr : r.val < 1032) :
    ext i x0 x1 x2 x3 x4 x6 (ix2 r k) = mid x1 x3 x4 x6 (ix2 (⟨r.val - 8, by omega⟩ : Fin 1024) k) := by
  unfold ext k0_pay9
  pointwise
  rw [dif_neg (by omega), dif_pos (by omega)]

theorem ext_pre (i : grid0.Coords) (x0 : Vec Ideal S8x1024 .f32) (x1 : Vec Ideal S1024x1024 .f32) (x2 : Vec Ideal S8x1024 .f32)
    (x3 x4 : Vec Ideal S1x1x1024 .f32) (x6 : Vec Ideal S1x1024 .f32) (k : Fin 1024) :
    ext i x0 x1 x2 x3 x4 x6 (ix2 (7 : Fin 1040) k)
      = norm (fun k => x0 (ix2 (7 : Fin 8) k)) (fun k => x6 (ix2 (0 : Fin 1) k)) (fun k => x4 (ix3 (0 : Fin 1) (0 : Fin 1) k))
          (fun k => x3 (ix3 (0 : Fin 1) (0 : Fin 1) k)) k * k0_pay3 (F := Ideal) i := by
  unfold ext k0_pay9 k0_pay8 norm
  pointwise

theorem ext_post (i : grid0.Coords) (x0 : Vec Ideal S8x1024 .f32) (x1 : Vec Ideal S1024x1024 .f32) (x2 : Vec Ideal S8x1024 .f32)
    (x3 x4 : Vec Ideal S1x1x1024 .f32) (x6 : Vec Ideal S1x1024 .f32) (k : Fin 1024) :
    ext i x0 x1 x2 x3 x4 x6 (ix2 (1032 : Fin 1040) k)
      = norm (fun k => x2 (ix2 (0 : Fin 8) k)) (fun k => x6 (ix2 (0 : Fin 1) k)) (fun k => x4 (ix3 (0 : Fin 1) (0 : Fin 1) k))
          (fun k => x3 (ix3 (0 : Fin 1) (0 : Fin 1) k)) k * k0_pay4 (F := Ideal) i := by
  unfold ext k0_pay9 norm
  pointwise

/-- The kernel's test of the token `n` against the start of a batch, as a word. -/
def inside (n : BitVec 32) : BitVec 32 :=
  Scalar.extui (Scalar.cmpi .ne (Scalar.select (Scalar.andi (Scalar.xori (Scalar.cmpi .slt (Scalar.remsi n (Scalar.select (Scalar.cmpi .eq 8192#32 0#32) 1#32 8192#32)) 0#32)
      (Scalar.cmpi .slt (Scalar.select (Scalar.cmpi .eq 8192#32 0#32) 1#32 8192#32) 0#32))
      (Scalar.cmpi .ne (Scalar.remsi n (Scalar.select (Scalar.cmpi .eq 8192#32 0#32) 1#32 8192#32)) 0#32))
    (Scalar.addi (Scalar.remsi n (Scalar.select (Scalar.cmpi .eq 8192#32 0#32) 1#32 8192#32)) (Scalar.select (Scalar.cmpi .eq 8192#32 0#32) 1#32 8192#32))
    (Scalar.remsi n (Scalar.select (Scalar.cmpi .eq 8192#32 0#32) 1#32 8192#32))) 0#32)

theorem prev_word : ∀ t : Fin cfg0.N, inside (Scalar.muli (BitVec.ofNat 32 (grid0.coords t 0).val) 1024#32) = if t.val % 8 = 0 then 0#32 else 1#32 :=
  (by decide +kernel : ∀ t : Fin grid0.N, _)

theorem next_word : ∀ t : Fin cfg0.N, inside (Scalar.addi (Scalar.muli (BitVec.ofNat 32 (grid0.coords t 0).val) 1024#32) 1024#32)
    = if t.val % 8 = 7 then 0#32 else 1#32 :=
  (by decide +kernel : ∀ t : Fin grid0.N, _)

theorem sitofp_zero : Scalar.sitofp (F := Ideal) .f32 (0#32) = 0 := by
  show (((0#32 : BitVec 32).toInt : ℝ) : EReal) = 0
  simp

theorem sitofp_one : Scalar.sitofp (F := Ideal) .f32 (1#32) = 1 := by
  show (((1#32 : BitVec 32).toInt : ℝ) : EReal) = 1
  simp

/-- Whether a block begins inside its batch: nought at the first block of each eight. -/
theorem pay3_eq (t : Fin cfg0.N) : k0_pay3 (F := Ideal) (grid0.coords t) = if t.val % 8 = 0 then 0 else 1 := by
  have e : k0_pay3 (F := Ideal) (grid0.coords t) = Scalar.sitofp .f32 (inside (Scalar.muli (BitVec.ofNat 32 (grid0.coords t 0).val) 1024#32)) := rfl
  rw [e, prev_word]
  split
  · exact sitofp_zero
  · exact sitofp_one

/-- Whether a block ends inside its batch: nought at the last block of each eight. -/
theorem pay4_eq (t : Fin cfg0.N) : k0_pay4 (F := Ideal) (grid0.coords t) = if t.val % 8 = 7 then 0 else 1 := by
  have e : k0_pay4 (F := Ideal) (grid0.coords t)
      = Scalar.sitofp .f32 (inside (Scalar.addi (Scalar.muli (BitVec.ofNat 32 (grid0.coords t 0).val) 1024#32) 1024#32)) := rfl
  rw [e, next_word]
  split
  · exact sitofp_zero
  · exact sitofp_one

end Cert.Ffn
end
-- ==== Proof.FfnHidden.lean ====
/-
  The hidden activations of a block, read at a row and a column: the eleven stores side by side.
-/
module

public import proofs.«01_k».proof.Proof.FfnRows
public import Idealize.ShloMosaic.Lib.Pipeline.ValueKit

@[expose] public section

set_option maxRecDepth 16384

noncomputable section

namespace Cert.Ffn

open Cert.FfnIdeal Cert.FfnIdeal.Gen Idealize.ShloMosaic Idealize.ShloMosaic.TcCoe Idealize.SL.Sem

/-- The hidden activation of a row at a column. -/
def hidBlock (am : FVec Ideal S1024x1024 .bf16) (ae : FVec Ideal S1040x1024 .bf16) (x7 x8 : Vec Ideal S1024x2816 .bf16) (x9 : Vec Ideal S3x2816 .f32)
    (x10 : Vec Ideal S1x2816 .f32) : FVec Ideal S1024x2816 .bf16 := fun y =>
  hid (∑ k : Fin 1024, ae (ix2 (⟨(y 0).val + 7, by have : (y 0).val < 1024 := (y 0).isLt; omega⟩ : Fin 1040) k) * x7 (ix2 k (y 1)))
    (∑ k : Fin 1024, ae (ix2 (⟨(y 0).val + 8, by have : (y 0).val < 1024 := (y 0).isLt; omega⟩ : Fin 1040) k) * x7 (ix2 k (y 1)))
    (∑ k : Fin 1024, ae (ix2 (⟨(y 0).val + 9, by have : (y 0).val < 1024 := (y 0).isLt; omega⟩ : Fin 1040) k) * x7 (ix2 k (y 1)))
    (x9 (ix2 (0 : Fin 3) (y 1))) (x9 (ix2 (1 : Fin 3) (y 1))) (x9 (ix2 (2 : Fin 3) (y 1))) (x10 (ix2 (0 : Fin 1) (y 1)))
    (∑ k : Fin 1024, am (ix2 (y 0) k) * x8 (ix2 k (y 1)))

variable (am : FVec Ideal S1024x1024 .bf16) (ae : FVec Ideal S1040x1024 .bf16) (x7 x8 : Vec Ideal S1024x2816 .bf16) (x9 : Vec Ideal S3x2816 .f32)
    (x10 : Vec Ideal S1x2816 .f32)

/-- One store's columns. -/
theorem piece_apply (o : ℕ) (h7 : ∀ a, (![0, o] : Fin 2 → ℕ) a + (![1024, 256] : Fin 2 → ℕ) a ≤ S1024x2816.size a)
    (h9 : ∀ a, (![0, o] : Fin 2 → ℕ) a + (![1, 256] : Fin 2 → ℕ) a ≤ S3x2816.size a)
    (h9' : ∀ a, (![1, o] : Fin 2 → ℕ) a + (![1, 256] : Fin 2 → ℕ) a ≤ S3x2816.size a)
    (h9'' : ∀ a, (![2, o] : Fin 2 → ℕ) a + (![1, 256] : Fin 2 → ℕ) a ≤ S3x2816.size a)
    (h10 : ∀ a, (![0, o] : Fin 2 → ℕ) a + (![1, 256] : Fin 2 → ℕ) a ≤ S1x2816.size a)
    (x : (Rect.unit (s := S1024x2816) ![0, o] ![1024, 256] h7).shape.Idx) (y : S1024x2816.Idx)
    (hy : ∀ a, (y a : ℕ) = (![0, o] : Fin 2 → ℕ) a + x a) :
    chunk am ae (View.ld x7 (Rect.unit ![0, o] ![1024, 256] h7)) (View.ld x8 (Rect.unit ![0, o] ![1024, 256] h7))
        (View.ld x9 (Rect.unit ![0, o] ![1, 256] h9)) (View.ld x9 (Rect.unit ![1, o] ![1, 256] h9')) (View.ld x9 (Rect.unit ![2, o] ![1, 256] h9''))
        (View.ld x10 (Rect.unit ![0, o] ![1, 256] h10)) x = hidBlock am ae x7 x8 x9 x10 y := by
  obtain ⟨i, l, rfl⟩ : ∃ (i : Fin 1024) (l : Fin 256), x = ix2 i l := ⟨x 0, x 1, by ext a; fin_cases a <;> rfl⟩
  obtain ⟨j, f, rfl⟩ : ∃ (i : Fin 1024) (l : Fin 2816), y = ix2 i l := ⟨y 0, y 1, by ext a; fin_cases a <;> rfl⟩
  have hj : j = i := Fin.ext ((hy 0).trans (Nat.zero_add _))
  have hf : f.val = o + l.val := hy 1
  subst hj
  refine (chunk_apply _ _ _ _ _ _ _ _ _ _).trans ?_
  unfold hidBlock
  have e7 (X : Vec Ideal S1024x2816 .bf16) (k : Fin 1024) :
      View.ld X (Rect.unit ![0, o] ![1024, 256] h7) (ix2 k l) = X (ix2 k f) :=
    View.ld_unit_apply_of X _ _ h7 _ _ (fun a => by fin_cases a <;> simp [hf])
  have e9 : View.ld x9 (Rect.unit ![0, o] ![1, 256] h9) (ix2 (0 : Fin 1) l) = x9 (ix2 (0 : Fin 3) f) :=
    View.ld_unit_apply_of x9 _ _ h9 _ _ (fun a => by fin_cases a <;> simp [hf])
  have e9' : View.ld x9 (Rect.unit ![1, o] ![1, 256] h9') (ix2 (0 : Fin 1) l) = x9 (ix2 (1 : Fin 3) f) :=
    View.ld_unit_apply_of x9 _ _ h9' _ _ (fun a => by fin_cases a <;> simp [hf])
  have e9'' : View.ld x9 (Rect.unit ![2, o] ![1, 256] h9'') (ix2 (0 : Fin 1) l) = x9 (ix2 (2 : Fin 3) f) :=
    View.ld_unit_apply_of x9 _ _ h9'' _ _ (fun a => by fin_cases a <;> simp [hf])
  have e10 : View.ld x10 (Rect.unit ![0, o] ![1, 256] h10) (ix2 (0 : Fin 1) l) = x10 (ix2 (0 : Fin 1) f) :=
    View.ld_unit_apply_of x10 _ _ h10 _ _ (fun a => by fin_cases a <;> simp [hf])
  refine congr (congr (congr (congr (congr (congr (congr (congrArg hid ?_) ?_) ?_) e9) e9') e9'') e10) ?_
  all_goals exact Finset.sum_congr rfl fun k _ => congrArg (_ * ·) (e7 _ k)

/-- What the eleven stores leave. -/
theorem canon_eq : View.canon (pieces am ae x7 x8 x9 x10) = hidBlock am ae x7 x8 x9 x10 := by
  funext y
  unfold pieces
  canon_tiles x h
  all_goals exact piece_apply am ae x7 x8 x9 x10 _ _ _ _ _ _ x y (fun a => match a with
    | ⟨0, _⟩ => h0.trans (Nat.zero_add _).symm
    | ⟨1, _⟩ => h1.trans (by simp))

end Cert.Ffn
end
-- ==== Proof.FfnBlocks.lean ====
/-
  The blocks that a grid point of the feed-forward call reads, as elements of the arrays.
-/
module

public import proofs.«01_k».proof.Proof.FfnSpec
public import proofs.«01_k».proof.Proof.Gen.FfnIdeal.Value
public import Idealize.ShloMosaic.Lib.StableHlo.ReadAt
public import Idealize.ShloMosaic.Lib.Pipeline.ValueKit

@[expose] public section

set_option maxRecDepth 16384

noncomputable section

namespace Cert.Ffn

open Cert.FfnIdeal Cert.FfnIdeal.Gen Idealize.ShloMosaic Idealize.ShloMosaic.TcCoe Idealize.SL.Sem

/-- The blocks' places: the eight rows before, the block, the eight rows after, the batch `t / 8`. -/
theorem idx : ∀ t : Fin cfg0.N,
    win0_0.index t = ![t.val * 128 - 1, 0] ∧ win0_1.index t = ![t.val, 0] ∧ win0_2.index t = ![min ((t.val + 1) * 128) 4095, 0]
      ∧ win0_3.index t = ![t.val / 8, 0, 0] ∧ win0_4.index t = ![t.val / 8, 0, 0] ∧ win0_5.index t = ![t.val / 8, 0, 0]
      ∧ win0_6.index t = ![0, 0] ∧ win0_7.index t = ![0, 0] ∧ win0_8.index t = ![0, 0] ∧ win0_9.index t = ![0, 0]
      ∧ win0_10.index t = ![0, 0] ∧ win0_11.index t = ![0, 0] ∧ win0_12.index t = ![t.val, 0] :=
  (by decide +kernel : ∀ t : Fin grid0.N, _)

theorem t_lt (t : Fin cfg0.N) : t.val < 32 := t.isLt

/-- The batch of a point and the rows of its blocks. -/
def bOf (t : Fin cfg0.N) : Fin 4 := ⟨t.val / 8, by have := t_lt t; omega⟩
def rowOf (t : Fin cfg0.N) (r : Fin 1024) : Fin 32768 := ⟨t.val * 1024 + r.val, by have := t_lt t; omega⟩
def preRow (t : Fin cfg0.N) (r : Fin 8) : Fin 32768 := ⟨(t.val * 128 - 1) * 8 + r.val, by have := t_lt t; omega⟩
def postRow (t : Fin cfg0.N) (r : Fin 8) : Fin 32768 := ⟨min ((t.val + 1) * 128) 4095 * 8 + r.val, by have := t_lt t; omega⟩

theorem emb0 (t : Fin cfg0.N) (r : Fin 8) (k : Fin 1024) : (win0_0.blk t).view.emb (ix2 r k) = (ix2 (preRow t r) k : S32768x1024.Idx) := by
  unfold preRow
  blk_ext [idx t]

theorem emb1 (t : Fin cfg0.N) (r : Fin 1024) (k : Fin 1024) : (win0_1.blk t).view.emb (ix2 r k) = (ix2 (rowOf t r) k : S32768x1024.Idx) := by
  unfold rowOf
  blk_ext [idx t]

theorem emb2 (t : Fin cfg0.N) (r : Fin 8) (k : Fin 1024) : (win0_2.blk t).view.emb (ix2 r k) = (ix2 (postRow t r) k : S32768x1024.Idx) := by
  unfold postRow
  blk_ext [idx t]

theorem emb3 (t : Fin cfg0.N) (k : Fin 1024) : (win0_3.blk t).view.emb (ix3 (0 : Fin 1) (0 : Fin 1) k) = (ix3 (bOf t) (0 : Fin 1) k : S4x1x1024.Idx) := by
  unfold bOf
  blk_ext [idx t]

theorem emb4 (t : Fin cfg0.N) (k : Fin 1024) : (win0_4.blk t).view.emb (ix3 (0 : Fin 1) (0 : Fin 1) k) = (ix3 (bOf t) (0 : Fin 1) k : S4x1x1024.Idx) := by
  unfold bOf
  blk_ext [idx t]

theorem emb5 (t : Fin cfg0.N) (k : Fin 1024) : (win0_5.blk t).view.emb (ix3 (0 : Fin 1) (0 : Fin 1) k) = (ix3 (bOf t) (0 : Fin 1) k : S4x1x1024.Idx) := by
  unfold bOf
  blk_ext [idx t]

theorem emb6 (t : Fin cfg0.N) (r : Fin 1) (k : Fin 1024) : (win0_6.blk t).view.emb (ix2 r k) = (ix2 r k : S1x1024.Idx) := by
  blk_ext [idx t]

theorem emb7 (t : Fin cfg0.N) (r : Fin 1024) (k : Fin 2816) : (win0_7.blk t).view.emb (ix2 r k) = (ix2 r k : S1024x2816.Idx) := by
  blk_ext [idx t]

theorem emb8 (t : Fin cfg0.N) (r : Fin 1024) (k : Fin 2816) : (win0_8.blk t).view.emb (ix2 r k) = (ix2 r k : S1024x2816.Idx) := by
  blk_ext [idx t]

theorem emb9 (t : Fin cfg0.N) (r : Fin 3) (k : Fin 2816) : (win0_9.blk t).view.emb (ix2 r k) = (ix2 r k : S3x2816.Idx) := by
  blk_ext [idx t]

theorem emb10 (t : Fin cfg0.N) (r : Fin 1) (k : Fin 2816) : (win0_10.blk t).view.emb (ix2 r k) = (ix2 r k : S1x2816.Idx) := by
  blk_ext [idx t]

theorem emb11 (t : Fin cfg0.N) (r : Fin 2816) (k : Fin 1024) : (win0_11.blk t).view.emb (ix2 r k) = (ix2 r k : S2816x1024.Idx) := by
  blk_ext [idx t]

theorem emb12 (t : Fin cfg0.N) (r : Fin 1024) (k : Fin 1024) : (win0_12.blk t).view.emb (ix2 r k) = (ix2 (rowOf t r) k : S32768x1024.Idx) := by
  unfold rowOf
  blk_ext [idx t]

variable (c : Dev nD)

theorem read0 (X : Buf (Elt Ideal) ((c : Thread nD τ).loc main_v0)) (t : Fin cfg0.N) (r : Fin 8) (k : Fin 1024) :
    ((cfg0.win 0).blk t).view.read (Elt Ideal) X (ix2 r k) = X (ix2 (preRow t r) k) := by
  refine Eq.trans ?_ (congrArg X (emb0 t r k))
  blk_simp

theorem read1 (X : Buf (Elt Ideal) ((c : Thread nD τ).loc main_v0)) (t : Fin cfg0.N) (r : Fin 1024) (k : Fin 1024) :
    ((cfg0.win 1).blk t).view.read (Elt Ideal) X (ix2 r k) = X (ix2 (rowOf t r) k) := by
  refine Eq.trans ?_ (congrArg X (emb1 t r k))
  blk_simp

theorem read2 (X : Buf (Elt Ideal) ((c : Thread nD τ).loc main_v0)) (t : Fin cfg0.N) (r : Fin 8) (k : Fin 1024) :
    ((cfg0.win 2).blk t).view.read (Elt Ideal) X (ix2 r k) = X (ix2 (postRow t r) k) := by
  refine Eq.trans ?_ (congrArg X (emb2 t r k))
  blk_simp

theorem read3 (X : Buf (Elt Ideal) ((c : Thread nD τ).loc main_arg1)) (t : Fin cfg0.N) (k : Fin 1024) :
    ((cfg0.win 3).blk t).view.read (Elt Ideal) X (ix3 (0 : Fin 1) (0 : Fin 1) k) = X (ix3 (bOf t) (0 : Fin 1) k) := by
  refine Eq.trans ?_ (congrArg X (emb3 t k))
  blk_simp

theorem read4 (X : Buf (Elt Ideal) ((c : Thread nD τ).loc main_arg2)) (t : Fin cfg0.N) (k : Fin 1024) :
    ((cfg0.win 4).blk t).view.read (Elt Ideal) X (ix3 (0 : Fin 1) (0 : Fin 1) k) = X (ix3 (bOf t) (0 : Fin 1) k) := by
  refine Eq.trans ?_ (congrArg X (emb4 t k))
  blk_simp

theorem read5 (X : Buf (Elt Ideal) ((c : Thread nD τ).loc main_arg3)) (t : Fin cfg0.N) (k : Fin 1024) :
    ((cfg0.win 5).blk t).view.read (Elt Ideal) X (ix3 (0 : Fin 1) (0 : Fin 1) k) = X (ix3 (bOf t) (0 : Fin 1) k) := by
  refine Eq.trans ?_ (congrArg X (emb5 t k))
  blk_simp

theorem read6 (X : Buf (Elt Ideal) ((c : Thread nD τ).loc main_v1)) (t : Fin cfg0.N) (r : Fin 1) (k : Fin 1024) :
    ((cfg0.win 6).blk t).view.read (Elt Ideal) X (ix2 r k) = X (ix2 r k) := by
  refine Eq.trans ?_ (congrArg X (emb6 t r k))
  blk_simp

theorem read7 (X : Buf (Elt Ideal) ((c : Thread nD τ).loc main_v3)) (t : Fin cfg0.N) (r : Fin 1024) (k : Fin 2816) :
    ((cfg0.win 7).blk t).view.read (Elt Ideal) X (ix2 r k) = X (ix2 r k) := by
  refine Eq.trans ?_ (congrArg X (emb7 t r k))
  blk_simp

theorem read8 (X : Buf (Elt Ideal) ((c : Thread nD τ).loc main_v5)) (t : Fin cfg0.N) (r : Fin 1024) (k : Fin 2816) :
    ((cfg0.win 8).blk t).view.read (Elt Ideal) X (ix2 r k) = X (ix2 r k) := by
  refine Eq.trans ?_ (congrArg X (emb8 t r k))
  blk_simp

theorem read9 (X : Buf (Elt Ideal) ((c : Thread nD τ).loc main_arg6)) (t : Fin cfg0.N) (r : Fin 3) (k : Fin 2816) :
    ((cfg0.win 9).blk t).view.read (Elt Ideal) X (ix2 r k) = X (ix2 r k) := by
  refine Eq.trans ?_ (congrArg X (emb9 t r k))
  blk_simp

theorem read10 (X : Buf (Elt Ideal) ((c : Thread nD τ).loc main_v6)) (t : Fin cfg0.N) (r : Fin 1) (k : Fin 2816) :
    ((cfg0.win 10).blk t).view.read (Elt Ideal) X (ix2 r k) = X (ix2 r k) := by
  refine Eq.trans ?_ (congrArg X (emb10 t r k))
  blk_simp

theorem read11 (X : Buf (Elt Ideal) ((c : Thread nD τ).loc main_v7)) (t : Fin cfg0.N) (r : Fin 2816) (k : Fin 1024) :
    ((cfg0.win 11).blk t).view.read (Elt Ideal) X (ix2 r k) = X (ix2 r k) := by
  refine Eq.trans ?_ (congrArg X (emb11 t r k))
  blk_simp

variable (m : (ℓ : Loc nD τ sig) → Buf (Elt Ideal) ℓ)

theorem blk0 (t : Fin cfg0.N) (r : Fin 8) (k : Fin 1024) :
    (iblk m c 0 t : FVec Ideal S8x1024 .f32) (ix2 r k) = (V m c main_v0 : FVec Ideal S32768x1024 .f32) (ix2 (preRow t r) k) :=
  read0 c (V m c main_v0) t r k

theorem blk1 (t : Fin cfg0.N) (r : Fin 1024) (k : Fin 1024) :
    (iblk m c 1 t : FVec Ideal S1024x1024 .f32) (ix2 r k) = (V m c main_v0 : FVec Ideal S32768x1024 .f32) (ix2 (rowOf t r) k) :=
  read1 c (V m c main_v0) t r k

theorem blk2 (t : Fin cfg0.N) (r : Fin 8) (k : Fin 1024) :
    (iblk m c 2 t : FVec Ideal S8x1024 .f32) (ix2 r k) = (V m c main_v0 : FVec Ideal S32768x1024 .f32) (ix2 (postRow t r) k) :=
  read2 c (V m c main_v0) t r k

theorem blk3 (t : Fin cfg0.N) (k : Fin 1024) :
    (iblk m c 3 t : FVec Ideal S1x1x1024 .f32) (ix3 (0 : Fin 1) (0 : Fin 1) k) = (V m c main_arg1 : FVec Ideal S4x1x1024 .f32) (ix3 (bOf t) (0 : Fin 1) k) :=
  read3 c (V m c main_arg1) t k

theorem blk4 (t : Fin cfg0.N) (k : Fin 1024) :
    (iblk m c 4 t : FVec Ideal S1x1x1024 .f32) (ix3 (0 : Fin 1) (0 : Fin 1) k) = (V m c main_arg2 : FVec Ideal S4x1x1024 .f32) (ix3 (bOf t) (0 : Fin 1) k) :=
  read4 c (V m c main_arg2) t k

theorem blk5 (t : Fin cfg0.N) (k : Fin 1024) :
    (iblk m c 5 t : FVec Ideal S1x1x1024 .f32) (ix3 (0 : Fin 1) (0 : Fin 1) k) = (V m c main_arg3 : FVec Ideal S4x1x1024 .f32) (ix3 (bOf t) (0 : Fin 1) k) :=
  read5 c (V m c main_arg3) t k

theorem blk6 (t : Fin cfg0.N) (r : Fin 1) (k : Fin 1024) :
    (iblk m c 6 t : FVec Ideal S1x1024 .f32) (ix2 r k) = (V m c main_v1 : FVec Ideal S1x1024 .f32) (ix2 r k) :=
  read6 c (V m c main_v1) t r k

theorem blk7 (t : Fin cfg0.N) (r : Fin 1024) (k : Fin 2816) :
    (iblk m c 7 t : FVec Ideal S1024x2816 .bf16) (ix2 r k) = (V m c main_v3 : FVec Ideal S1024x2816 .bf16) (ix2 r k) :=
  read7 c (V m c main_v3) t r k

theorem blk8 (t : Fin cfg0.N) (r : Fin 1024) (k : Fin 2816) :
    (iblk m c 8 t : FVec Ideal S1024x2816 .bf16) (ix2 r k) = (V m c main_v5 : FVec Ideal S1024x2816 .bf16) (ix2 r k) :=
  read8 c (V m c main_v5) t r k

theorem blk9 (t : Fin cfg0.N) (r : Fin 3) (k : Fin 2816) :
    (iblk m c 9 t : FVec Ideal S3x2816 .f32) (ix2 r k) = (V m c main_arg6 : FVec Ideal S3x2816 .f32) (ix2 r k) :=
  read9 c (V m c main_arg6) t r k

theorem blk10 (t : Fin cfg0.N) (r : Fin 1) (k : Fin 2816) :
    (iblk m c 10 t : FVec Ideal S1x2816 .f32) (ix2 r k) = (V m c main_v6 : FVec Ideal S1x2816 .f32) (ix2 r k) :=
  read10 c (V m c main_v6) t r k

theorem blk11 (t : Fin cfg0.N) (r : Fin 2816) (k : Fin 1024) :
    (iblk m c 11 t : FVec Ideal S2816x1024 .bf16) (ix2 r k) = (V m c main_v7 : FVec Ideal S2816x1024 .bf16) (ix2 r k) :=
  read11 c (V m c main_v7) t r k

theorem v0_at (r : Fin 32768) (k : Fin 1024) :
    (V m c main_v0 : FVec Ideal S32768x1024 .f32) (ix2 r k)
      = (m (c, Proc.tc.devRef main_arg0) : FVec Ideal S4x8192x1024 .f32)
          (ix3 (⟨r.val / 8192, by omega⟩ : Fin 4) (⟨r.val % 8192, by omega⟩ : Fin 8192) k) := by
  unfold V
  repeat after_reads_at

theorem v1_at (k : Fin 1024) :
    (V m c main_v1 : FVec Ideal S1x1024 .f32) (ix2 (0 : Fin 1) k) = (m (c, Proc.tc.devRef main_arg4) : FVec Ideal S1024 .f32) (ix1 k) := by
  unfold V
  repeat after_reads_at

theorem v3_at (k : Fin 1024) (f : Fin 2816) :
    (V m c main_v3 : FVec Ideal S1024x2816 .bf16) (ix2 k f)
      = (m (c, Proc.tc.devRef main_arg5) : FVec Ideal S1024x5632 .f32) (ix2 k (⟨f.val, by omega⟩ : Fin 5632)) := by
  unfold V
  repeat after_reads_at

theorem v5_at (k : Fin 1024) (f : Fin 2816) :
    (V m c main_v5 : FVec Ideal S1024x2816 .bf16) (ix2 k f)
      = (m (c, Proc.tc.devRef main_arg5) : FVec Ideal S1024x5632 .f32) (ix2 k (⟨2816 + f.val, by omega⟩ : Fin 5632)) := by
  unfold V
  repeat after_reads_at

theorem v6_at (k : Fin 2816) :
    (V m c main_v6 : FVec Ideal S1x2816 .f32) (ix2 (0 : Fin 1) k) = (m (c, Proc.tc.devRef main_arg7) : FVec Ideal S2816 .f32) (ix1 k) := by
  unfold V
  repeat after_reads_at

theorem v7_at (f : Fin 2816) (d : Fin 1024) :
    (V m c main_v7 : FVec Ideal S2816x1024 .bf16) (ix2 f d) = (m (c, Proc.tc.devRef main_arg8) : FVec Ideal S2816x1024 .f32) (ix2 f d) := by
  unfold V
  repeat after_reads_at

theorem arg1_at (b : Fin 4) (k : Fin 1024) :
    (V m c main_arg1 : FVec Ideal S4x1x1024 .f32) (ix3 b (0 : Fin 1) k)
      = (m (c, Proc.tc.devRef main_arg1) : FVec Ideal S4x1x1024 .f32) (ix3 b (0 : Fin 1) k) := by
  unfold V
  repeat after_reads_at

theorem arg2_at (b : Fin 4) (k : Fin 1024) :
    (V m c main_arg2 : FVec Ideal S4x1x1024 .f32) (ix3 b (0 : Fin 1) k)
      = (m (c, Proc.tc.devRef main_arg2) : FVec Ideal S4x1x1024 .f32) (ix3 b (0 : Fin 1) k) := by
  unfold V
  repeat after_reads_at

theorem arg3_at (b : Fin 4) (k : Fin 1024) :
    (V m c main_arg3 : FVec Ideal S4x1x1024 .f32) (ix3 b (0 : Fin 1) k)
      = (m (c, Proc.tc.devRef main_arg3) : FVec Ideal S4x1x1024 .f32) (ix3 b (0 : Fin 1) k) := by
  unfold V
  repeat after_reads_at

theorem arg6_at (r : Fin 3) (k : Fin 2816) :
    (V m c main_arg6 : FVec Ideal S3x2816 .f32) (ix2 r k) = (m (c, Proc.tc.devRef main_arg6) : FVec Ideal S3x2816 .f32) (ix2 r k) := by
  unfold V
  repeat after_reads_at

end Cert.Ffn
end
-- ==== Proof.FfnArray.lean ====
/-
  The array that the feed-forward call leaves: every element is the plain sums' element.
-/
module

public import proofs.«01_k».proof.Proof.FfnHidden
public import proofs.«01_k».proof.Proof.FfnBlocks
public import Idealize.ShloMosaic.Lib.Pipeline.ValueKit

@[expose] public section

set_option maxRecDepth 16384

noncomputable section

namespace Cert.Ffn

open Cert.FfnIdeal Cert.FfnIdeal.Gen Idealize.ShloMosaic Idealize.ShloMosaic.TcCoe Idealize.SL.Sem

variable (m : (ℓ : Loc nD τ sig) → Buf (Elt Ideal) ℓ) (c : Dev nD)

/-- The arguments as arrays. -/
def argH : Arr3 4 8192 1024 := (m (c, Proc.tc.devRef main_arg0) : FVec Ideal S4x8192x1024 .f32)
def argSh : Arr3 4 1 1024 := (m (c, Proc.tc.devRef main_arg1) : FVec Ideal S4x1x1024 .f32)
def argSc : Arr3 4 1 1024 := (m (c, Proc.tc.devRef main_arg2) : FVec Ideal S4x1x1024 .f32)
def argGt : Arr3 4 1 1024 := (m (c, Proc.tc.devRef main_arg3) : FVec Ideal S4x1x1024 .f32)
def argNw : Arr1 1024 := (m (c, Proc.tc.devRef main_arg4) : FVec Ideal S1024 .f32)
def argW : Arr2 1024 5632 := (m (c, Proc.tc.devRef main_arg5) : FVec Ideal S1024x5632 .f32)
def argWd : Arr2 3 2816 := (m (c, Proc.tc.devRef main_arg6) : FVec Ideal S3x2816 .f32)
def argBd : Arr1 2816 := (m (c, Proc.tc.devRef main_arg7) : FVec Ideal S2816 .f32)
def argWo : Arr2 2816 1024 := (m (c, Proc.tc.devRef main_arg8) : FVec Ideal S2816x1024 .f32)

/-- The place in its batch of a block's row. -/
def sOf (t : Fin cfg0.N) (r : Fin 1024) : Fin 8192 := ⟨t.val % 8 * 1024 + r.val, by omega⟩

theorem h_row (b : Fin 4) (s : Fin 8192) (R : Fin 32768) (k : Fin 1024) (hR : R.val = b.val * 8192 + s.val) :
    (V m c main_v0 : FVec Ideal S32768x1024 .f32) (ix2 R k) = argH m c (ix3 b s k) := by
  refine (v0_at c m R k).trans ?_
  have eb : ∀ p, (⟨R.val / 8192, p⟩ : Fin 4) = b := fun _ => Fin.ext (by dsimp only; omega)
  have es : ∀ p, (⟨R.val % 8192, p⟩ : Fin 8192) = s := fun _ => Fin.ext (by dsimp only; omega)
  exact congrArg₂ (fun b s => argH m c (ix3 b s k)) (eb _) (es _)

theorem x1_at (t : Fin cfg0.N) (r k : Fin 1024) :
    (iblk m c 1 t : FVec Ideal S1024x1024 .f32) (ix2 r k) = argH m c (ix3 (bOf t) (sOf t r) k) :=
  (blk1 c m t r k).trans (h_row m c _ _ _ k (by unfold rowOf bOf sOf; dsimp only; omega))

theorem x0_at (t : Fin cfg0.N) (k : Fin 1024) (ht : t.val % 8 ≠ 0) (s : Fin 8192) (hs : s.val = t.val % 8 * 1024 - 1) :
    (iblk m c 0 t : FVec Ideal S8x1024 .f32) (ix2 (7 : Fin 8) k) = argH m c (ix3 (bOf t) s k) :=
  (blk0 c m t 7 k).trans (h_row m c _ _ _ k (by unfold preRow bOf; dsimp only; rw [hs]; show (t.val * 128 - 1) * 8 + 7 = _; omega))

theorem x2_at (t : Fin cfg0.N) (k : Fin 1024) (ht : t.val % 8 ≠ 7) (s : Fin 8192) (hs : s.val = t.val % 8 * 1024 + 1024) :
    (iblk m c 2 t : FVec Ideal S8x1024 .f32) (ix2 (0 : Fin 8) k) = argH m c (ix3 (bOf t) s k) :=
  (blk2 c m t 0 k).trans (h_row m c _ _ _ k (by
    have := t_lt t
    unfold postRow bOf; dsimp only; rw [hs]; show min ((t.val + 1) * 128) 4095 * 8 + 0 = _; omega))

theorem x3_at (t : Fin cfg0.N) (k : Fin 1024) :
    (iblk m c 3 t : FVec Ideal S1x1x1024 .f32) (ix3 (0 : Fin 1) (0 : Fin 1) k) = argSh m c (ix3 (bOf t) (0 : Fin 1) k) :=
  (blk3 c m t k).trans (arg1_at c m _ k)

theorem x4_at (t : Fin cfg0.N) (k : Fin 1024) :
    (iblk m c 4 t : FVec Ideal S1x1x1024 .f32) (ix3 (0 : Fin 1) (0 : Fin 1) k) = argSc m c (ix3 (bOf t) (0 : Fin 1) k) :=
  (blk4 c m t k).trans (arg2_at c m _ k)

theorem x5_at (t : Fin cfg0.N) (k : Fin 1024) :
    (iblk m c 5 t : FVec Ideal S1x1x1024 .f32) (ix3 (0 : Fin 1) (0 : Fin 1) k) = argGt m c (ix3 (bOf t) (0 : Fin 1) k) :=
  (blk5 c m t k).trans (arg3_at c m _ k)

theorem x6_at (t : Fin cfg0.N) (k : Fin 1024) : (iblk m c 6 t : FVec Ideal S1x1024 .f32) (ix2 (0 : Fin 1) k) = argNw m c (ix1 k) :=
  (blk6 c m t 0 k).trans (v1_at c m k)

theorem x7_at (t : Fin cfg0.N) (k : Fin 1024) (f : Fin 2816) :
    (iblk m c 7 t : FVec Ideal S1024x2816 .bf16) (ix2 k f) = argW m c (ix2 k (⟨f.val, by omega⟩ : Fin 5632)) :=
  (blk7 c m t k f).trans (v3_at c m k f)

theorem x8_at (t : Fin cfg0.N) (k : Fin 1024) (f : Fin 2816) :
    (iblk m c 8 t : FVec Ideal S1024x2816 .bf16) (ix2 k f) = argW m c (ix2 k (⟨2816 + f.val, by omega⟩ : Fin 5632)) :=
  (blk8 c m t k f).trans (v5_at c m k f)

theorem x9_at (t : Fin cfg0.N) (r : Fin 3) (f : Fin 2816) :
    (iblk m c 9 t : FVec Ideal S3x2816 .f32) (ix2 r f) = argWd m c (ix2 r f) :=
  (blk9 c m t r f).trans (arg6_at c m r f)

theorem x10_at (t : Fin cfg0.N) (f : Fin 2816) : (iblk m c 10 t : FVec Ideal S1x2816 .f32) (ix2 (0 : Fin 1) f) = argBd m c (ix1 f) :=
  (blk10 c m t 0 f).trans (v6_at c m f)

theorem x11_at (t : Fin cfg0.N) (f : Fin 2816) (d : Fin 1024) :
    (iblk m c 11 t : FVec Ideal S2816x1024 .bf16) (ix2 f d) = argWo m c (ix2 f d) :=
  (blk11 c m t f d).trans (v7_at c m f d)

/-- A token's features. -/
def a (b : Fin 4) (s : Fin 8192) (k : Fin 1024) : EReal := aAt (argH m c) (argSh m c) (argSc m c) (argNw m c) b s k

/-- A normed row whose token, shift, scale and weight are those of a place in the arrays. -/
theorem norm_at (t : Fin cfg0.N) (s : Fin 8192) (x : Fin 1024 → EReal) (k : Fin 1024) (hx : ∀ k, x k = argH m c (ix3 (bOf t) s k)) :
    norm x (fun k => (iblk m c 6 t : FVec Ideal S1x1024 .f32) (ix2 (0 : Fin 1) k))
        (fun k => (iblk m c 4 t : FVec Ideal S1x1x1024 .f32) (ix3 (0 : Fin 1) (0 : Fin 1) k))
        (fun k => (iblk m c 3 t : FVec Ideal S1x1x1024 .f32) (ix3 (0 : Fin 1) (0 : Fin 1) k)) k = a m c (bOf t) s k :=
  congrFun (congr (congr (congr (congrArg norm (funext hx)) (funext fun k => x6_at m c t k)) (funext fun k => x4_at m c t k))
    (funext fun k => x3_at m c t k)) k

/-- The block's normed rows. -/
def midB (t : Fin cfg0.N) : FVec Ideal S1024x1024 .bf16 := mid (iblk m c 1 t) (iblk m c 3 t) (iblk m c 4 t) (iblk m c 6 t)

/-- The same between their neighbours. -/
def extB (t : Fin cfg0.N) : FVec Ideal S1040x1024 .bf16 :=
  ext (grid0.coords t) (iblk m c 0 t) (iblk m c 1 t) (iblk m c 2 t) (iblk m c 3 t) (iblk m c 4 t) (iblk m c 6 t)

theorem midB_at (t : Fin cfg0.N) (r k : Fin 1024) : midB m c t (ix2 r k) = a m c (bOf t) (sOf t r) k :=
  (mid_apply _ _ _ _ r k).trans (norm_at m c t _ _ k fun k => x1_at m c t r k)

theorem extB_mid (t : Fin cfg0.N) (q : Fin 1040) (r k : Fin 1024) (hq : q.val = r.val + 8) :
    extB m c t (ix2 q k) = a m c (bOf t) (sOf t r) k := by
  refine (ext_mid _ _ _ _ _ _ _ q k (by omega) (by omega)).trans ?_
  have e : ∀ p, (⟨q.val - 8, p⟩ : Fin 1024) = r := fun _ => Fin.ext (by dsimp only; omega)
  rw [e]
  exact midB_at m c t r k

theorem extB_prev (t : Fin cfg0.N) (r k : Fin 1024) :
    extB m c t (ix2 (⟨r.val + 7, by omega⟩ : Fin 1040) k)
      = if (sOf t r).val < 1 then 0 else a m c (bOf t) (⟨(sOf t r).val - 1, by omega⟩ : Fin 8192) k := by
  by_cases hr : r.val = 0
  · have e : ∀ p, (⟨r.val + 7, p⟩ : Fin 1040) = 7 := fun _ => Fin.ext (by dsimp only; omega)
    rw [e]
    refine (ext_pre _ _ _ _ _ _ _ k).trans ?_
    rw [pay3_eq]
    by_cases ht : t.val % 8 = 0
    · rw [if_pos ht, if_pos (by unfold sOf; dsimp only; omega)]
      exact mul_zero _
    · rw [if_neg ht, if_neg (by unfold sOf; dsimp only; omega)]
      refine (mul_one _).trans ?_
      exact norm_at m c t _ _ k fun k => x0_at m c t k ht _ (by unfold sOf; dsimp only; omega)
  · rw [if_neg (by unfold sOf; dsimp only; omega)]
    refine (extB_mid m c t _ (⟨r.val - 1, by omega⟩ : Fin 1024) k (by dsimp only; omega)).trans ?_
    exact congrArg (fun s => a m c (bOf t) s k) (Fin.ext (by unfold sOf; dsimp only; omega))

theorem extB_next (t : Fin cfg0.N) (r k : Fin 1024) :
    extB m c t (ix2 (⟨r.val + 9, by omega⟩ : Fin 1040) k)
      = if hs : (sOf t r).val < 8191 then a m c (bOf t) (⟨1 + (sOf t r).val, by omega⟩ : Fin 8192) k else 0 := by
  by_cases hr : r.val = 1023
  · have e : ∀ p, (⟨r.val + 9, p⟩ : Fin 1040) = 1032 := fun _ => Fin.ext (by dsimp only; omega)
    rw [e]
    refine (ext_post _ _ _ _ _ _ _ k).trans ?_
    rw [pay4_eq]
    by_cases ht : t.val % 8 = 7
    · rw [if_pos ht, dif_neg (by unfold sOf; dsimp only; omega)]
      exact mul_zero _
    · rw [if_neg ht, dif_pos (by unfold sOf; dsimp only; omega)]
      refine (mul_one _).trans ?_
      exact norm_at m c t _ _ k fun k => x2_at m c t k ht _ (by unfold sOf; dsimp only; omega)
  · rw [dif_pos (by unfold sOf; dsimp only; omega)]
    refine (extB_mid m c t _ (⟨r.val + 1, by omega⟩ : Fin 1024) k (by dsimp only)).trans ?_
    exact congrArg (fun s => a m c (bOf t) s k) (Fin.ext (by unfold sOf; dsimp only; omega))

/-- A hidden activation of the block. -/
theorem hid_at (t : Fin cfg0.N) (r : Fin 1024) (f : Fin 2816) :
    hidBlock (midB m c t) (extB m c t) (iblk m c 7 t) (iblk m c 8 t) (iblk m c 9 t) (iblk m c 10 t) (ix2 r f)
      = hidAt (argH m c) (argSh m c) (argSc m c) (argNw m c) (argW m c) (argWd m c) (argBd m c) (bOf t) (sOf t r) f := by
  unfold hidBlock hidAt
  refine congr (congr (congr (congr (congr (congr (congr (congrArg hid ?_) ?_) ?_) (x9_at m c t 0 f)) (x9_at m c t 1 f)) (x9_at m c t 2 f))
    (x10_at m c t f)) ?_
  · unfold prevAt
    by_cases hs : (sOf t r).val < 1
    · rw [if_pos hs]
      exact Finset.sum_eq_zero fun k _ => by
        refine (congrArg (· * _) ((extB_prev m c t r k).trans (if_pos hs))).trans (zero_mul _)
    · rw [if_neg hs]
      exact Finset.sum_congr rfl fun k _ => congrArg₂ (· * ·) ((extB_prev m c t r k).trans (if_neg hs)) (x7_at m c t k f)
  · exact Finset.sum_congr rfl fun k _ => congrArg₂ (· * ·) (extB_mid m c t _ r k rfl) (x7_at m c t k f)
  · unfold nextAt
    by_cases hs : (sOf t r).val < 8191
    · rw [dif_pos hs]
      exact Finset.sum_congr rfl fun k _ => congrArg₂ (· * ·) ((extB_next m c t r k).trans (dif_pos hs)) (x7_at m c t k f)
    · rw [dif_neg hs]
      exact Finset.sum_eq_zero fun k _ => by
        refine (congrArg (· * _) ((extB_next m c t r k).trans (dif_neg hs))).trans (zero_mul _)
  · exact Finset.sum_congr rfl fun k _ => congrArg₂ (· * ·) (midB_at m c t r k) (x8_at m c t k f)

/-- The arrays' result. -/
def result : FVec Ideal S32768x1024 .f32 :=
  outArr (argH m c) (argSh m c) (argSc m c) (argGt m c) (argNw m c) (argW m c) (argWd m c) (argBd m c) (argWo m c)

/-- An element of the block. -/
theorem block_at (t : Fin cfg0.N) (r d : Fin 1024) :
    k0_pay2 (hidBlock (midB m c t) (extB m c t) (iblk m c 7 t) (iblk m c 8 t) (iblk m c 9 t) (iblk m c 10 t)) (iblk m c 11 t) (iblk m c 1 t)
        (iblk m c 5 t) (ix2 r d) = result m c (ix2 (rowOf t r) d) := by
  refine (last_apply _ _ _ _ r d).trans ?_
  unfold result outArr
  have eb : ∀ p, (⟨(rowOf t r).val / 8192, p⟩ : Fin 4) = bOf t := fun _ => Fin.ext (by unfold rowOf bOf; dsimp only; omega)
  have es : ∀ p, (⟨(rowOf t r).val % 8192, p⟩ : Fin 8192) = sOf t r := fun _ => Fin.ext (by unfold rowOf sOf; dsimp only; omega)
  refine Eq.trans ?_ (congrArg₂ (fun b s => outAt (argH m c) (argSh m c) (argSc m c) (argGt m c) (argNw m c) (argW m c) (argWd m c) (argBd m c)
    (argWo m c) b s d) (eb _) (es _)).symm
  unfold outAt
  refine congrArg₂ (· + ·) (x1_at m c t r d) (congrArg₂ (· * ·) (x5_at m c t d) ?_)
  exact Finset.sum_congr rfl fun f _ => congrArg₂ (· * ·) (hid_at m c t r f) (x11_at m c t f d)

/-- The array after the run. -/
theorem array_eq : (dats m 0 c).arrAt 12 cfg0.N = result m c := by
  refine (dats m 0 c).arrAt_eq_of_covers 12 (result m c) (by decide +kernel) fun t hf y => ?_
  blk_simp
  rw [after0_12, block_eq, canon_eq]
  obtain ⟨r, d, rfl⟩ : ∃ (r : Fin 1024) (d : Fin 1024), y = ix2 r d := ⟨y 0, y 1, by ext a; fin_cases a <;> rfl⟩
  refine Eq.trans (block_at m c t r d) ?_
  exact (congrArg (result m c) (emb12 t r d)).symm

end Cert.Ffn
end
-- ==== Proof.InProjSpec.lean ====
/-
  The input projection's results as plain sums, over arrays of extended reals.
-/
module

public import proofs.«01_k».proof.Proof.FfnSpec

@[expose] public section

set_option maxRecDepth 16384

noncomputable section

namespace Cert.InProj

open Idealize.ShloMosaic Cert.Ffn

/-- The latent group of a token's projections (or of one row of the weights): the latents, 64 zeros, the decoupled rotary key, the
    two gate pre-activations, 64 zeros, the key with every pair of eighths turned by a quarter, 32 zeros. -/
def lat (x : Fin 7616 → EReal) (j : Fin 640) : EReal :=
  if j.val < 384 then x (⟨j.val, by omega⟩ : Fin 7616)
  else if j.val < 448 then 0
  else if j.val < 480 then x (⟨j.val - 64, by omega⟩ : Fin 7616)
  else if j.val < 512 then x (⟨j.val + 1984, by omega⟩ : Fin 7616)
  else if j.val < 576 then 0
  else if j.val < 584 then - x (⟨j.val - 184, by omega⟩ : Fin 7616)
  else if j.val < 592 then x (⟨j.val - 200, by omega⟩ : Fin 7616)
  else if j.val < 600 then - x (⟨j.val - 184, by omega⟩ : Fin 7616)
  else if j.val < 608 then x (⟨j.val - 200, by omega⟩ : Fin 7616)
  else 0

/-- The column of the weights that a column of the wide group takes. -/
def wcol (j : Fin 7168) : Fin 7616 := if h : j.val < 2048 then ⟨j.val + 416, by omega⟩ else ⟨j.val + 448, by omega⟩

/-- A token's projection on column `q` of the weights. -/
def proj (h : Arr3 4 8192 1024) (sh sc : Arr3 4 1 1024) (nw : Arr1 1024) (w : Arr2 1024 7616) (b : Fin 4) (s : Fin 8192) (q : Fin 7616) : EReal :=
  ∑ k : Fin 1024, aAt h sh sc nw b s k * w (ix2 k q)

/-- The latent group of every token. -/
def latArr (h : Arr3 4 8192 1024) (sh sc : Arr3 4 1 1024) (nw : Arr1 1024) (w : Arr2 1024 7616) : Arr2 32768 640 := fun y =>
  lat (fun q => proj h sh sc nw w ⟨(y 0).val / 8192, by have : (y 0).val < 32768 := (y 0).isLt; omega⟩ ⟨(y 0).val % 8192, by omega⟩ q) (y 1)

/-- The wide group of every token. -/
def mgArr (h : Arr3 4 8192 1024) (sh sc : Arr3 4 1 1024) (nw : Arr1 1024) (w : Arr2 1024 7616) : Arr2 32768 7168 := fun y =>
  proj h sh sc nw w ⟨(y 0).val / 8192, by have : (y 0).val < 32768 := (y 0).isLt; omega⟩ ⟨(y 0).val % 8192, by omega⟩ (wcol (y 1))

end Cert.InProj
end
-- ==== Proof.InProjBlocks.lean ====
/-
  The blocks that a grid point of the input projection reads and writes, as elements of the arrays.
-/
module

public import proofs.«01_k».proof.Proof.InProjSpec
public import proofs.«01_k».proof.Proof.InProjIdealBody
public import Idealize.ShloMosaic.Lib.StableHlo.ReadAt
public import Idealize.ShloMosaic.Lib.Pipeline.ValueKit

@[expose] public section

set_option maxRecDepth 16384

noncomputable section

namespace Cert.InProj

open Cert.InProjIdeal Cert.InProjIdeal.Gen Idealize.ShloMosaic Idealize.ShloMosaic.TcCoe Idealize.SL.Sem

/-- The blocks' places: tokens by the row of the grid, the batch `t / 28`, the wide weights' columns by the column of the grid. -/
theorem idx : ∀ t : Fin cfg0.N,
    win0_0.index t = ![t.val / 7, 0] ∧ win0_1.index t = ![t.val / 28, 0, 0] ∧ win0_2.index t = ![t.val / 28, 0, 0]
      ∧ win0_3.index t = ![0, 0] ∧ win0_4.index t = ![0, 0] ∧ win0_5.index t = ![0, t.val % 7]
      ∧ win0_6.index t = ![t.val / 7, 0] ∧ win0_7.index t = ![t.val / 7, t.val % 7] :=
  (by decide +kernel : ∀ t : Fin grid0.N, _)

theorem t_lt (t : Fin cfg0.N) : t.val < 112 := t.isLt

/-- The batch of a point, the rows of its blocks of tokens, the columns of its block of wide weights. -/
def bOf (t : Fin cfg0.N) : Fin 4 := ⟨t.val / 28, by have := t_lt t; omega⟩
def rowOf (t : Fin cfg0.N) (r : Fin 2048) : Fin 32768 := ⟨t.val / 7 * 2048 + r.val, by have := t_lt t; omega⟩
def colOf (t : Fin cfg0.N) (j : Fin 1024) : Fin 7168 := ⟨t.val % 7 * 1024 + j.val, by have := t_lt t; omega⟩

theorem emb0 (t : Fin cfg0.N) (r : Fin 2048) (k : Fin 1024) : (win0_0.blk t).view.emb (ix2 r k) = (ix2 (rowOf t r) k : S32768x1024.Idx) := by
  unfold rowOf
  blk_ext [idx t]

theorem emb1 (t : Fin cfg0.N) (k : Fin 1024) : (win0_1.blk t).view.emb (ix3 (0 : Fin 1) (0 : Fin 1) k) = (ix3 (bOf t) (0 : Fin 1) k : S4x1x1024.Idx) := by
  unfold bOf
  blk_ext [idx t]

theorem emb2 (t : Fin cfg0.N) (k : Fin 1024) : (win0_2.blk t).view.emb (ix3 (0 : Fin 1) (0 : Fin 1) k) = (ix3 (bOf t) (0 : Fin 1) k : S4x1x1024.Idx) := by
  unfold bOf
  blk_ext [idx t]

theorem emb3 (t : Fin cfg0.N) (k : Fin 1024) : (win0_3.blk t).view.emb (ix2 (0 : Fin 1) k) = (ix2 (0 : Fin 1) k : S1x1024.Idx) := by
  blk_ext [idx t]

theorem emb4 (t : Fin cfg0.N) (r : Fin 1024) (k : Fin 640) : (win0_4.blk t).view.emb (ix2 r k) = (ix2 r k : S1024x640.Idx) := by
  blk_ext [idx t]

theorem emb5 (t : Fin cfg0.N) (r : Fin 1024) (k : Fin 1024) : (win0_5.blk t).view.emb (ix2 r k) = (ix2 r (colOf t k) : S1024x7168.Idx) := by
  unfold colOf
  blk_ext [idx t]

theorem emb6 (t : Fin cfg0.N) (r : Fin 2048) (k : Fin 640) : (win0_6.blk t).view.emb (ix2 r k) = (ix2 (rowOf t r) k : S32768x640.Idx) := by
  unfold rowOf
  blk_ext [idx t]

theorem emb7 (t : Fin cfg0.N) (r : Fin 2048) (k : Fin 1024) : (win0_7.blk t).view.emb (ix2 r k) = (ix2 (rowOf t r) (colOf t k) : S32768x7168.Idx) := by
  unfold rowOf colOf
  blk_ext [idx t]

variable (c : Dev nD)

theorem read0 (X : Buf (Elt Ideal) ((c : Thread nD τ).loc main_v18)) (t : Fin cfg0.N) (r : Fin 2048) (k : Fin 1024) :
    ((cfg0.win 0).blk t).view.read (Elt Ideal) X (ix2 r k) = X (ix2 (rowOf t r) k) := by
  refine Eq.trans ?_ (congrArg X (emb0 t r k))
  blk_simp

theorem read1 (X : Buf (Elt Ideal) ((c : Thread nD τ).loc main_arg1)) (t : Fin cfg0.N) (k : Fin 1024) :
    ((cfg0.win 1).blk t).view.read (Elt Ideal) X (ix3 (0 : Fin 1) (0 : Fin 1) k) = X (ix3 (bOf t) (0 : Fin 1) k) := by
  refine Eq.trans ?_ (congrArg X (emb1 t k))
  blk_simp

theorem read2 (X : Buf (Elt Ideal) ((c : Thread nD τ).loc main_arg2)) (t : Fin cfg0.N) (k : Fin 1024) :
    ((cfg0.win 2).blk t).view.read (Elt Ideal) X (ix3 (0 : Fin 1) (0 : Fin 1) k) = X (ix3 (bOf t) (0 : Fin 1) k) := by
  refine Eq.trans ?_ (congrArg X (emb2 t k))
  blk_simp

theorem read3 (X : Buf (Elt Ideal) ((c : Thread nD τ).loc main_v19)) (t : Fin cfg0.N) (k : Fin 1024) :
    ((cfg0.win 3).blk t).view.read (Elt Ideal) X (ix2 (0 : Fin 1) k) = X (ix2 (0 : Fin 1) k) := by
  refine Eq.trans ?_ (congrArg X (emb3 t k))
  blk_simp

theorem read4 (X : Buf (Elt Ideal) ((c : Thread nD τ).loc main_v16)) (t : Fin cfg0.N) (r : Fin 1024) (k : Fin 640) :
    ((cfg0.win 4).blk t).view.read (Elt Ideal) X (ix2 r k) = X (ix2 r k) := by
  refine Eq.trans ?_ (congrArg X (emb4 t r k))
  blk_simp

theorem read5 (X : Buf (Elt Ideal) ((c : Thread nD τ).loc main_v17)) (t : Fin cfg0.N) (r : Fin 1024) (k : Fin 1024) :
    ((cfg0.win 5).blk t).view.read (Elt Ideal) X (ix2 r k) = X (ix2 r (colOf t k)) := by
  refine Eq.trans ?_ (congrArg X (emb5 t r k))
  blk_simp

variable (m : (ℓ : Loc nD τ sig) → Buf (Elt Ideal) ℓ)

theorem blk0 (t : Fin cfg0.N) (r : Fin 2048) (k : Fin 1024) :
    (iblk m c 0 t : FVec Ideal S2048x1024 .f32) (ix2 r k) = (V m c main_v18 : FVec Ideal S32768x1024 .f32) (ix2 (rowOf t r) k) :=
  read0 c (V m c main_v18) t r k

theorem blk1 (t : Fin cfg0.N) (k : Fin 1024) :
    (iblk m c 1 t : FVec Ideal S1x1x1024 .f32) (ix3 (0 : Fin 1) (0 : Fin 1) k) = (V m c main_arg1 : FVec Ideal S4x1x1024 .f32) (ix3 (bOf t) (0 : Fin 1) k) :=
  read1 c (V m c main_arg1) t k

theorem blk2 (t : Fin cfg0.N) (k : Fin 1024) :
    (iblk m c 2 t : FVec Ideal S1x1x1024 .f32) (ix3 (0 : Fin 1) (0 : Fin 1) k) = (V m c main_arg2 : FVec Ideal S4x1x1024 .f32) (ix3 (bOf t) (0 : Fin 1) k) :=
  read2 c (V m c main_arg2) t k

theorem blk3 (t : Fin cfg0.N) (k : Fin 1024) :
    (iblk m c 3 t : FVec Ideal S1x1024 .f32) (ix2 (0 : Fin 1) k) = (V m c main_v19 : FVec Ideal S1x1024 .f32) (ix2 (0 : Fin 1) k) :=
  read3 c (V m c main_v19) t k

theorem blk4 (t : Fin cfg0.N) (r : Fin 1024) (k : Fin 640) :
    (iblk m c 4 t : FVec Ideal S1024x640 .bf16) (ix2 r k) = (V m c main_v16 : FVec Ideal S1024x640 .bf16) (ix2 r k) :=
  read4 c (V m c main_v16) t r k

theorem blk5 (t : Fin cfg0.N) (r : Fin 1024) (k : Fin 1024) :
    (iblk m c 5 t : FVec Ideal S1024x1024 .bf16) (ix2 r k) = (V m c main_v17 : FVec Ideal S1024x7168 .bf16) (ix2 r (colOf t k)) :=
  read5 c (V m c main_v17) t r k

/-- The arguments' arrays. -/
def argH : FVec Ideal S4x8192x1024 .f32 := (m (c, Proc.tc.devRef main_arg0) : FVec Ideal S4x8192x1024 .f32)
def argSh : FVec Ideal S4x1x1024 .f32 := (m (c, Proc.tc.devRef main_arg1) : FVec Ideal S4x1x1024 .f32)
def argSc : FVec Ideal S4x1x1024 .f32 := (m (c, Proc.tc.devRef main_arg2) : FVec Ideal S4x1x1024 .f32)
def argNw : FVec Ideal S1024 .f32 := (m (c, Proc.tc.devRef main_arg3) : FVec Ideal S1024 .f32)
def argW : FVec Ideal S1024x7616 .f32 := (m (c, Proc.tc.devRef main_arg4) : FVec Ideal S1024x7616 .f32)

theorem v18_at (r : Fin 32768) (k : Fin 1024) :
    (V m c main_v18 : FVec Ideal S32768x1024 .f32) (ix2 r k)
      = argH c m (ix3 (⟨r.val / 8192, by omega⟩ : Fin 4) (⟨r.val % 8192, by omega⟩ : Fin 8192) k) := by
  unfold argH V
  repeat after_reads_at

theorem v19_at (k : Fin 1024) :
    (V m c main_v19 : FVec Ideal S1x1024 .f32) (ix2 (0 : Fin 1) k) = argNw c m (ix1 k) := by
  unfold argNw V
  repeat after_reads_at

theorem arg1_at (b : Fin 4) (k : Fin 1024) :
    (V m c main_arg1 : FVec Ideal S4x1x1024 .f32) (ix3 b (0 : Fin 1) k) = argSh c m (ix3 b (0 : Fin 1) k) := by
  unfold argSh V
  repeat after_reads_at

theorem arg2_at (b : Fin 4) (k : Fin 1024) :
    (V m c main_arg2 : FVec Ideal S4x1x1024 .f32) (ix3 b (0 : Fin 1) k) = argSc c m (ix3 b (0 : Fin 1) k) := by
  unfold argSc V
  repeat after_reads_at

end Cert.InProj
end
-- ==== Proof.InProjCols.lean ====
/-
  The weights that the input projection's kernel is given, column by column.
-/
module

public import proofs.«01_k».proof.Proof.InProjBlocks

@[expose] public section

set_option maxRecDepth 16384

noncomputable section

namespace Cert.InProj

open Cert.InProjIdeal Cert.InProjIdeal.Gen Idealize.ShloMosaic Idealize.ShloMosaic.TcCoe Idealize.SL.Sem

variable (c : Dev nD) (m : (ℓ : Loc nD τ sig) → Buf (Elt Ideal) ℓ)

theorem v17_at (k : Fin 1024) (j : Fin 7168) :
    (V m c main_v17 : FVec Ideal S1024x7168 .bf16) (ix2 k j) = argW c m (ix2 k (wcol j)) := by
  unfold argW V wcol
  repeat after_reads_at
  by_cases h : j.val < 2048
  · rw [dif_pos h, dif_pos h]
    exact congrArg _ (congrArg (ix2 k) (Fin.ext (by dsimp only; omega)))
  · rw [dif_neg h, dif_neg h]
    exact congrArg _ (congrArg (ix2 k) (Fin.ext (by dsimp only; omega)))

theorem v16_at (k : Fin 1024) (j : Fin 640) :
    (V m c main_v16 : FVec Ideal S1024x640 .bf16) (ix2 k j) = lat (fun q => argW c m (ix2 k q)) j := by
  unfold argW V
  repeat after_reads_at
  unfold lat
  by_cases h0 : j.val < 384
  · rw [dif_pos (show j.val < 384 by omega), if_pos h0]
    repeat after_reads_at
    all_goals exact congrArg _ (congrArg (ix2 k) (Fin.ext (by dsimp only; omega)))
  rw [dif_neg (show ¬(j.val < 384) by omega), if_neg h0]
  by_cases h1 : j.val < 448
  · rw [dif_pos (show j.val - 384 < 64 by omega), if_pos h1]
    repeat after_reads_at
  rw [dif_neg (show ¬(j.val - 384 < 64) by omega), if_neg h1]
  by_cases h2 : j.val < 480
  · rw [dif_pos (show j.val - 384 - 64 < 32 by omega), if_pos h2]
    repeat after_reads_at
    all_goals exact congrArg _ (congrArg (ix2 k) (Fin.ext (by dsimp only; omega)))
  rw [dif_neg (show ¬(j.val - 384 - 64 < 32) by omega), if_neg h2]
  by_cases h3 : j.val < 512
  · rw [dif_pos (show j.val - 384 - 64 - 32 < 32 by omega), if_pos h3]
    repeat after_reads_at
    all_goals exact congrArg _ (congrArg (ix2 k) (Fin.ext (by dsimp only; omega)))
  rw [dif_neg (show ¬(j.val - 384 - 64 - 32 < 32) by omega), if_neg h3]
  by_cases h4 : j.val < 576
  · rw [dif_pos (show j.val - 384 - 64 - 32 - 32 < 64 by omega), if_pos h4]
    repeat after_reads_at
  rw [dif_neg (show ¬(j.val - 384 - 64 - 32 - 32 < 64) by omega), if_neg h4]
  by_cases h5 : j.val < 584
  · rw [dif_pos (show j.val - 384 - 64 - 32 - 32 - 64 < 8 by omega), if_pos h5]
    repeat after_reads_at
    exact congrArg (fun x : EReal => -x) (congrArg (fun q => m (c, Proc.tc.devRef main_arg4) (ix2 k q)) (Fin.ext (by dsimp only; omega)))
  rw [dif_neg (show ¬(j.val - 384 - 64 - 32 - 32 - 64 < 8) by omega), if_neg h5]
  by_cases h6 : j.val < 592
  · rw [dif_pos (show j.val - 384 - 64 - 32 - 32 - 64 - 8 < 8 by omega), if_pos h6]
    repeat after_reads_at
    all_goals exact congrArg _ (congrArg (ix2 k) (Fin.ext (by dsimp only; omega)))
  rw [dif_neg (show ¬(j.val - 384 - 64 - 32 - 32 - 64 - 8 < 8) by omega), if_neg h6]
  by_cases h7 : j.val < 600
  · rw [dif_pos (show j.val - 384 - 64 - 32 - 32 - 64 - 8 - 8 < 8 by omega), if_pos h7]
    repeat after_reads_at
    exact congrArg (fun x : EReal => -x) (congrArg (fun q => m (c, Proc.tc.devRef main_arg4) (ix2 k q)) (Fin.ext (by dsimp only; omega)))
  rw [dif_neg (show ¬(j.val - 384 - 64 - 32 - 32 - 64 - 8 - 8 < 8) by omega), if_neg h7]
  by_cases h8 : j.val < 608
  · rw [dif_pos (show j.val - 384 - 64 - 32 - 32 - 64 - 8 - 8 - 8 < 8 by omega), if_pos h8]
    repeat after_reads_at
    all_goals exact congrArg _ (congrArg (ix2 k) (Fin.ext (by dsimp only; omega)))
  rw [dif_neg (show ¬(j.val - 384 - 64 - 32 - 32 - 64 - 8 - 8 - 8 < 8) by omega), if_neg h8]
  repeat after_reads_at

end Cert.InProj
end
-- ==== Proof.InProjReal.lean ====
/-
  At a real modulation and real weights a token's features are real (an infinite token is normed to nought), and the latent group of the projections is the projection on the latent group of the weights:
  a negated column of the weights gives the negated projection.
-/
module

public import proofs.«01_k».proof.Proof.InProjSpec
public import proofs.«01_k».proof.Proof.Softmax

@[expose] public section

set_option maxRecDepth 16384

noncomputable section

namespace Cert.InProj

open Idealize.ShloMosaic Cert.Ffn

/-- An extended real that is a real. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem ofBits_1024 : Ideal.ofBits FTy.f32 0x44800000#32 = ((1024 : ℝ) : EReal) := by
  simp [Ideal.ofBits, Ideal.ieee]
  rw [← EReal.coe_mul]
  norm_num

theorem ofBits_1 : Ideal.ofBits FTy.f32 0x3F800000#32 = ((1 : ℝ) : EReal) := by
  simp [Ideal.ofBits, Ideal.ieee]
  rw [← EReal.coe_mul, ← EReal.coe_one]
  norm_num

theorem ofBits_eps : Ideal.ofBits FTy.f32 0x358637BD#32 = (((8796093 : ℝ) / 2 ^ 43 : ℝ) : EReal) := by
  simp [Ideal.ofBits, Ideal.ieee]
  rw [← EReal.coe_mul]
  norm_num

/-- The reciprocal root of a mean of squares with a positive constant added. -/
theorem real_rsqrt (x : Fin 1024 → ℝ) :
    IsReal (Ideal.rsqrt (Ideal.div (∑ j : Fin 1024, (x j : EReal) * (x j : EReal)) (Ideal.ofBits .f32 0x44800000#32)
      + Ideal.ofBits .f32 0x358637BD#32)) := by
  have e : (∑ j : Fin 1024, (x j : EReal) * (x j : EReal)) = ((∑ j : Fin 1024, x j * x j : ℝ) : EReal) :=
    ((Cert.Attn.coe_sum Finset.univ fun j => x j * x j).trans (Finset.sum_congr rfl fun j _ => EReal.coe_mul _ _)).symm
  have hp : 0 ≤ ∑ j : Fin 1024, x j * x j := Finset.sum_nonneg fun j _ => mul_self_nonneg _
  have hs : 0 < (∑ j : Fin 1024, x j * x j) * (1 / 1024) + 8796093 / 2 ^ 43 := by positivity
  rw [e, ofBits_1024, ofBits_eps, Ideal.div_coe (by norm_num), ← EReal.coe_mul, ← EReal.coe_add, Ideal.rsqrt_coe, if_neg hs.not_gt, if_neg hs.ne']
  exact ⟨_, rfl⟩

/-- An infinite element makes the mean of squares infinite and its reciprocal root nought. -/
theorem rsqrt_zero (x : Fin 1024 → EReal) (h : ∃ j, ¬IsReal (x j)) :
    Ideal.rsqrt (Ideal.div (∑ j : Fin 1024, x j * x j) (Ideal.ofBits .f32 0x44800000#32) + Ideal.ofBits .f32 0x358637BD#32) = 0 := by
  obtain ⟨j, hj⟩ := h
  have hsq : ∀ y : EReal, 0 ≤ y * y := fun y => by
    rcases le_total 0 y with hy | hy
    · exact mul_nonneg hy hy
    · rw [← neg_mul_neg]
      exact mul_nonneg (EReal.neg_nonneg.2 hy) (EReal.neg_nonneg.2 hy)
  have ht : x j * x j = ⊤ := by
    rcases eq_or_ne (x j) ⊤ with e | e
    · rw [e, EReal.top_mul_top]
    · rcases eq_or_ne (x j) ⊥ with e' | e'
      · rw [e', EReal.bot_mul_bot]
      · exact absurd ⟨(x j).toReal, (EReal.coe_toReal e e').symm⟩ hj
  have hs : ∑ j : Fin 1024, x j * x j = ⊤ :=
    top_le_iff.1 (ht ▸ Finset.single_le_sum (f := fun j => x j * x j) (fun i _ => hsq (x i)) (Finset.mem_univ j))
  rw [hs, ofBits_1024, ofBits_eps, Ideal.div_coe (by norm_num), EReal.top_mul_coe_of_pos (by norm_num), EReal.top_add_coe, Ideal.rsqrt_top]

theorem real_norm {x nw sc sh : Fin 1024 → EReal} (hn : ∀ k, IsReal (nw k)) (hc : ∀ k, IsReal (sc k)) (hh : ∀ k, IsReal (sh k)) (k : Fin 1024) :
    IsReal (Ffn.norm x nw sc sh k) := by
  unfold Ffn.norm
  have hx : IsReal (x k * Ideal.rsqrt (Ideal.div (∑ j : Fin 1024, x j * x j) (Ideal.ofBits .f32 0x44800000#32)
      + Ideal.ofBits .f32 0x358637BD#32)) := by
    by_cases h : ∀ j, IsReal (x j)
    · obtain ⟨r, rfl⟩ : ∃ r : Fin 1024 → ℝ, x = fun k => (r k : EReal) := ⟨fun k => (h k).choose, funext fun k => (h k).choose_spec⟩
      exact IsReal.mul ⟨r k, rfl⟩ (real_rsqrt r)
    · rw [rsqrt_zero x (not_forall.1 h), mul_zero]
      exact ⟨0, rfl⟩
  exact ((hx.mul (hn k)).mul (IsReal.add ⟨1, ofBits_1⟩ (hc k))).add (hh k)

/-- Negated columns give negated projections. -/
theorem sum_mul_neg {a w : Fin 1024 → EReal} (ha : ∀ k, IsReal (a k)) (hw : ∀ k, IsReal (w k)) :
    ∑ k : Fin 1024, a k * -w k = -∑ k : Fin 1024, a k * w k := by
  obtain ⟨r, rfl⟩ : ∃ r : Fin 1024 → ℝ, a = fun k => (r k : EReal) := ⟨fun k => (ha k).choose, funext fun k => (ha k).choose_spec⟩
  obtain ⟨s, rfl⟩ : ∃ s : Fin 1024 → ℝ, w = fun k => (s k : EReal) := ⟨fun k => (hw k).choose, funext fun k => (hw k).choose_spec⟩
  have e1 : ∑ k : Fin 1024, (r k : EReal) * -(s k : EReal) = ((∑ k : Fin 1024, r k * -s k : ℝ) : EReal) :=
    ((Cert.Attn.coe_sum Finset.univ fun k => r k * -s k).trans (Finset.sum_congr rfl fun k _ => by rw [EReal.coe_mul, EReal.coe_neg])).symm
  have e2 : ∑ k : Fin 1024, (r k : EReal) * (s k : EReal) = ((∑ k : Fin 1024, r k * s k : ℝ) : EReal) :=
    ((Cert.Attn.coe_sum Finset.univ fun k => r k * s k).trans (Finset.sum_congr rfl fun k _ => EReal.coe_mul _ _)).symm
  rw [e1, e2, ← EReal.coe_neg]
  congr 1
  rw [← Finset.sum_neg_distrib]
  exact Finset.sum_congr rfl fun k _ => mul_neg _ _

/-- The latent group of the projections, from the latent group of every row of the weights. -/
theorem sum_lat {a : Fin 1024 → EReal} {w : Fin 1024 → Fin 7616 → EReal} (ha : ∀ k, IsReal (a k)) (hw : ∀ k q, IsReal (w k q)) (j : Fin 640) :
    ∑ k : Fin 1024, a k * lat (w k) j = lat (fun q => ∑ k : Fin 1024, a k * w k q) j := by
  unfold lat
  split_ifs <;> first
    | rfl
    | exact Finset.sum_eq_zero fun k _ => mul_zero _
    | exact sum_mul_neg ha fun k => hw k _

end Cert.InProj
end
-- ==== Proof.InProjArray.lean ====
/-
  The input projection's two arrays after the run.
-/
module

public import proofs.«01_k».proof.Proof.InProjCols
public import proofs.«01_k».proof.Proof.InProjReal

@[expose] public section

set_option maxRecDepth 16384

noncomputable section

namespace Cert.InProj

open Cert.InProjIdeal Cert.InProjIdeal.Gen Cert.InProjIdeal.Body Idealize.ShloMosaic Idealize.ShloMosaic.TcCoe Idealize.SL.Sem Cert.Ffn

theorem normed_apply (x : Vec Ideal S2048x1024 .f32) (nw : Vec Ideal S1x1024 .f32) (sc sh : Vec Ideal S1x1x1024 .f32) (i : Fin 2048) (k : Fin 1024) :
    k0_pay1 x nw sc sh (ix2 i k)
      = Ffn.norm (fun k => x (ix2 i k)) (fun k => nw (ix2 (0 : Fin 1) k)) (fun k => sc (ix3 (0 : Fin 1) (0 : Fin 1) k))
          (fun k => sh (ix3 (0 : Fin 1) (0 : Fin 1) k)) k := by
  unfold k0_pay1 Ffn.norm
  pointwise

theorem narrow_apply (x : Vec Ideal S2048x1024 .f32) (nw : Vec Ideal S1x1024 .f32) (sc sh : Vec Ideal S1x1x1024 .f32)
    (w : Vec Ideal S1024x640 .bf16) (i : Fin 2048) (j : Fin 640) :
    k0_pay3 x nw sc sh w (ix2 i j) = ∑ k : Fin 1024, k0_pay1 x nw sc sh (ix2 i k) * w (ix2 k j) := by
  unfold k0_pay3
  pointwise

theorem wide_apply (a : Vec Ideal S2048x1024 .bf16) (w : Vec Ideal S1024x1024 .bf16) (i : Fin 2048) (j : Fin 1024) :
    k0_pay4 a w (ix2 i j) = ∑ k : Fin 1024, a (ix2 i k) * w (ix2 k j) := by
  unfold k0_pay4
  pointwise

theorem kept_apply (x : Vec Ideal S2048x1024 .f32) (nw : Vec Ideal S1x1024 .f32) (sc sh : Vec Ideal S1x1x1024 .f32) (i : Fin 2048) (k : Fin 1024) :
    k0_pay2 x nw sc sh (ix2 i k) = k0_pay1 x nw sc sh (ix2 i k) := by
  unfold k0_pay2
  pointwise

variable (c : Dev nD) (m : (ℓ : Loc nD τ sig) → Buf (Elt Ideal) ℓ)

/-- The place in its batch of a row of a block. -/
def sOf (t : Fin cfg0.N) (r : Fin 2048) : Fin 8192 := ⟨t.val / 7 % 4 * 2048 + r.val, by omega⟩

theorem first_div (t : Fin cfg0.N) : (first t).val / 7 = t.val / 7 := by unfold first; dsimp only; omega

/-- A token's features. -/
def a (b : Fin 4) (s : Fin 8192) (k : Fin 1024) : EReal := aAt (argH c m) (argSh c m) (argSc c m) (argNw c m) b s k

theorem x0_at (t : Fin cfg0.N) (r : Fin 2048) (k : Fin 1024) :
    (iblk m c 0 t : FVec Ideal S2048x1024 .f32) (ix2 r k) = argH c m (ix3 (bOf t) (sOf t r) k) := by
  refine (blk0 c m t r k).trans ((v18_at c m _ k).trans ?_)
  have eb : ∀ p, (⟨(rowOf t r).val / 8192, p⟩ : Fin 4) = bOf t := fun _ => Fin.ext (by unfold rowOf bOf; dsimp only; omega)
  have es : ∀ p, (⟨(rowOf t r).val % 8192, p⟩ : Fin 8192) = sOf t r := fun _ => Fin.ext (by unfold rowOf sOf; dsimp only; omega)
  exact congrArg₂ (fun b s => argH c m (ix3 b s k)) (eb _) (es _)

theorem normed_at (t : Fin cfg0.N) (r : Fin 2048) (k : Fin 1024) :
    k0_pay1 (iblk m c 0 t) (iblk m c 3 t) (iblk m c 2 t) (iblk m c 1 t) (ix2 r k) = a c m (bOf t) (sOf t r) k := by
  refine (normed_apply _ _ _ _ r k).trans ?_
  exact congrFun (congr (congr (congr (congrArg Ffn.norm (funext fun k => x0_at c m t r k))
    (funext fun k => (blk3 c m t k).trans (v19_at c m k)))
    (funext fun k => (blk2 c m t k).trans (arg2_at c m _ k)))
    (funext fun k => (blk1 c m t k).trans (arg1_at c m _ k))) k

theorem b_first (t : Fin cfg0.N) : bOf (first t) = bOf t := Fin.ext (by unfold bOf first; dsimp only; omega)
theorem s_first (t : Fin cfg0.N) (r : Fin 2048) : sOf (first t) r = sOf t r := Fin.ext (by unfold sOf first; dsimp only; omega)

theorem first_at (t : Fin cfg0.N) (r : Fin 2048) (k : Fin 1024) :
    k0_pay1 (iblk m c 0 (first t)) (iblk m c 3 (first t)) (iblk m c 2 (first t)) (iblk m c 1 (first t)) (ix2 r k) = a c m (bOf t) (sOf t r) k := by
  rw [normed_at, b_first, s_first]

/-- The two results, from the arguments. -/
def latRes : FVec Ideal S32768x640 .f32 := latArr (argH c m) (argSh c m) (argSc c m) (argNw c m) (argW c m)
def mgRes : FVec Ideal S32768x7168 .bf16 := mgArr (argH c m) (argSh c m) (argSc c m) (argNw c m) (argW c m)

theorem wide_at (t : Fin cfg0.N) (r : Fin 2048) (j : Fin 1024) :
    (wide m c t : FVec Ideal S2048x1024 .bf16) (ix2 r j) = mgRes c m (ix2 (rowOf t r) (colOf t j)) := by
  unfold wide normed
  refine (wide_apply _ _ r j).trans ?_
  unfold mgRes mgArr
  have eb : ∀ p, (⟨(rowOf t r).val / 8192, p⟩ : Fin 4) = bOf t := fun _ => Fin.ext (by unfold rowOf bOf; dsimp only; omega)
  have es : ∀ p, (⟨(rowOf t r).val % 8192, p⟩ : Fin 8192) = sOf t r := fun _ => Fin.ext (by unfold rowOf sOf; dsimp only; omega)
  refine Eq.trans ?_ (congrArg₂ (fun b s => proj (argH c m) (argSh c m) (argSc c m) (argNw c m) (argW c m) b s (wcol (colOf t j))) (eb _) (es _)).symm
  unfold proj
  exact Finset.sum_congr rfl fun k _ => congrArg₂ (· * ·) ((kept_apply _ _ _ _ r k).trans (first_at c m t r k))
    ((blk5 c m t k j).trans (v17_at c m k _))

/-- The modulation and the weights are real. -/
structure Reals : Prop where
  sh : ∀ i, IsReal (argSh c m i)
  sc : ∀ i, IsReal (argSc c m i)
  nw : ∀ i, IsReal (argNw c m i)
  w : ∀ i, IsReal (argW c m i)

theorem narrow_at (hr : Reals c m) (t : Fin cfg0.N) (r : Fin 2048) (j : Fin 640) :
    (narrow m c t : FVec Ideal S2048x640 .f32) (ix2 r j) = latRes c m (ix2 (rowOf t r) j) := by
  unfold narrow
  refine (narrow_apply _ _ _ _ _ r j).trans ?_
  unfold latRes latArr
  have eb : ∀ p, (⟨(rowOf t r).val / 8192, p⟩ : Fin 4) = bOf t := fun _ => Fin.ext (by unfold rowOf bOf; dsimp only; omega)
  have es : ∀ p, (⟨(rowOf t r).val % 8192, p⟩ : Fin 8192) = sOf t r := fun _ => Fin.ext (by unfold rowOf sOf; dsimp only; omega)
  refine Eq.trans ?_ (congrArg₂ (fun b s => lat (fun q => proj (argH c m) (argSh c m) (argSc c m) (argNw c m) (argW c m) b s q) j) (eb _) (es _)).symm
  refine Eq.trans ?_ (sum_lat (a := a c m (bOf t) (sOf t r)) (w := fun k q => argW c m (ix2 k q)) (fun k => ?_) (fun k q => hr.w _) j)
  · exact Finset.sum_congr rfl fun k _ => congrArg₂ (· * ·) (first_at c m t r k) ((blk4 c m _ k j).trans (v16_at c m k j))
  · unfold a aAt
    exact real_norm (fun _ => hr.nw _) (fun _ => hr.sc _) (fun _ => hr.sh _) k

/-- The arrays after the run. -/
theorem lat_eq (hr : Reals c m) : (dats m 0 c).arrAt 6 cfg0.N = latRes c m := by
  refine (dats m 0 c).arrAt_eq_of_covers 6 (latRes c m) (by decide +kernel) fun t hf y => ?_
  blk_simp
  rw [after6]
  obtain ⟨r, j, rfl⟩ : ∃ (r : Fin 2048) (j : Fin 640), y = ix2 r j := ⟨y 0, y 1, by ext a; fin_cases a <;> rfl⟩
  refine Eq.trans (narrow_at c m hr t r j) ?_
  exact (congrArg (latRes c m) (emb6 t r j)).symm

theorem mg_eq : (dats m 0 c).arrAt 7 cfg0.N = mgRes c m := by
  refine (dats m 0 c).arrAt_eq_of_covers 7 (mgRes c m) (by decide +kernel) fun t hf y => ?_
  blk_simp
  rw [after7]
  obtain ⟨r, j, rfl⟩ : ∃ (r : Fin 2048) (j : Fin 1024), y = ix2 r j := ⟨y 0, y 1, by ext a; fin_cases a <;> rfl⟩
  refine Eq.trans (wide_at c m t r j) ?_
  exact (congrArg (mgRes c m) (emb7 t r j)).symm

/-- The run: its two arrays are what the points wrote, the arguments are unchanged. -/
theorem run_arrays (ρ : Dev nD → PrngReg) : θ_run defs (onTc (τ := τ) (main (F := Ideal))) ⟨m, fun _ => 0, ρ⟩ fun r => ∀ c : Dev nD,
      r.2.mem ((c : Thread nD τ).loc main_v20_0) = (dats m 0 c).arrAt 6 cfg0.N
      ∧ r.2.mem ((c : Thread nD τ).loc main_v20_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 6, (h c).1 7,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.InProj
end
-- ==== Proof.InProjRef.lean ====
/-
  The input projection's reference results at an index.
-/
module

public import proofs.«01_k».proof.Proof.InProjSpec
public import proofs.«01_k».proof.Proof.Gen.InProjReferenceIdeal.Read
public import Idealize.ShloMosaic.Lib.Pointwise

@[expose] public section

set_option maxRecDepth 16384

noncomputable section

namespace Cert.InProj

open Cert.InProjReferenceIdeal Cert.InProjReferenceIdeal.Gen Cert.InProjReferenceIdeal.Read Idealize.ShloMosaic Idealize.ShloMosaic.TcCoe
  Idealize.SL.Sem Cert.Ffn

variable (h : Arr3 4 8192 1024) (sh sc : Arr3 4 1 1024) (nw : Arr1 1024) (w : Arr2 1024 7616)

theorem ref_a (b : Fin 4) (s : Fin 8192) (k : Fin 1024) :
    val_main_v18 (F := Ideal) h sh sc nw (ix3 b s k) = aAt h sh sc nw b s k := by
  unfold aAt Ffn.norm
  pointwise [val_main_v18, val_main_v17, val_main_v16, val_main_v15, val_main_v14, val_main_v13, val_main_cst_2, val_main_v12, val_main_v11,
    val_main_v10, val_main_v9, val_main_v8, val_main_v7, val_main_v6, val_main_v5, val_main_cst_1, val_main_v4, val_main_v3, val_main_cst_0,
    val_main_v2, val_main_v1, val_main_cst, val_main_v0]

theorem ref20 (b : Fin 4) (s : Fin 8192) (f : Fin 256) :
    val_main_v20 (F := Ideal) h sh sc nw w (ix3 b s f) = proj h sh sc nw w b s (⟨f.val, by omega⟩ : Fin 7616) := by
  unfold proj val_main_v20
  pointwise [val_main_v19]
  simp only [ref_a]

theorem ref22 (b : Fin 4) (s : Fin 8192) (f : Fin 128) :
    val_main_v22 (F := Ideal) h sh sc nw w (ix3 b s f) = proj h sh sc nw w b s (⟨256 + f.val, by omega⟩ : Fin 7616) := by
  unfold proj val_main_v22
  pointwise [val_main_v21]
  simp only [ref_a]

theorem ref24 (b : Fin 4) (s : Fin 8192) (f : Fin 32) :
    val_main_v24 (F := Ideal) h sh sc nw w (ix3 b s f) = proj h sh sc nw w b s (⟨384 + f.val, by omega⟩ : Fin 7616) := by
  unfold proj val_main_v24
  pointwise [val_main_v23]
  simp only [ref_a]

theorem ref26 (b : Fin 4) (s : Fin 8192) (f : Fin 512) :
    val_main_v26 (F := Ideal) h sh sc nw w (ix3 b s f) = proj h sh sc nw w b s (⟨416 + f.val, by omega⟩ : Fin 7616) := by
  unfold proj val_main_v26
  pointwise [val_main_v25]
  simp only [ref_a]

theorem ref28 (b : Fin 4) (s : Fin 8192) (f : Fin 512) :
    val_main_v28 (F := Ideal) h sh sc nw w (ix3 b s f) = proj h sh sc nw w b s (⟨928 + f.val, by omega⟩ : Fin 7616) := by
  unfold proj val_main_v28
  pointwise [val_main_v27]
  simp only [ref_a]

theorem ref30 (b : Fin 4) (s : Fin 8192) (f : Fin 512) :
    val_main_v30 (F := Ideal) h sh sc nw w (ix3 b s f) = proj h sh sc nw w b s (⟨1440 + f.val, by omega⟩ : Fin 7616) := by
  unfold proj val_main_v30
  pointwise [val_main_v29]
  simp only [ref_a]

theorem ref32 (b : Fin 4) (s : Fin 8192) (f : Fin 512) :
    val_main_v32 (F := Ideal) h sh sc nw w (ix3 b s f) = proj h sh sc nw w b s (⟨1952 + f.val, by omega⟩ : Fin 7616) := by
  unfold proj val_main_v32
  pointwise [val_main_v31]
  simp only [ref_a]

theorem ref34 (b : Fin 4) (s : Fin 8192) (f : Fin 16) :
    val_main_v34 (F := Ideal) h sh sc nw w (ix3 b s f) = proj h sh sc nw w b s (⟨2464 + f.val, by omega⟩ : Fin 7616) := by
  unfold proj val_main_v34
  pointwise [val_main_v33]
  simp only [ref_a]

theorem ref36 (b : Fin 4) (s : Fin 8192) (f : Fin 16) :
    val_main_v36 (F := Ideal) h sh sc nw w (ix3 b s f) = proj h sh sc nw w b s (⟨2480 + f.val, by omega⟩ : Fin 7616) := by
  unfold proj val_main_v36
  pointwise [val_main_v35]
  simp only [ref_a]

theorem ref38 (b : Fin 4) (s : Fin 8192) (f : Fin 512) :
    val_main_v38 (F := Ideal) h sh sc nw w (ix3 b s f) = proj h sh sc nw w b s (⟨2496 + f.val, by omega⟩ : Fin 7616) := by
  unfold proj val_main_v38
  pointwise [val_main_v37]
  simp only [ref_a]

theorem ref40 (b : Fin 4) (s : Fin 8192) (f : Fin 512) :
    val_main_v40 (F := Ideal) h sh sc nw w (ix3 b s f) = proj h sh sc nw w b s (⟨3008 + f.val, by omega⟩ : Fin 7616) := by
  unfold proj val_main_v40
  pointwise [val_main_v39]
  simp only [ref_a]

theorem ref42 (b : Fin 4) (s : Fin 8192) (f : Fin 512) :
    val_main_v42 (F := Ideal) h sh sc nw w (ix3 b s f) = proj h sh sc nw w b s (⟨3520 + f.val, by omega⟩ : Fin 7616) := by
  unfold proj val_main_v42
  pointwise [val_main_v41]
  simp only [ref_a]

theorem ref44 (b : Fin 4) (s : Fin 8192) (f : Fin 512) :
    val_main_v44 (F := Ideal) h sh sc nw w (ix3 b s f) = proj h sh sc nw w b s (⟨4032 + f.val, by omega⟩ : Fin 7616) := by
  unfold proj val_main_v44
  pointwise [val_main_v43]
  simp only [ref_a]

theorem ref46 (b : Fin 4) (s : Fin 8192) (f : Fin 1024) :
    val_main_v46 (F := Ideal) h sh sc nw w (ix3 b s f) = proj h sh sc nw w b s (⟨4544 + f.val, by omega⟩ : Fin 7616) := by
  unfold proj val_main_v46
  pointwise [val_main_v45]
  simp only [ref_a]

theorem ref48 (b : Fin 4) (s : Fin 8192) (f : Fin 1024) :
    val_main_v48 (F := Ideal) h sh sc nw w (ix3 b s f) = proj h sh sc nw w b s (⟨5568 + f.val, by omega⟩ : Fin 7616) := by
  unfold proj val_main_v48
  pointwise [val_main_v47]
  simp only [ref_a]

theorem ref50 (b : Fin 4) (s : Fin 8192) (f : Fin 1024) :
    val_main_v50 (F := Ideal) h sh sc nw w (ix3 b s f) = proj h sh sc nw w b s (⟨6592 + f.val, by omega⟩ : Fin 7616) := by
  unfold proj val_main_v50
  pointwise [val_main_v49]
  simp only [ref_a]

theorem ref66 (b : Fin 4) (s : Fin 8192) (j : Fin 7168) :
    val_main_v66 (F := Ideal) h sh sc nw w (ix3 b s j) = proj h sh sc nw w b s (wcol j) := by
  unfold val_main_v66 val_main_v65
  pointwise
  simp only [ref26, ref28, ref30, ref32, ref38, ref40, ref42, ref44, ref46, ref48, ref50]
  unfold wcol
  generalize proj h sh sc nw w b s = x
  by_cases h0 : j.val < 512
  · rw [dif_pos h0, dif_pos (by omega)]
    exact congrArg x (Fin.ext (by dsimp only; omega))
  rw [dif_neg h0]
  by_cases h1 : j.val - 512 < 512
  · rw [dif_pos h1, dif_pos (by omega)]
    exact congrArg x (Fin.ext (by dsimp only; omega))
  rw [dif_neg h1]
  by_cases h2 : j.val - 512 - 512 < 512
  · rw [dif_pos h2, dif_pos (by omega)]
    exact congrArg x (Fin.ext (by dsimp only; omega))
  rw [dif_neg h2]
  by_cases h3 : j.val - 512 - 512 - 512 < 512
  · rw [dif_pos h3, dif_pos (by omega)]
    exact congrArg x (Fin.ext (by dsimp only; omega))
  rw [dif_neg h3]
  by_cases h4 : j.val - 512 - 512 - 512 - 512 < 512
  · rw [dif_pos h4, dif_neg (by omega)]
    exact congrArg x (Fin.ext (by dsimp only; omega))
  rw [dif_neg h4]
  by_cases h5 : j.val - 512 - 512 - 512 - 512 - 512 < 512
  · rw [dif_pos h5, dif_neg (by omega)]
    exact congrArg x (Fin.ext (by dsimp only; omega))
  rw [dif_neg h5]
  by_cases h6 : j.val - 512 - 512 - 512 - 512 - 512 - 512 < 512
  · rw [dif_pos h6, dif_neg (by omega)]
    exact congrArg x (Fin.ext (by dsimp only; omega))
  rw [dif_neg h6]
  by_cases h7 : j.val - 512 - 512 - 512 - 512 - 512 - 512 - 512 < 512
  · rw [dif_pos h7, dif_neg (by omega)]
    exact congrArg x (Fin.ext (by dsimp only; omega))
  rw [dif_neg h7]
  by_cases h8 : j.val - 512 - 512 - 512 - 512 - 512 - 512 - 512 - 512 < 1024
  · rw [dif_pos h8, dif_neg (by omega)]
    exact congrArg x (Fin.ext (by dsimp only; omega))
  rw [dif_neg h8]
  by_cases h9 : j.val - 512 - 512 - 512 - 512 - 512 - 512 - 512 - 512 - 1024 < 1024
  · rw [dif_pos h9, dif_neg (by omega)]
    exact congrArg x (Fin.ext (by dsimp only; omega))
  rw [dif_neg h9]
  rw [dif_neg (by omega)]
  exact congrArg x (Fin.ext (by dsimp only; omega))

theorem ref51 (b : Fin 4) (s : Fin 8192) (f : Fin 64) : val_main_v51 (F := Ideal) (ix3 b s f) = 0 := by
  unfold val_main_v51
  pointwise [val_main_cst_3]

theorem ref52 (b : Fin 4) (s : Fin 8192) (f : Fin 64) : val_main_v52 (F := Ideal) (ix3 b s f) = 0 := by
  unfold val_main_v52
  pointwise [val_main_cst_4]

theorem ref63 (b : Fin 4) (s : Fin 8192) (f : Fin 32) : val_main_v63 (F := Ideal) (ix3 b s f) = 0 := by
  unfold val_main_v63
  pointwise [val_main_cst_5]

theorem ref57 (b : Fin 4) (s : Fin 8192) (f : Fin 16) :
    val_main_v57 (F := Ideal) h sh sc nw w (ix3 b s f)
      = if f.val < 8 then - proj h sh sc nw w b s (⟨f.val + 392, by omega⟩ : Fin 7616) else proj h sh sc nw w b s (⟨f.val + 376, by omega⟩ : Fin 7616) := by
  unfold val_main_v57
  pointwise
  unfold val_main_v56 val_main_v55 val_main_v54 val_main_v53
  pointwise
  simp only [ref24]
  by_cases g : f.val < 8
  · rw [dif_pos g, if_pos g]
    exact congrArg (fun q => - proj h sh sc nw w b s q) (Fin.ext (by dsimp only; omega))
  · rw [dif_neg g, if_neg g]
    exact congrArg (proj h sh sc nw w b s) (Fin.ext (by dsimp only; omega))

theorem ref62 (b : Fin 4) (s : Fin 8192) (f : Fin 16) :
    val_main_v62 (F := Ideal) h sh sc nw w (ix3 b s f)
      = if f.val < 8 then - proj h sh sc nw w b s (⟨f.val + 408, by omega⟩ : Fin 7616) else proj h sh sc nw w b s (⟨f.val + 392, by omega⟩ : Fin 7616) := by
  unfold val_main_v62
  pointwise
  unfold val_main_v61 val_main_v60 val_main_v59 val_main_v58
  pointwise
  simp only [ref24]
  by_cases g : f.val < 8
  · rw [dif_pos g, if_pos g]
    exact congrArg (fun q => - proj h sh sc nw w b s q) (Fin.ext (by dsimp only; omega))
  · rw [dif_neg g, if_neg g]
    exact congrArg (proj h sh sc nw w b s) (Fin.ext (by dsimp only; omega))

theorem ref64 (b : Fin 4) (s : Fin 8192) (j : Fin 640) :
    val_main_v64 (F := Ideal) h sh sc nw w (ix3 b s j) = lat (fun q => proj h sh sc nw w b s q) j := by
  unfold val_main_v64
  pointwise
  simp only [ref20, ref22, ref24, ref34, ref36, ref51, ref52, ref57, ref62, ref63]
  generalize proj h sh sc nw w b s = x
  by_cases h0 : j.val < 256
  · refine Eq.trans ?_ (show lat x j = x (⟨j.val, by omega⟩ : Fin 7616) by unfold lat; rw [if_pos (by omega)]).symm
    rw [dif_pos h0]
    all_goals exact congrArg x (Fin.ext (by dsimp only; omega))
  rw [dif_neg h0]
  by_cases h1 : j.val - 256 < 128
  · refine Eq.trans ?_ (show lat x j = x (⟨j.val, by omega⟩ : Fin 7616) by unfold lat; rw [if_pos (by omega)]).symm
    rw [dif_pos h1]
    exact congrArg x (Fin.ext (by dsimp only; omega))
  rw [dif_neg h1]
  by_cases h2 : j.val - 256 - 128 < 64
  · refine Eq.trans ?_ (show lat x j = 0 by unfold lat; rw [if_neg (by omega), if_pos (by omega)]).symm
    rw [dif_pos h2]
  rw [dif_neg h2]
  by_cases h3 : j.val - 256 - 128 - 64 < 32
  · refine Eq.trans ?_ (show lat x j = x (⟨j.val - 64, by omega⟩ : Fin 7616) by unfold lat; rw [if_neg (by omega), if_neg (by omega), if_pos (by omega)]).symm
    rw [dif_pos h3]
    exact congrArg x (Fin.ext (by dsimp only; omega))
  rw [dif_neg h3]
  by_cases h4 : j.val - 256 - 128 - 64 - 32 < 16
  · refine Eq.trans ?_ (show lat x j = x (⟨j.val + 1984, by omega⟩ : Fin 7616) by unfold lat; rw [if_neg (by omega), if_neg (by omega), if_neg (by omega), if_pos (by omega)]).symm
    rw [dif_pos h4]
    exact congrArg x (Fin.ext (by dsimp only; omega))
  rw [dif_neg h4]
  by_cases h5 : j.val - 256 - 128 - 64 - 32 - 16 < 16
  · refine Eq.trans ?_ (show lat x j = x (⟨j.val + 1984, by omega⟩ : Fin 7616) by unfold lat; rw [if_neg (by omega), if_neg (by omega), if_neg (by omega), if_pos (by omega)]).symm
    rw [dif_pos h5]
    exact congrArg x (Fin.ext (by dsimp only; omega))
  rw [dif_neg h5]
  by_cases h6 : j.val - 256 - 128 - 64 - 32 - 16 - 16 < 64
  · refine Eq.trans ?_ (show lat x j = 0 by unfold lat; rw [if_neg (by omega), if_neg (by omega), if_neg (by omega), if_neg (by omega), if_pos (by omega)]).symm
    rw [dif_pos h6]
  rw [dif_neg h6]
  by_cases h7 : j.val - 256 - 128 - 64 - 32 - 16 - 16 - 64 < 16
  · by_cases g : j.val - 256 - 128 - 64 - 32 - 16 - 16 - 64 < 8
    · refine Eq.trans ?_ (show lat x j = -x (⟨j.val - 184, by omega⟩ : Fin 7616) by unfold lat; rw [if_neg (by omega), if_neg (by omega), if_neg (by omega), if_neg (by omega), if_neg (by omega), if_pos (by omega)]).symm
      rw [dif_pos h7, if_pos g]
      exact congrArg (fun q => - x q) (Fin.ext (by dsimp only; omega))
    · refine Eq.trans ?_ (show lat x j = x (⟨j.val - 200, by omega⟩ : Fin 7616) by unfold lat; rw [if_neg (by omega), if_neg (by omega), if_neg (by omega), if_neg (by omega), if_neg (by omega), if_neg (by omega), if_pos (by omega)]).symm
      rw [dif_pos h7, if_neg g]
      exact congrArg x (Fin.ext (by dsimp only; omega))
  rw [dif_neg h7]
  by_cases h8 : j.val - 256 - 128 - 64 - 32 - 16 - 16 - 64 - 16 < 16
  · by_cases g : j.val - 256 - 128 - 64 - 32 - 16 - 16 - 64 - 16 < 8
    · refine Eq.trans ?_ (show lat x j = -x (⟨j.val - 184, by omega⟩ : Fin 7616) by unfold lat; rw [if_neg (by omega), if_neg (by omega), if_neg (by omega), if_neg (by omega), if_neg (by omega), if_neg (by omega), if_neg (by omega), if_pos (by omega)]).symm
      rw [dif_pos h8, if_pos g]
      exact congrArg (fun q => - x q) (Fin.ext (by dsimp only; omega))
    · refine Eq.trans ?_ (show lat x j = x (⟨j.val - 200, by omega⟩ : Fin 7616) by unfold lat; rw [if_neg (by omega), if_neg (by omega), if_neg (by omega), if_neg (by omega), if_neg (by omega), if_neg (by omega), if_neg (by omega), if_neg (by omega), if_pos (by omega)]).symm
      rw [dif_pos h8, if_neg g]
      exact congrArg x (Fin.ext (by dsimp only; omega))
  rw [dif_neg h8]
  exact (show lat x j = 0 by unfold lat; rw [if_neg (by omega), if_neg (by omega), if_neg (by omega), if_neg (by omega), if_neg (by omega), if_neg (by omega), if_neg (by omega), if_neg (by omega), if_neg (by omega)]).symm

theorem ref_lat : val_main_v67 (F := Ideal) h sh sc nw w = latArr h sh sc nw w := by
  funext y
  obtain ⟨r, j, rfl⟩ : ∃ (r : Fin 32768) (j : Fin 640), y = ix2 r j := ⟨y 0, y 1, by ext a; fin_cases a <;> rfl⟩
  unfold latArr val_main_v67
  pointwise
  exact ref64 h sh sc nw w _ _ _

theorem ref_mg : val_main_v68 (F := Ideal) h sh sc nw w = mgArr h sh sc nw w := by
  funext y
  obtain ⟨r, j, rfl⟩ : ∃ (r : Fin 32768) (j : Fin 7168), y = ix2 r j := ⟨y 0, y 1, by ext a; fin_cases a <;> rfl⟩
  unfold mgArr val_main_v68
  pointwise
  exact ref66 h sh sc nw w _ _ _

end Cert.InProj
end
-- ==== Proof.InProjPre.lean ====
/-
  The precondition read: every element of the arguments but the tokens is a real.
-/
module

public import proofs.«01_k».proof.Proof.Pre
public import proofs.«01_k».proof.Proof.InProjReal
public import proofs.«01_k».proof.Pre_real_weights

@[expose] public section

set_option maxRecDepth 16384

noncomputable section

namespace Cert.InProj

open Cert.Pre_real_weights Idealize.ShloMosaic Cert.Attn

theorem pre_reals [Cert.Pre_real_weights.Facts] (x0 : FVec Ideal S4x8192x1024 .f32) (x1 x2 : FVec Ideal S4x1x1024 .f32)
    (x3 : FVec Ideal S1024 .f32) (x4 : FVec Ideal S1024x7616 .f32) (h : fn (F := Ideal) x0 x1 x2 x3 x4 = fun _ => 1#1) :
    (∀ i, IsReal (x1 i)) ∧ (∀ i, IsReal (x2 i)) ∧ (∀ i, IsReal (x3 i)) ∧ ∀ i, IsReal (x4 i) := by
  have e := congrFun h (fun a => a.elim0)
  unfold fn fn_part1 at e
  dsimp only at e
  haveI : Subsingleton S_.Idx := ⟨fun a b => funext fun k => k.elim0⟩
  obtain ⟨e, e4⟩ := IntOp.andi_eq_one.1 e
  obtain ⟨e, e3⟩ := IntOp.andi_eq_one.1 e
  obtain ⟨e1, e2⟩ := IntOp.andi_eq_one.1 e
  exact ⟨fun i => real_of_between x1 _ _ i rfl rfl (Host.reduce_andi_all _ _ _ _ _ e1 i),
    fun i => real_of_between x2 _ _ i rfl rfl (Host.reduce_andi_all _ _ _ _ _ e2 i),
    fun i => real_of_between x3 _ _ i rfl rfl (Host.reduce_andi_all _ _ _ _ _ e3 i),
    fun i => real_of_between x4 _ _ i rfl rfl (Host.reduce_andi_all _ _ _ _ _ e4 i)⟩

end Cert.InProj
end
-- ==== Proof.MergeSpec.lean ====
/-
  The gated merge's result as plain sums, over arrays of extended reals.
-/
module

public import proofs.«01_k».proof.Proof.InProjReal

@[expose] public section

set_option maxRecDepth 16384

noncomputable section

namespace Cert.GatedMerge

open Idealize.ShloMosaic

/-- The sigmoid, and a number times its own sigmoid. -/
def sig (x : EReal) : EReal := Ideal.div 1 (1 + Ideal.exp (-x))
def swish (x : EReal) : EReal := x * sig x

/-- A head normed by its root mean square. -/
def unit (x : Fin 128 → EReal) (k : Fin 128) : EReal :=
  x k * Ideal.rsqrt (Ideal.div (∑ j : Fin 128, x j * x j) (Ideal.ofBits .f32 0x43000000#32) + Ideal.ofBits .f32 0x358637BD#32)

/-- A column's head and its place in the head; the head's columns. -/
def head (j : Fin 512) : Fin 4 := ⟨j.val / 128, by omega⟩
def place (j : Fin 512) : Fin 128 := ⟨j.val % 128, by omega⟩
def lane (p : Fin 4) (k : Fin 128) : Fin 512 := ⟨p.val * 128 + k.val, by omega⟩

/-- The sum of both directions, normed by heads, weighted, and gated: a row's element. -/
def gla (w : Fin 128 → EReal) (f b g : Fin 512 → EReal) (j : Fin 512) : EReal :=
  unit (fun k => f (lane (head j) k) + b (lane (head j) k)) (place j) * w (place j) * swish (g j)

/-- The same without a weight. -/
def ret (f b g : Fin 512 → EReal) (j : Fin 512) : EReal :=
  unit (fun k => f (lane (head j) k) + b (lane (head j) k)) (place j) * swish (g j)

/-- The gated sum of the three branches' projections. -/
def mix (y0 y1 y2 : Fin 512 → EReal) (g0 g1 g2 b0 b1 b2 : Fin 1024 → EReal) (w0 w1 w2 : Fin 512 → Fin 1024 → EReal) (k : Fin 1024) : EReal :=
  sig (g0 k + b0 k) * (∑ j : Fin 512, y0 j * w0 j k) + sig (g1 k + b1 k) * (∑ j : Fin 512, y1 j * w1 j k)
    + sig (g2 k + b2 k) * (∑ j : Fin 512, y2 j * w2 j k)

/-- The token plus its gate times the output projection. -/
def row (u h gt : Fin 1024 → EReal) (wo : Fin 1024 → Fin 1024 → EReal) (d : Fin 1024) : EReal :=
  h d + gt d * ∑ k : Fin 1024, u k * wo k d

abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

variable (ym gf gb rf rb : Arr3 4 8192 512) (mg : Arr2 32768 7168) (w : Arr1 128) (bg : Arr2 3 1024) (wb : Arr3 3 512 1024)
  (wo : Arr2 1024 1024) (h : Arr3 4 8192 1024) (gt : Arr3 4 1 1024)

/-- A token's row among the rows of all batches. -/
def rowIx (b : Fin 4) (s : Fin 8192) : Fin 32768 := ⟨b.val * 8192 + s.val, by omega⟩

/-- The two gated branches of a token. -/
def glaAt (b : Fin 4) (s : Fin 8192) (j : Fin 512) : EReal :=
  gla (fun k => w (ix1 k)) (fun j => gf (ix3 b s j)) (fun j => gb (ix3 b s j))
    (fun j => mg (ix2 (rowIx b s) (⟨1536 + j.val, by omega⟩ : Fin 7168))) j

def retAt (b : Fin 4) (s : Fin 8192) (j : Fin 512) : EReal :=
  ret (fun j => rf (ix3 b s j)) (fun j => rb (ix3 b s j)) (fun j => mg (ix2 (rowIx b s) (⟨3584 + j.val, by omega⟩ : Fin 7168))) j

/-- The gated sum of a token's branches. -/
def mixAt (b : Fin 4) (s : Fin 8192) (k : Fin 1024) : EReal :=
  mix (fun j => ym (ix3 b s j)) (glaAt gf gb mg w b s) (retAt rf rb mg b s)
    (fun k => mg (ix2 (rowIx b s) (⟨4096 + k.val, by omega⟩ : Fin 7168))) (fun k => mg (ix2 (rowIx b s) (⟨5120 + k.val, by omega⟩ : Fin 7168)))
    (fun k => mg (ix2 (rowIx b s) (⟨6144 + k.val, by omega⟩ : Fin 7168)))
    (fun k => bg (ix2 (0 : Fin 3) k)) (fun k => bg (ix2 (1 : Fin 3) k)) (fun k => bg (ix2 (2 : Fin 3) k))
    (fun j k => wb (ix3 (0 : Fin 3) j k)) (fun j k => wb (ix3 (1 : Fin 3) j k)) (fun j k => wb (ix3 (2 : Fin 3) j k)) k

/-- A token's element of the result. -/
def outAt (b : Fin 4) (s : Fin 8192) (d : Fin 1024) : EReal :=
  row (mixAt ym gf gb rf rb mg w bg wb b s) (fun d => h (ix3 b s d)) (fun d => gt (ix3 b (0 : Fin 1) d)) (fun k d => wo (ix2 k d)) d

/-- The result as an array of all batches' rows. -/
def outArr : Arr2 32768 1024 := fun y =>
  outAt ym gf gb rf rb mg w bg wb wo h gt (⟨(y 0).val / 8192, by have : (y 0).val < 32768 := (y 0).isLt; omega⟩ : Fin 4)
    (⟨(y 0).val % 8192, by omega⟩ : Fin 8192) (y 1)

theorem ofBits_128 : Ideal.ofBits .f32 0x43000000#32 = ((128 : ℝ) : EReal) := by
  simp [Ideal.ofBits, Ideal.ieee]
  rw [← EReal.coe_mul]
  norm_num

theorem ofBits_128th : Ideal.ofBits .f32 0x3C000000#32 = ((1 / 128 : ℝ) : EReal) := by
  simp [Ideal.ofBits, Ideal.ieee]
  rw [← EReal.coe_mul]
  norm_num

/-- Division by 128 is the product with its reciprocal. -/
theorem mean_eq (x : EReal) : x * Ideal.ofBits .f32 0x3C000000#32 = Ideal.div x (Ideal.ofBits .f32 0x43000000#32) := by
  rw [ofBits_128, ofBits_128th, Ideal.div_coe (by norm_num)]

theorem ofBits_one : Ideal.ofBits .f32 0x3F800000#32 = 1 := InProj.ofBits_1.trans EReal.coe_one

end Cert.GatedMerge
end
-- ==== Proof.MergeRef.lean ====
/-
  The merge's reference at an index.
-/
module

public import proofs.«01_k».proof.Proof.MergeSpec
public import proofs.«01_k».proof.Proof.Gen.MergeReferenceIdeal.Read
public import Idealize.ShloMosaic.Lib.Pointwise

@[expose] public section

set_option maxRecDepth 16384

noncomputable section

namespace Cert.GatedMerge

open Cert.MergeReferenceIdeal Cert.MergeReferenceIdeal.Gen Cert.MergeReferenceIdeal.Read Idealize.ShloMosaic Idealize.ShloMosaic.TcCoe Idealize.SL.Sem

variable (ym gf gb rf rb : Arr3 4 8192 512) (mg : Arr2 32768 7168) (w : Arr1 128) (bg : Arr2 3 1024) (wb : Arr3 3 512 1024)
  (wo : Arr2 1024 1024) (h : Arr3 4 8192 1024) (gt : Arr3 4 1 1024)

theorem ref_swish_gla (b : Fin 4) (s : Fin 8192) (j : Fin 512) :
    val_main_v51 (F := Ideal) mg (ix3 b s j) = swish (mg (ix2 (rowIx b s) (⟨1536 + j.val, by omega⟩ : Fin 7168))) := by
  unfold swish sig rowIx
  pointwise [val_main_v51, val_main_call0_v5, val_main_call0_v4, val_main_call0_v3, val_main_call0_v2, val_main_call0_v1, val_main_call0_v0,
    val_main_call0_cst, val_main_call0_cst_0, val_main_v11, val_main_v10, val_main_v9]

theorem ref_swish_ret (b : Fin 4) (s : Fin 8192) (j : Fin 512) :
    val_main_v68 (F := Ideal) mg (ix3 b s j) = swish (mg (ix2 (rowIx b s) (⟨3584 + j.val, by omega⟩ : Fin 7168))) := by
  unfold swish sig rowIx
  pointwise [val_main_v68, val_main_call1_v5, val_main_call1_v4, val_main_call1_v3, val_main_call1_v2, val_main_call1_v1, val_main_call1_v0,
    val_main_call1_cst, val_main_call1_cst_0, val_main_v23, val_main_v22, val_main_v21]

theorem lane_self (j : Fin 512) (p : j.val / 128 * 128 + j.val % 128 < 512) : (⟨j.val / 128 * 128 + j.val % 128, p⟩ : Fin 512) = j :=
  Fin.ext (by dsimp only; omega)

theorem ref_unit_gla (b : Fin 4) (s : Fin 8192) (j : Fin 512) :
    val_main_v50 (F := Ideal) gf gb w (ix3 b s j)
      = unit (fun k => gf (ix3 b s (lane (head j) k)) + gb (ix3 b s (lane (head j) k))) (place j) * w (ix1 (place j)) := by
  unfold unit lane head place
  pointwise [val_main_v50, val_main_v49, val_main_v48, val_main_v47, val_main_v46, val_main_v45, val_main_v44, val_main_v43, val_main_v42,
    val_main_v41, val_main_cst_1, val_main_v40, val_main_v39, val_main_cst_0, val_main_v38, val_main_v37, val_main_cst, val_main_v36, val_main_v35,
    val_main_v34, val_main_v33]
  simp only [lane_self]

theorem ref_unit_ret (b : Fin 4) (s : Fin 8192) (j : Fin 512) :
    val_main_v67 (F := Ideal) rf rb (ix3 b s j)
      = unit (fun k => rf (ix3 b s (lane (head j) k)) + rb (ix3 b s (lane (head j) k))) (place j) := by
  unfold unit lane head place
  pointwise [val_main_v67, val_main_v66, val_main_v65, val_main_v64, val_main_v63, val_main_v62, val_main_v61, val_main_cst_4, val_main_v60,
    val_main_v59, val_main_cst_3, val_main_v58, val_main_v57, val_main_cst_2, val_main_v56, val_main_v55, val_main_v54, val_main_v53]
  simp only [lane_self]

theorem ref_gla (b : Fin 4) (s : Fin 8192) (j : Fin 512) :
    val_main_v52 (F := Ideal) gf gb mg w (ix3 b s j) = glaAt gf gb mg w b s j :=
  congrArg₂ (· * ·) (ref_unit_gla gf gb w b s j) (ref_swish_gla mg b s j)

theorem ref_ret (b : Fin 4) (s : Fin 8192) (j : Fin 512) :
    val_main_v69 (F := Ideal) rf rb mg (ix3 b s j) = retAt rf rb mg b s j :=
  congrArg₂ (· * ·) (ref_unit_ret rf rb b s j) (ref_swish_ret mg b s j)

theorem ref_sig0 (b : Fin 4) (s : Fin 8192) (k : Fin 1024) :
    val_main_v81 (F := Ideal) mg bg (ix3 b s k)
      = sig (mg (ix2 (rowIx b s) (⟨4096 + k.val, by omega⟩ : Fin 7168)) + bg (ix2 (0 : Fin 3) k)) := by
  unfold sig rowIx
  pointwise [val_main_v81, val_main_v80, val_main_cst_6, val_main_v79, val_main_v78, val_main_cst_5, val_main_v77, val_main_v76, val_main_v75, val_main_v74, val_main_v73, val_main_v72, val_main_v71, val_main_v26, val_main_v25, val_main_v24]

theorem ref_sig1 (b : Fin 4) (s : Fin 8192) (k : Fin 1024) :
    val_main_v96 (F := Ideal) mg bg (ix3 b s k)
      = sig (mg (ix2 (rowIx b s) (⟨5120 + k.val, by omega⟩ : Fin 7168)) + bg (ix2 (1 : Fin 3) k)) := by
  unfold sig rowIx
  pointwise [val_main_v96, val_main_v95, val_main_cst_8, val_main_v94, val_main_v93, val_main_cst_7, val_main_v92, val_main_v91, val_main_v90, val_main_v89, val_main_v88, val_main_v87, val_main_v86, val_main_v29, val_main_v28, val_main_v27]

theorem ref_sig2 (b : Fin 4) (s : Fin 8192) (k : Fin 1024) :
    val_main_v112 (F := Ideal) mg bg (ix3 b s k)
      = sig (mg (ix2 (rowIx b s) (⟨6144 + k.val, by omega⟩ : Fin 7168)) + bg (ix2 (2 : Fin 3) k)) := by
  unfold sig rowIx
  pointwise [val_main_v112, val_main_v111, val_main_cst_10, val_main_v110, val_main_v109, val_main_cst_9, val_main_v108, val_main_v107, val_main_v106, val_main_v105, val_main_v104, val_main_v103, val_main_v102, val_main_v32, val_main_v31, val_main_v30]

theorem ref_dot0 (b : Fin 4) (s : Fin 8192) (k : Fin 1024) :
    val_main_v84 (F := Ideal) ym wb (ix3 b s k) = ∑ j : Fin 512, ym (ix3 b s j) * wb (ix3 (0 : Fin 3) j k) := by
  unfold val_main_v84
  pointwise [val_main_v83, val_main_v82, val_main_v70]

theorem ref_dot1 (b : Fin 4) (s : Fin 8192) (k : Fin 1024) :
    val_main_v99 (F := Ideal) gf gb mg w wb (ix3 b s k) = ∑ j : Fin 512, glaAt gf gb mg w b s j * wb (ix3 (1 : Fin 3) j k) := by
  unfold val_main_v99
  pointwise [val_main_v98, val_main_v97]
  simp only [ref_gla]

theorem ref_dot2 (b : Fin 4) (s : Fin 8192) (k : Fin 1024) :
    val_main_v115 (F := Ideal) rf rb mg wb (ix3 b s k) = ∑ j : Fin 512, retAt rf rb mg b s j * wb (ix3 (2 : Fin 3) j k) := by
  unfold val_main_v115
  pointwise [val_main_v114, val_main_v113]
  simp only [ref_ret]

theorem ref_mix (b : Fin 4) (s : Fin 8192) (k : Fin 1024) :
    val_main_v117 (F := Ideal) ym gf gb rf rb mg w bg wb (ix3 b s k) = mixAt ym gf gb rf rb mg w bg wb b s k := by
  unfold mixAt mix
  rw [← ref_sig0, ← ref_sig1, ← ref_sig2, ← ref_dot0, ← ref_dot1, ← ref_dot2]
  rfl

theorem ref_out (b : Fin 4) (s : Fin 8192) (d : Fin 1024) :
    val_main_v121 (F := Ideal) ym gf gb rf rb mg w bg wb wo h gt (ix3 b s d) = outAt ym gf gb rf rb mg w bg wb wo h gt b s d := by
  unfold outAt row
  pointwise [val_main_v121, val_main_v120, val_main_v119, val_main_v118]
  simp only [ref_mix]

theorem ref_eq : val_main_v122 (F := Ideal) ym gf gb rf rb mg w bg wb wo h gt = outArr ym gf gb rf rb mg w bg wb wo h gt := by
  funext y
  obtain ⟨r, d, rfl⟩ : ∃ (r : Fin 32768) (d : Fin 1024), y = ix2 r d := ⟨y 0, y 1, by ext a; fin_cases a <;> rfl⟩
  unfold outArr val_main_v122
  pointwise
  exact ref_out ym gf gb rf rb mg w bg wb wo h gt _ _ _

end Cert.GatedMerge
end
-- ==== Proof.MergeRows.lean ====
/-
  The gated merge's body at a row: both halves of a block are the same function of their rows.
-/
module

public import proofs.«01_k».proof.Proof.MergeSpec
public import proofs.«01_k».proof.Proof.Gen.MergeIdeal.Value
public import Idealize.ShloMosaic.Lib.Pointwise
public import Idealize.ShloMosaic.Lib.Pipeline.ValueKit

@[expose] public section

set_option maxRecDepth 16384

noncomputable section

namespace Cert.GatedMerge

open Cert.MergeIdeal Cert.MergeIdeal.Gen Idealize.ShloMosaic Idealize.ShloMosaic.TcCoe Idealize.SL.Sem

/-- Four heads, normed, weighted and gated, side by side; and four without a weight. -/
def glaHeads (w : Vec Ideal S1x128 .f32) (f0 b0 f1 b1 f2 b2 f3 b3 : Vec Ideal S256x128 .f32) (g0 g1 g2 g3 : Vec Ideal S256x128 .bf16) :
    FVec Ideal S256x512 .bf16 :=
  concatenate S256x512 1 [⟨S256x128, k0_pay4 w f0 b0 g0⟩, ⟨S256x128, k0_pay4 w f1 b1 g1⟩, ⟨S256x128, k0_pay4 w f2 b2 g2⟩,
    ⟨S256x128, k0_pay4 w f3 b3 g3⟩] concatenates_S256x128_S256x128_S256x128_S256x128_S256x512_d1

def retHeads (f0 b0 f1 b1 f2 b2 f3 b3 : Vec Ideal S256x128 .f32) (g0 g1 g2 g3 : Vec Ideal S256x128 .bf16) : FVec Ideal S256x512 .bf16 :=
  concatenate S256x512 1 [⟨S256x128, k0_pay13 f0 b0 g0⟩, ⟨S256x128, k0_pay13 f1 b1 g1⟩, ⟨S256x128, k0_pay13 f2 b2 g2⟩,
    ⟨S256x128, k0_pay13 f3 b3 g3⟩] concatenates_S256x128_S256x128_S256x128_S256x128_S256x512_d1

/-- Half a block's rows. -/
def chain (y : Vec Ideal S256x512 .bf16) (yg yr : FVec Ideal S256x512 .bf16) (w0 w1 w2 : Vec Ideal S1x512x1024 .bf16)
    (g0 g1 g2 : Vec Ideal S256x1024 .bf16) (b0 b1 b2 : Vec Ideal S1x1024 .f32) (wo : Vec Ideal S1024x1024 .bf16) (h : Vec Ideal S256x1024 .f32)
    (gt : Vec Ideal S1x1x1024 .f32) : FVec Ideal S256x1024 .f32 :=
  k0_pay39 (k0_pay38 (k0_pay20 (k0_pay2 y) w0) (k0_pay21 yg w1) (k0_pay37 yr w2) g0 b0 g1 b1 g2 b2) wo h gt

theorem pay4_at (w : Vec Ideal S1x128 .f32) (f b : Vec Ideal S256x128 .f32) (g : Vec Ideal S256x128 .bf16) (r : Fin 256) (k : Fin 128) :
    k0_pay4 w f b g (ix2 r k) = unit (fun k => f (ix2 r k) + b (ix2 r k)) k * w (ix2 (0 : Fin 1) k) * swish (g (ix2 r k)) := by
  unfold unit swish sig
  rw [← mean_eq]
  pointwise [k0_pay4, k0_pay3]
  rfl

theorem pay13_at (f b : Vec Ideal S256x128 .f32) (g : Vec Ideal S256x128 .bf16) (r : Fin 256) (k : Fin 128) :
    k0_pay13 f b g (ix2 r k) = unit (fun k => f (ix2 r k) + b (ix2 r k)) k * swish (g (ix2 r k)) := by
  unfold unit swish sig
  rw [← mean_eq]
  pointwise [k0_pay13]
  rfl

theorem chain_at (y : Vec Ideal S256x512 .bf16) (yg yr : FVec Ideal S256x512 .bf16) (w0 w1 w2 : Vec Ideal S1x512x1024 .bf16)
    (g0 g1 g2 : Vec Ideal S256x1024 .bf16) (b0 b1 b2 : Vec Ideal S1x1024 .f32) (wo : Vec Ideal S1024x1024 .bf16) (h : Vec Ideal S256x1024 .f32)
    (gt : Vec Ideal S1x1x1024 .f32) (r : Fin 256) (d : Fin 1024) :
    chain y yg yr w0 w1 w2 g0 g1 g2 b0 b1 b2 wo h gt (ix2 r d)
      = row (mix (fun j => y (ix2 r j)) (fun j => yg (ix2 r j)) (fun j => yr (ix2 r j)) (fun k => g0 (ix2 r k)) (fun k => g1 (ix2 r k))
          (fun k => g2 (ix2 r k)) (fun k => b0 (ix2 (0 : Fin 1) k)) (fun k => b1 (ix2 (0 : Fin 1) k)) (fun k => b2 (ix2 (0 : Fin 1) k))
          (fun j k => w0 (ix3 (0 : Fin 1) j k)) (fun j k => w1 (ix3 (0 : Fin 1) j k)) (fun j k => w2 (ix3 (0 : Fin 1) j k)))
        (fun d => h (ix2 r d)) (fun d => gt (ix3 (0 : Fin 1) (0 : Fin 1) d)) (fun k d => wo (ix2 k d)) d := by
  unfold row mix sig
  pointwise [chain, k0_pay39, k0_pay38, k0_pay20, k0_pay21, k0_pay37, k0_pay2]
  rfl

variable (x0 : Vec Ideal S512x512 .bf16) (x1 x2 x3 x4 : Vec Ideal S512x512 .f32) (x5 x6 : Vec Ideal S512x512 .bf16)
  (x7 x8 x9 : Vec Ideal S512x1024 .bf16) (x10 : Vec Ideal S1x128 .f32) (x11 : Vec Ideal S1x3072 .f32) (x12 : Vec Ideal S3x512x1024 .bf16)
  (x13 : Vec Ideal S1024x1024 .bf16) (x14 : Vec Ideal S512x1024 .f32) (x15 : Vec Ideal S1x1x1024 .f32)

theorem out_eq : out0_16 x0 x1 x2 x3 x4 x5 x6 x7 x8 x9 x10 x11 x12 x13 x14 x15
    = View.canon [⟨r0_20, chain (View.ld x0 r0_9)
          (glaHeads (View.ld x10 r0_1) (View.ld x1 r0_10) (View.ld x2 r0_10) (View.ld x1 r0_11) (View.ld x2 r0_11) (View.ld x1 r0_12)
            (View.ld x2 r0_12) (View.ld x1 r0_13) (View.ld x2 r0_13) (View.ld x5 r0_10) (View.ld x5 r0_11) (View.ld x5 r0_12) (View.ld x5 r0_13))
          (retHeads (View.ld x3 r0_10) (View.ld x4 r0_10) (View.ld x3 r0_11) (View.ld x4 r0_11) (View.ld x3 r0_12)
            (View.ld x4 r0_12) (View.ld x3 r0_13) (View.ld x4 r0_13) (View.ld x6 r0_10) (View.ld x6 r0_11) (View.ld x6 r0_12) (View.ld x6 r0_13))
          (View.ld x12 r0_6) (View.ld x12 r0_7) (View.ld x12 r0_8) (View.ld x7 r0_20) (View.ld x8 r0_20) (View.ld x9 r0_20)
          (View.ld x11 r0_15) (View.ld x11 r0_16) (View.ld x11 r0_17) (View.ld x13 r0_18) (View.ld x14 r0_20) (View.ld x15 r0_19)⟩,
        ⟨r0_14, chain (View.ld x0 r0_0)
          (glaHeads (View.ld x10 r0_1) (View.ld x1 r0_2) (View.ld x2 r0_2) (View.ld x1 r0_3) (View.ld x2 r0_3) (View.ld x1 r0_4)
            (View.ld x2 r0_4) (View.ld x1 r0_5) (View.ld x2 r0_5) (View.ld x5 r0_2) (View.ld x5 r0_3) (View.ld x5 r0_4) (View.ld x5 r0_5))
          (retHeads (View.ld x3 r0_2) (View.ld x4 r0_2) (View.ld x3 r0_3) (View.ld x4 r0_3) (View.ld x3 r0_4)
            (View.ld x4 r0_4) (View.ld x3 r0_5) (View.ld x4 r0_5) (View.ld x6 r0_2) (View.ld x6 r0_3) (View.ld x6 r0_4) (View.ld x6 r0_5))
          (View.ld x12 r0_6) (View.ld x12 r0_7) (View.ld x12 r0_8) (View.ld x7 r0_14) (View.ld x8 r0_14) (View.ld x9 r0_14)
          (View.ld x11 r0_15) (View.ld x11 r0_16) (View.ld x11 r0_17) (View.ld x13 r0_18) (View.ld x14 r0_14) (View.ld x15 r0_19)⟩] := rfl

end Cert.GatedMerge
end
-- ==== Proof.MergeBlock.lean ====
/-
  The gated merge's block: every row is the same function of the loaded blocks' rows.
-/
module

public import proofs.«01_k».proof.Proof.MergeRows
public import proofs.«01_k».proof.Proof.Gen.MergeIdeal.Value
public import Idealize.ShloMosaic.Lib.Pointwise
public import Idealize.ShloMosaic.Lib.Pipeline.ValueKit

@[expose] public section

set_option maxRecDepth 16384

noncomputable section

namespace Cert.GatedMerge

open Cert.MergeIdeal Cert.MergeIdeal.Gen Idealize.ShloMosaic Idealize.ShloMosaic.TcCoe Idealize.SL.Sem

variable (w : Vec Ideal S1x128 .f32) (f0 b0 f1 b1 f2 b2 f3 b3 : Vec Ideal S256x128 .f32) (g0 g1 g2 g3 : Vec Ideal S256x128 .bf16)
  (F B : Vec Ideal S512x512 .f32) (G : Vec Ideal S512x512 .bf16) (r : Fin 256) (R : Fin 512)

theorem pay4_lane (f b : Vec Ideal S256x128 .f32) (g : Vec Ideal S256x128 .bf16) (p : Fin 4) (j : Fin 512) (k : Fin 128)
    (hj : j.val = p.val * 128 + k.val) (hf : ∀ k, f (ix2 r k) = F (ix2 R (lane p k))) (hb : ∀ k, b (ix2 r k) = B (ix2 R (lane p k)))
    (hg : ∀ k, g (ix2 r k) = G (ix2 R (lane p k))) :
    k0_pay4 w f b g (ix2 r k)
      = gla (fun k => w (ix2 (0 : Fin 1) k)) (fun j => F (ix2 R j)) (fun j => B (ix2 R j)) (fun j => G (ix2 R j)) j := by
  have e1 : head j = p := Fin.ext (by unfold head; dsimp only; omega)
  have e2 : place j = k := Fin.ext (by unfold place; dsimp only; omega)
  have e3 : lane p k = j := Fin.ext hj.symm
  rw [pay4_at]
  unfold gla
  rw [e1, e2, hg, e3]
  simp only [hf, hb]

theorem pay13_lane (f b : Vec Ideal S256x128 .f32) (g : Vec Ideal S256x128 .bf16) (p : Fin 4) (j : Fin 512) (k : Fin 128)
    (hj : j.val = p.val * 128 + k.val) (hf : ∀ k, f (ix2 r k) = F (ix2 R (lane p k))) (hb : ∀ k, b (ix2 r k) = B (ix2 R (lane p k)))
    (hg : ∀ k, g (ix2 r k) = G (ix2 R (lane p k))) :
    k0_pay13 f b g (ix2 r k) = ret (fun j => F (ix2 R j)) (fun j => B (ix2 R j)) (fun j => G (ix2 R j)) j := by
  have e1 : head j = p := Fin.ext (by unfold head; dsimp only; omega)
  have e2 : place j = k := Fin.ext (by unfold place; dsimp only; omega)
  have e3 : lane p k = j := Fin.ext hj.symm
  rw [pay13_at]
  unfold ret
  rw [e1, e2, hg, e3]
  simp only [hf, hb]

theorem glaHeads_at (j : Fin 512)
    (hf0 : ∀ k, f0 (ix2 r k) = F (ix2 R (lane 0 k))) (hb0 : ∀ k, b0 (ix2 r k) = B (ix2 R (lane 0 k))) (hg0 : ∀ k, g0 (ix2 r k) = G (ix2 R (lane 0 k)))
    (hf1 : ∀ k, f1 (ix2 r k) = F (ix2 R (lane 1 k))) (hb1 : ∀ k, b1 (ix2 r k) = B (ix2 R (lane 1 k))) (hg1 : ∀ k, g1 (ix2 r k) = G (ix2 R (lane 1 k)))
    (hf2 : ∀ k, f2 (ix2 r k) = F (ix2 R (lane 2 k))) (hb2 : ∀ k, b2 (ix2 r k) = B (ix2 R (lane 2 k))) (hg2 : ∀ k, g2 (ix2 r k) = G (ix2 R (lane 2 k)))
    (hf3 : ∀ k, f3 (ix2 r k) = F (ix2 R (lane 3 k))) (hb3 : ∀ k, b3 (ix2 r k) = B (ix2 R (lane 3 k))) (hg3 : ∀ k, g3 (ix2 r k) = G (ix2 R (lane 3 k))) :
    glaHeads w f0 b0 f1 b1 f2 b2 f3 b3 g0 g1 g2 g3 (ix2 r j) = gla (fun k => w (ix2 (0 : Fin 1) k)) (fun j => F (ix2 R j)) (fun j => B (ix2 R j)) (fun j => G (ix2 R j)) j := by
  unfold glaHeads
  pointwise
  by_cases c0 : j.val < 128
  · rw [dif_pos (by omega)]
    exact pay4_lane w F B G r R f0 b0 g0 0 j _ (by dsimp only; omega) hf0 hb0 hg0
  rw [dif_neg (by omega)]
  by_cases c1 : j.val < 256
  · rw [dif_pos (by omega)]
    exact pay4_lane w F B G r R f1 b1 g1 1 j _ (by dsimp only; omega) hf1 hb1 hg1
  rw [dif_neg (by omega)]
  by_cases c2 : j.val < 384
  · rw [dif_pos (by omega)]
    exact pay4_lane w F B G r R f2 b2 g2 2 j _ (by dsimp only; omega) hf2 hb2 hg2
  rw [dif_neg (by omega)]
  exact pay4_lane w F B G r R f3 b3 g3 3 j _ (by dsimp only; omega) hf3 hb3 hg3

theorem retHeads_at (j : Fin 512)
    (hf0 : ∀ k, f0 (ix2 r k) = F (ix2 R (lane 0 k))) (hb0 : ∀ k, b0 (ix2 r k) = B (ix2 R (lane 0 k))) (hg0 : ∀ k, g0 (ix2 r k) = G (ix2 R (lane 0 k)))
    (hf1 : ∀ k, f1 (ix2 r k) = F (ix2 R (lane 1 k))) (hb1 : ∀ k, b1 (ix2 r k) = B (ix2 R (lane 1 k))) (hg1 : ∀ k, g1 (ix2 r k) = G (ix2 R (lane 1 k)))
    (hf2 : ∀ k, f2 (ix2 r k) = F (ix2 R (lane 2 k))) (hb2 : ∀ k, b2 (ix2 r k) = B (ix2 R (lane 2 k))) (hg2 : ∀ k, g2 (ix2 r k) = G (ix2 R (lane 2 k)))
    (hf3 : ∀ k, f3 (ix2 r k) = F (ix2 R (lane 3 k))) (hb3 : ∀ k, b3 (ix2 r k) = B (ix2 R (lane 3 k))) (hg3 : ∀ k, g3 (ix2 r k) = G (ix2 R (lane 3 k))) :
    retHeads f0 b0 f1 b1 f2 b2 f3 b3 g0 g1 g2 g3 (ix2 r j) = ret (fun j => F (ix2 R j)) (fun j => B (ix2 R j)) (fun j => G (ix2 R j)) j := by
  unfold retHeads
  pointwise
  by_cases c0 : j.val < 128
  · rw [dif_pos (by omega)]
    exact pay13_lane F B G r R f0 b0 g0 0 j _ (by dsimp only; omega) hf0 hb0 hg0
  rw [dif_neg (by omega)]
  by_cases c1 : j.val < 256
  · rw [dif_pos (by omega)]
    exact pay13_lane F B G r R f1 b1 g1 1 j _ (by dsimp only; omega) hf1 hb1 hg1
  rw [dif_neg (by omega)]
  by_cases c2 : j.val < 384
  · rw [dif_pos (by omega)]
    exact pay13_lane F B G r R f2 b2 g2 2 j _ (by dsimp only; omega) hf2 hb2 hg2
  rw [dif_neg (by omega)]
  exact pay13_lane F B G r R f3 b3 g3 3 j _ (by dsimp only; omega) hf3 hb3 hg3

variable (x0 : Vec Ideal S512x512 .bf16) (x1 x2 x3 x4 : Vec Ideal S512x512 .f32) (x5 x6 : Vec Ideal S512x512 .bf16)
  (x7 x8 x9 : Vec Ideal S512x1024 .bf16) (x10 : Vec Ideal S1x128 .f32) (x11 : Vec Ideal S1x3072 .f32) (x12 : Vec Ideal S3x512x1024 .bf16)
  (x13 : Vec Ideal S1024x1024 .bf16) (x14 : Vec Ideal S512x1024 .f32) (x15 : Vec Ideal S1x1x1024 .f32)

/-- The gated sum of a row's branches, and the row. -/
def mixRow (R : Fin 512) : Fin 1024 → EReal :=
  mix (fun j => x0 (ix2 R j))
    (gla (fun k => x10 (ix2 (0 : Fin 1) k)) (fun j => x1 (ix2 R j)) (fun j => x2 (ix2 R j)) (fun j => x5 (ix2 R j)))
    (ret (fun j => x3 (ix2 R j)) (fun j => x4 (ix2 R j)) (fun j => x6 (ix2 R j)))
    (fun k => x7 (ix2 R k)) (fun k => x8 (ix2 R k)) (fun k => x9 (ix2 R k))
    (fun k => x11 (ix2 (0 : Fin 1) (⟨k.val, by omega⟩ : Fin 3072))) (fun k => x11 (ix2 (0 : Fin 1) (⟨1024 + k.val, by omega⟩ : Fin 3072)))
    (fun k => x11 (ix2 (0 : Fin 1) (⟨2048 + k.val, by omega⟩ : Fin 3072)))
    (fun j k => x12 (ix3 (0 : Fin 3) j k)) (fun j k => x12 (ix3 (1 : Fin 3) j k)) (fun j k => x12 (ix3 (2 : Fin 3) j k))

def block : FVec Ideal S512x1024 .f32 := fun y =>
  row (mixRow x0 x1 x2 x3 x4 x5 x6 x7 x8 x9 x10 x11 x12 (y 0)) (fun d => x14 (ix2 (y 0) d)) (fun d => x15 (ix3 (0 : Fin 1) (0 : Fin 1) d))
    (fun k d => x13 (ix2 k d)) (y 1)

/-- A load of 256 rows at a row and a column of the block. -/
theorem ld_head {e : EltTy} (X : Vec Ideal S512x512 e) (o : ℕ) (p : Fin 4) (q : ℕ) (hq : q = p.val * 128)
    (inb : ∀ a, ![o, q] a + S256x128.size a ≤ S512x512.size a) (k : Fin 128) (hR : R.val = o + r.val) :
    View.ld X (Rect.unit (s := S512x512) ![o, q] S256x128.size inb) (ix2 r k) = X (ix2 R (lane p k)) :=
  View.ld_unit_apply_of X _ _ inb _ _ (fun a => by fin_cases a <;> simp [lane, hR, hq])

theorem ld_wide {e : EltTy} (X : Vec Ideal S512x1024 e) (o : ℕ)
    (inb : ∀ a, ![o, 0] a + S256x1024.size a ≤ S512x1024.size a) (k : Fin 1024) (hR : R.val = o + r.val) :
    View.ld X (Rect.unit (s := S512x1024) ![o, 0] S256x1024.size inb) (ix2 r k) = X (ix2 R k) :=
  View.ld_unit_apply_of X _ _ inb _ _ (fun a => by fin_cases a <;> simp [hR])

theorem ld_mla (X : Vec Ideal S512x512 .bf16) (o : ℕ)
    (inb : ∀ a, ![o, 0] a + S256x512.size a ≤ S512x512.size a) (k : Fin 512) (hR : R.val = o + r.val) :
    View.ld X (Rect.unit (s := S512x512) ![o, 0] S256x512.size inb) (ix2 r k) = X (ix2 R k) :=
  View.ld_unit_apply_of X _ _ inb _ _ (fun a => by fin_cases a <;> simp [hR])

theorem ld_bias (o : ℕ) (inb : ∀ a, ![0, o] a + S1x1024.size a ≤ S1x3072.size a) (k : Fin 1024) (q : Fin 3072) (hq : q.val = o + k.val) :
    View.ld x11 (Rect.unit (s := S1x3072) ![0, o] S1x1024.size inb) (ix2 (0 : Fin 1) k) = x11 (ix2 (0 : Fin 1) q) :=
  View.ld_unit_apply_of x11 _ _ inb _ _ (fun a => by fin_cases a <;> simp [hq])

theorem ld_branch (n : Fin 3) (o : ℕ) (ho : o = n.val) (inb : ∀ a, ![o, 0, 0] a + S1x512x1024.size a ≤ S3x512x1024.size a) (j : Fin 512) (k : Fin 1024) :
    View.ld x12 (Rect.unit (s := S3x512x1024) ![o, 0, 0] S1x512x1024.size inb) (ix3 (0 : Fin 1) j k) = x12 (ix3 n j k) :=
  View.ld_unit_apply_of x12 _ _ inb _ _ (fun a => by fin_cases a <;> simp [ho])

theorem ld_weight (k : Fin 128) : View.ld x10 r0_1 (ix2 (0 : Fin 1) k) = x10 (ix2 (0 : Fin 1) k) :=
  View.ld_unit_apply_of x10 _ _ _ _ _ (fun a => by fin_cases a <;> simp)

theorem ld_out (k d : Fin 1024) : View.ld x13 r0_18 (ix2 k d) = x13 (ix2 k d) :=
  View.ld_unit_apply_of x13 _ _ _ _ _ (fun a => by fin_cases a <;> simp)

theorem ld_gate (d : Fin 1024) : View.ld x15 r0_19 (ix3 (0 : Fin 1) (0 : Fin 1) d) = x15 (ix3 (0 : Fin 1) (0 : Fin 1) d) :=
  View.ld_unit_apply_of x15 _ _ _ _ _ (fun a => by fin_cases a <;> simp)

/-- A half's rows are the block's. -/
theorem half_at (o : ℕ) (i0 : ∀ a, ![o, 0] a + S256x512.size a ≤ S512x512.size a) (i1 : ∀ a, ![o, 0] a + S256x128.size a ≤ S512x512.size a)
    (i2 : ∀ a, ![o, 128] a + S256x128.size a ≤ S512x512.size a) (i3 : ∀ a, ![o, 256] a + S256x128.size a ≤ S512x512.size a)
    (i4 : ∀ a, ![o, 384] a + S256x128.size a ≤ S512x512.size a) (iw : ∀ a, ![o, 0] a + S256x1024.size a ≤ S512x1024.size a)
    (x : S256x1024.Idx) (y : S512x1024.Idx) (h0 : (y 0).val = o + (x 0).val) (h1 : (y 1).val = (x 1).val) :
    chain (View.ld x0 (Rect.unit (s := S512x512) ![o, 0] S256x512.size i0))
        (glaHeads (View.ld x10 r0_1) (View.ld x1 (Rect.unit (s := S512x512) ![o, 0] S256x128.size i1)) (View.ld x2 (Rect.unit (s := S512x512) ![o, 0] S256x128.size i1))
          (View.ld x1 (Rect.unit (s := S512x512) ![o, 128] S256x128.size i2)) (View.ld x2 (Rect.unit (s := S512x512) ![o, 128] S256x128.size i2))
          (View.ld x1 (Rect.unit (s := S512x512) ![o, 256] S256x128.size i3)) (View.ld x2 (Rect.unit (s := S512x512) ![o, 256] S256x128.size i3))
          (View.ld x1 (Rect.unit (s := S512x512) ![o, 384] S256x128.size i4)) (View.ld x2 (Rect.unit (s := S512x512) ![o, 384] S256x128.size i4))
          (View.ld x5 (Rect.unit (s := S512x512) ![o, 0] S256x128.size i1))
          (View.ld x5 (Rect.unit (s := S512x512) ![o, 128] S256x128.size i2))
          (View.ld x5 (Rect.unit (s := S512x512) ![o, 256] S256x128.size i3))
          (View.ld x5 (Rect.unit (s := S512x512) ![o, 384] S256x128.size i4)))
        (retHeads (View.ld x3 (Rect.unit (s := S512x512) ![o, 0] S256x128.size i1)) (View.ld x4 (Rect.unit (s := S512x512) ![o, 0] S256x128.size i1))
          (View.ld x3 (Rect.unit (s := S512x512) ![o, 128] S256x128.size i2)) (View.ld x4 (Rect.unit (s := S512x512) ![o, 128] S256x128.size i2))
          (View.ld x3 (Rect.unit (s := S512x512) ![o, 256] S256x128.size i3)) (View.ld x4 (Rect.unit (s := S512x512) ![o, 256] S256x128.size i3))
          (View.ld x3 (Rect.unit (s := S512x512) ![o, 384] S256x128.size i4)) (View.ld x4 (Rect.unit (s := S512x512) ![o, 384] S256x128.size i4))
          (View.ld x6 (Rect.unit (s := S512x512) ![o, 0] S256x128.size i1))
          (View.ld x6 (Rect.unit (s := S512x512) ![o, 128] S256x128.size i2))
          (View.ld x6 (Rect.unit (s := S512x512) ![o, 256] S256x128.size i3))
          (View.ld x6 (Rect.unit (s := S512x512) ![o, 384] S256x128.size i4)))
        (View.ld x12 r0_6) (View.ld x12 r0_7) (View.ld x12 r0_8) (View.ld x7 (Rect.unit (s := S512x1024) ![o, 0] S256x1024.size iw))
        (View.ld x8 (Rect.unit (s := S512x1024) ![o, 0] S256x1024.size iw)) (View.ld x9 (Rect.unit (s := S512x1024) ![o, 0] S256x1024.size iw))
        (View.ld x11 r0_15) (View.ld x11 r0_16) (View.ld x11 r0_17) (View.ld x13 r0_18)
        (View.ld x14 (Rect.unit (s := S512x1024) ![o, 0] S256x1024.size iw)) (View.ld x15 r0_19) x
      = block x0 x1 x2 x3 x4 x5 x6 x7 x8 x9 x10 x11 x12 x13 x14 x15 y := by
  obtain ⟨r, d, rfl⟩ : ∃ (r : Fin 256) (d : Fin 1024), x = ix2 r d := ⟨x 0, x 1, by ext a; fin_cases a <;> rfl⟩
  obtain ⟨R, D, rfl⟩ : ∃ (R : Fin 512) (D : Fin 1024), y = ix2 R D := ⟨y 0, y 1, by ext a; fin_cases a <;> rfl⟩
  have hR : R.val = o + r.val := h0
  obtain rfl : D = d := Fin.ext h1
  refine (chain_at _ _ _ _ _ _ _ _ _ _ _ _ _ _ _ r D).trans ?_
  unfold block mixRow
  refine congr (congr (congr (congr (congrArg row ?_) ?_) ?_) ?_) rfl
  · refine congr (congr (congr (congr (congr (congr (congr (congr (congr (congr (congr (congrArg mix ?_) ?_) ?_) ?_) ?_) ?_) ?_) ?_) ?_) ?_) ?_) ?_
    · exact funext fun j => ld_mla r R x0 o i0 j hR
    · funext j
      refine (glaHeads_at _ _ _ _ _ _ _ _ _ _ _ _ _ x1 x2 x5 r R j (fun k => ld_head r R _ o 0 _ rfl i1 k hR) (fun k => ld_head r R _ o 0 _ rfl i1 k hR) (fun k => ld_head r R _ o 0 _ rfl i1 k hR)
        (fun k => ld_head r R _ o 1 _ rfl i2 k hR) (fun k => ld_head r R _ o 1 _ rfl i2 k hR) (fun k => ld_head r R _ o 1 _ rfl i2 k hR)
        (fun k => ld_head r R _ o 2 _ rfl i3 k hR) (fun k => ld_head r R _ o 2 _ rfl i3 k hR) (fun k => ld_head r R _ o 2 _ rfl i3 k hR)
        (fun k => ld_head r R _ o 3 _ rfl i4 k hR) (fun k => ld_head r R _ o 3 _ rfl i4 k hR) (fun k => ld_head r R _ o 3 _ rfl i4 k hR)).trans ?_
      exact congrArg (fun w => gla w _ _ _ j) (funext fun k => ld_weight x10 k)
    · funext j
      exact retHeads_at _ _ _ _ _ _ _ _ _ _ _ _ x3 x4 x6 r R j (fun k => ld_head r R _ o 0 _ rfl i1 k hR) (fun k => ld_head r R _ o 0 _ rfl i1 k hR) (fun k => ld_head r R _ o 0 _ rfl i1 k hR)
        (fun k => ld_head r R _ o 1 _ rfl i2 k hR) (fun k => ld_head r R _ o 1 _ rfl i2 k hR) (fun k => ld_head r R _ o 1 _ rfl i2 k hR)
        (fun k => ld_head r R _ o 2 _ rfl i3 k hR) (fun k => ld_head r R _ o 2 _ rfl i3 k hR) (fun k => ld_head r R _ o 2 _ rfl i3 k hR)
        (fun k => ld_head r R _ o 3 _ rfl i4 k hR) (fun k => ld_head r R _ o 3 _ rfl i4 k hR) (fun k => ld_head r R _ o 3 _ rfl i4 k hR)
    · exact funext fun k => ld_wide r R x7 o iw k hR
    · exact funext fun k => ld_wide r R x8 o iw k hR
    · exact funext fun k => ld_wide r R x9 o iw k hR
    · exact funext fun k => ld_bias x11 0 _ k _ (Nat.zero_add _).symm
    · exact funext fun k => ld_bias x11 1024 _ k _ rfl
    · exact funext fun k => ld_bias x11 2048 _ k _ rfl
    · exact funext fun j => funext fun k => ld_branch x12 0 0 rfl _ j k
    · exact funext fun j => funext fun k => ld_branch x12 1 1 rfl _ j k
    · exact funext fun j => funext fun k => ld_branch x12 2 2 rfl _ j k
  · exact funext fun d => ld_wide r R x14 o iw d hR
  · exact funext fun d => ld_gate x15 d
  · exact funext fun k => funext fun d => ld_out x13 k d

/-- What the two stores leave. -/
theorem out_block : out0_16 x0 x1 x2 x3 x4 x5 x6 x7 x8 x9 x10 x11 x12 x13 x14 x15 = block x0 x1 x2 x3 x4 x5 x6 x7 x8 x9 x10 x11 x12 x13 x14 x15 := by
  rw [out_eq]
  funext y
  canon_tiles x h
  all_goals exact half_at x0 x1 x2 x3 x4 x5 x6 x7 x8 x9 x10 x11 x12 x13 x14 x15 _ _ _ _ _ _ _ x y (by omega) h1

end Cert.GatedMerge
end
-- ==== Proof.MergeBlocks.lean ====
/-
  The blocks that a grid point of the gated merge reads and writes, as elements of the arrays.
-/
module

public import proofs.«01_k».proof.Proof.MergeBlock
public import Idealize.ShloMosaic.Lib.StableHlo.ReadAt

@[expose] public section

set_option maxRecDepth 16384

noncomputable section

namespace Cert.GatedMerge

open Cert.MergeIdeal Cert.MergeIdeal.Gen Idealize.ShloMosaic Idealize.ShloMosaic.TcCoe Idealize.SL.Sem

/-- The blocks' places: 512 rows a point, the columns of the five parts of the wide projection, the batch `t / 16`. -/
theorem idx : ∀ t : Fin cfg0.N,
    win0_0.index t = ![t.val, 0] ∧ win0_1.index t = ![t.val, 0] ∧ win0_2.index t = ![t.val, 0] ∧ win0_3.index t = ![t.val, 0]
      ∧ win0_4.index t = ![t.val, 0] ∧ win0_5.index t = ![t.val, 3] ∧ win0_6.index t = ![t.val, 7] ∧ win0_7.index t = ![t.val, 4]
      ∧ win0_8.index t = ![t.val, 5] ∧ win0_9.index t = ![t.val, 6] ∧ win0_10.index t = ![0, 0] ∧ win0_11.index t = ![0, 0]
      ∧ win0_12.index t = ![0, 0, 0] ∧ win0_13.index t = ![0, 0] ∧ win0_14.index t = ![t.val, 0]
      ∧ win0_15.index t = ![t.val / 16, 0, 0] ∧ win0_16.index t = ![t.val, 0] :=
  (by decide +kernel : ∀ t : Fin grid0.N, _)

theorem t_lt (t : Fin cfg0.N) : t.val < 64 := t.isLt

/-- The batch of a point and the rows of its blocks. -/
def bOf (t : Fin cfg0.N) : Fin 4 := ⟨t.val / 16, by have := t_lt t; omega⟩
def rowOf (t : Fin cfg0.N) (r : Fin 512) : Fin 32768 := ⟨t.val * 512 + r.val, by have := t_lt t; omega⟩

theorem emb0 (t : Fin cfg0.N) (r : Fin 512) (k : Fin 512) :
    (win0_0.blk t).view.emb (ix2 r k) = (ix2 (rowOf t r) k : S32768x512.Idx) := by
  unfold rowOf
  blk_ext [idx t]

theorem emb1 (t : Fin cfg0.N) (r : Fin 512) (k : Fin 512) :
    (win0_1.blk t).view.emb (ix2 r k) = (ix2 (rowOf t r) k : S32768x512.Idx) := by
  unfold rowOf
  blk_ext [idx t]

theorem emb2 (t : Fin cfg0.N) (r : Fin 512) (k : Fin 512) :
    (win0_2.blk t).view.emb (ix2 r k) = (ix2 (rowOf t r) k : S32768x512.Idx) := by
  unfold rowOf
  blk_ext [idx t]

theorem emb3 (t : Fin cfg0.N) (r : Fin 512) (k : Fin 512) :
    (win0_3.blk t).view.emb (ix2 r k) = (ix2 (rowOf t r) k : S32768x512.Idx) := by
  unfold rowOf
  blk_ext [idx t]

theorem emb4 (t : Fin cfg0.N) (r : Fin 512) (k : Fin 512) :
    (win0_4.blk t).view.emb (ix2 r k) = (ix2 (rowOf t r) k : S32768x512.Idx) := by
  unfold rowOf
  blk_ext [idx t]

theorem emb5 (t : Fin cfg0.N) (r : Fin 512) (k : Fin 512) :
    (win0_5.blk t).view.emb (ix2 r k) = (ix2 (rowOf t r) (⟨1536 + k.val, by omega⟩ : Fin 7168) : S32768x7168.Idx) := by
  unfold rowOf
  blk_ext [idx t]

theorem emb6 (t : Fin cfg0.N) (r : Fin 512) (k : Fin 512) :
    (win0_6.blk t).view.emb (ix2 r k) = (ix2 (rowOf t r) (⟨3584 + k.val, by omega⟩ : Fin 7168) : S32768x7168.Idx) := by
  unfold rowOf
  blk_ext [idx t]

theorem emb7 (t : Fin cfg0.N) (r : Fin 512) (k : Fin 1024) :
    (win0_7.blk t).view.emb (ix2 r k) = (ix2 (rowOf t r) (⟨4096 + k.val, by omega⟩ : Fin 7168) : S32768x7168.Idx) := by
  unfold rowOf
  blk_ext [idx t]

theorem emb8 (t : Fin cfg0.N) (r : Fin 512) (k : Fin 1024) :
    (win0_8.blk t).view.emb (ix2 r k) = (ix2 (rowOf t r) (⟨5120 + k.val, by omega⟩ : Fin 7168) : S32768x7168.Idx) := by
  unfold rowOf
  blk_ext [idx t]

theorem emb9 (t : Fin cfg0.N) (r : Fin 512) (k : Fin 1024) :
    (win0_9.blk t).view.emb (ix2 r k) = (ix2 (rowOf t r) (⟨6144 + k.val, by omega⟩ : Fin 7168) : S32768x7168.Idx) := by
  unfold rowOf
  blk_ext [idx t]

theorem emb10 (t : Fin cfg0.N) (k : Fin 128) :
    (win0_10.blk t).view.emb (ix2 (0 : Fin 1) k) = (ix2 (0 : Fin 1) k : S1x128.Idx) := by
  blk_ext [idx t]

theorem emb11 (t : Fin cfg0.N) (k : Fin 3072) :
    (win0_11.blk t).view.emb (ix2 (0 : Fin 1) k) = (ix2 (0 : Fin 1) k : S1x3072.Idx) := by
  blk_ext [idx t]

theorem emb12 (t : Fin cfg0.N) (n : Fin 3) (j : Fin 512) (k : Fin 1024) :
    (win0_12.blk t).view.emb (ix3 n j k) = (ix3 n j k : S3x512x1024.Idx) := by
  blk_ext [idx t]

theorem emb13 (t : Fin cfg0.N) (r : Fin 1024) (k : Fin 1024) :
    (win0_13.blk t).view.emb (ix2 r k) = (ix2 r k : S1024x1024.Idx) := by
  blk_ext [idx t]

theorem emb14 (t : Fin cfg0.N) (r : Fin 512) (k : Fin 1024) :
    (win0_14.blk t).view.emb (ix2 r k) = (ix2 (rowOf t r) k : S32768x1024.Idx) := by
  unfold rowOf
  blk_ext [idx t]

theorem emb15 (t : Fin cfg0.N) (k : Fin 1024) :
    (win0_15.blk t).view.emb (ix3 (0 : Fin 1) (0 : Fin 1) k) = (ix3 (bOf t) (0 : Fin 1) k : S4x1x1024.Idx) := by
  unfold bOf
  blk_ext [idx t]

theorem emb16 (t : Fin cfg0.N) (r : Fin 512) (k : Fin 1024) :
    (win0_16.blk t).view.emb (ix2 r k) = (ix2 (rowOf t r) k : S32768x1024.Idx) := by
  unfold rowOf
  blk_ext [idx t]

variable (c : Dev nD)

theorem read0 (X : Buf (Elt Ideal) ((c : Thread nD τ).loc main_v0)) (t : Fin cfg0.N) (r : Fin 512) (k : Fin 512) :
    ((cfg0.win 0).blk t).view.read (Elt Ideal) X (ix2 r k) = X (ix2 (rowOf t r) k) := by
  refine Eq.trans ?_ (congrArg X (emb0 t r k))
  blk_simp

theorem read1 (X : Buf (Elt Ideal) ((c : Thread nD τ).loc main_v1)) (t : Fin cfg0.N) (r : Fin 512) (k : Fin 512) :
    ((cfg0.win 1).blk t).view.read (Elt Ideal) X (ix2 r k) = X (ix2 (rowOf t r) k) := by
  refine Eq.trans ?_ (congrArg X (emb1 t r k))
  blk_simp

theorem read2 (X : Buf (Elt Ideal) ((c : Thread nD τ).loc main_v2)) (t : Fin cfg0.N) (r : Fin 512) (k : Fin 512) :
    ((cfg0.win 2).blk t).view.read (Elt Ideal) X (ix2 r k) = X (ix2 (rowOf t r) k) := by
  refine Eq.trans ?_ (congrArg X (emb2 t r k))
  blk_simp

theorem read3 (X : Buf (Elt Ideal) ((c : Thread nD τ).loc main_v3)) (t : Fin cfg0.N) (r : Fin 512) (k : Fin 512) :
    ((cfg0.win 3).blk t).view.read (Elt Ideal) X (ix2 r k) = X (ix2 (rowOf t r) k) := by
  refine Eq.trans ?_ (congrArg X (emb3 t r k))
  blk_simp

theorem read4 (X : Buf (Elt Ideal) ((c : Thread nD τ).loc main_v4)) (t : Fin cfg0.N) (r : Fin 512) (k : Fin 512) :
    ((cfg0.win 4).blk t).view.read (Elt Ideal) X (ix2 r k) = X (ix2 (rowOf t r) k) := by
  refine Eq.trans ?_ (congrArg X (emb4 t r k))
  blk_simp

theorem read5 (X : Buf (Elt Ideal) ((c : Thread nD τ).loc main_arg5)) (t : Fin cfg0.N) (r : Fin 512) (k : Fin 512) :
    ((cfg0.win 5).blk t).view.read (Elt Ideal) X (ix2 r k) = X (ix2 (rowOf t r) (⟨1536 + k.val, by omega⟩ : Fin 7168)) := by
  refine Eq.trans ?_ (congrArg X (emb5 t r k))
  blk_simp

theorem read6 (X : Buf (Elt Ideal) ((c : Thread nD τ).loc main_arg5)) (t : Fin cfg0.N) (r : Fin 512) (k : Fin 512) :
    ((cfg0.win 6).blk t).view.read (Elt Ideal) X (ix2 r k) = X (ix2 (rowOf t r) (⟨3584 + k.val, by omega⟩ : Fin 7168)) := by
  refine Eq.trans ?_ (congrArg X (emb6 t r k))
  blk_simp

theorem read7 (X : Buf (Elt Ideal) ((c : Thread nD τ).loc main_arg5)) (t : Fin cfg0.N) (r : Fin 512) (k : Fin 1024) :
    ((cfg0.win 7).blk t).view.read (Elt Ideal) X (ix2 r k) = X (ix2 (rowOf t r) (⟨4096 + k.val, by omega⟩ : Fin 7168)) := by
  refine Eq.trans ?_ (congrArg X (emb7 t r k))
  blk_simp

theorem read8 (X : Buf (Elt Ideal) ((c : Thread nD τ).loc main_arg5)) (t : Fin cfg0.N) (r : Fin 512) (k : Fin 1024) :
    ((cfg0.win 8).blk t).view.read (Elt Ideal) X (ix2 r k) = X (ix2 (rowOf t r) (⟨5120 + k.val, by omega⟩ : Fin 7168)) := by
  refine Eq.trans ?_ (congrArg X (emb8 t r k))
  blk_simp

theorem read9 (X : Buf (Elt Ideal) ((c : Thread nD τ).loc main_arg5)) (t : Fin cfg0.N) (r : Fin 512) (k : Fin 1024) :
    ((cfg0.win 9).blk t).view.read (Elt Ideal) X (ix2 r k) = X (ix2 (rowOf t r) (⟨6144 + k.val, by omega⟩ : Fin 7168)) := by
  refine Eq.trans ?_ (congrArg X (emb9 t r k))
  blk_simp

theorem read10 (X : Buf (Elt Ideal) ((c : Thread nD τ).loc main_v5)) (t : Fin cfg0.N) (k : Fin 128) :
    ((cfg0.win 10).blk t).view.read (Elt Ideal) X (ix2 (0 : Fin 1) k) = X (ix2 (0 : Fin 1) k) := by
  refine Eq.trans ?_ (congrArg X (emb10 t k))
  blk_simp

theorem read11 (X : Buf (Elt Ideal) ((c : Thread nD τ).loc main_v6)) (t : Fin cfg0.N) (k : Fin 3072) :
    ((cfg0.win 11).blk t).view.read (Elt Ideal) X (ix2 (0 : Fin 1) k) = X (ix2 (0 : Fin 1) k) := by
  refine Eq.trans ?_ (congrArg X (emb11 t k))
  blk_simp

theorem read12 (X : Buf (Elt Ideal) ((c : Thread nD τ).loc main_v7)) (t : Fin cfg0.N) (n : Fin 3) (j : Fin 512) (k : Fin 1024) :
    ((cfg0.win 12).blk t).view.read (Elt Ideal) X (ix3 n j k) = X (ix3 n j k) := by
  refine Eq.trans ?_ (congrArg X (emb12 t n j k))
  blk_simp

theorem read13 (X : Buf (Elt Ideal) ((c : Thread nD τ).loc main_v8)) (t : Fin cfg0.N) (r : Fin 1024) (k : Fin 1024) :
    ((cfg0.win 13).blk t).view.read (Elt Ideal) X (ix2 r k) = X (ix2 r k) := by
  refine Eq.trans ?_ (congrArg X (emb13 t r k))
  blk_simp

theorem read14 (X : Buf (Elt Ideal) ((c : Thread nD τ).loc main_v9)) (t : Fin cfg0.N) (r : Fin 512) (k : Fin 1024) :
    ((cfg0.win 14).blk t).view.read (Elt Ideal) X (ix2 r k) = X (ix2 (rowOf t r) k) := by
  refine Eq.trans ?_ (congrArg X (emb14 t r k))
  blk_simp

theorem read15 (X : Buf (Elt Ideal) ((c : Thread nD τ).loc main_arg11)) (t : Fin cfg0.N) (k : Fin 1024) :
    ((cfg0.win 15).blk t).view.read (Elt Ideal) X (ix3 (0 : Fin 1) (0 : Fin 1) k) = X (ix3 (bOf t) (0 : Fin 1) k) := by
  refine Eq.trans ?_ (congrArg X (emb15 t k))
  blk_simp

variable (m : (ℓ : Loc nD τ Cert.MergeIdeal.sig) → Buf (Elt Ideal) ℓ)

theorem blk0 (t : Fin cfg0.N) (r : Fin 512) (k : Fin 512) :
    (iblk m c 0 t : FVec Ideal S512x512 .bf16) (ix2 r k)
      = (V m c main_v0 : FVec Ideal S32768x512 .bf16) (ix2 (rowOf t r) k) :=
  read0 c (V m c main_v0) t r k

theorem blk1 (t : Fin cfg0.N) (r : Fin 512) (k : Fin 512) :
    (iblk m c 1 t : FVec Ideal S512x512 .f32) (ix2 r k)
      = (V m c main_v1 : FVec Ideal S32768x512 .f32) (ix2 (rowOf t r) k) :=
  read1 c (V m c main_v1) t r k

theorem blk2 (t : Fin cfg0.N) (r : Fin 512) (k : Fin 512) :
    (iblk m c 2 t : FVec Ideal S512x512 .f32) (ix2 r k)
      = (V m c main_v2 : FVec Ideal S32768x512 .f32) (ix2 (rowOf t r) k) :=
  read2 c (V m c main_v2) t r k

theorem blk3 (t : Fin cfg0.N) (r : Fin 512) (k : Fin 512) :
    (iblk m c 3 t : FVec Ideal S512x512 .f32) (ix2 r k)
      = (V m c main_v3 : FVec Ideal S32768x512 .f32) (ix2 (rowOf t r) k) :=
  read3 c (V m c main_v3) t r k

theorem blk4 (t : Fin cfg0.N) (r : Fin 512) (k : Fin 512) :
    (iblk m c 4 t : FVec Ideal S512x512 .f32) (ix2 r k)
      = (V m c main_v4 : FVec Ideal S32768x512 .f32) (ix2 (rowOf t r) k) :=
  read4 c (V m c main_v4) t r k

theorem blk5 (t : Fin cfg0.N) (r : Fin 512) (k : Fin 512) :
    (iblk m c 5 t : FVec Ideal S512x512 .bf16) (ix2 r k)
      = (V m c main_arg5 : FVec Ideal S32768x7168 .bf16) (ix2 (rowOf t r) (⟨1536 + k.val, by omega⟩ : Fin 7168)) :=
  read5 c (V m c main_arg5) t r k

theorem blk6 (t : Fin cfg0.N) (r : Fin 512) (k : Fin 512) :
    (iblk m c 6 t : FVec Ideal S512x512 .bf16) (ix2 r k)
      = (V m c main_arg5 : FVec Ideal S32768x7168 .bf16) (ix2 (rowOf t r) (⟨3584 + k.val, by omega⟩ : Fin 7168)) :=
  read6 c (V m c main_arg5) t r k

theorem blk7 (t : Fin cfg0.N) (r : Fin 512) (k : Fin 1024) :
    (iblk m c 7 t : FVec Ideal S512x1024 .bf16) (ix2 r k)
      = (V m c main_arg5 : FVec Ideal S32768x7168 .bf16) (ix2 (rowOf t r) (⟨4096 + k.val, by omega⟩ : Fin 7168)) :=
  read7 c (V m c main_arg5) t r k

theorem blk8 (t : Fin cfg0.N) (r : Fin 512) (k : Fin 1024) :
    (iblk m c 8 t : FVec Ideal S512x1024 .bf16) (ix2 r k)
      = (V m c main_arg5 : FVec Ideal S32768x7168 .bf16) (ix2 (rowOf t r) (⟨5120 + k.val, by omega⟩ : Fin 7168)) :=
  read8 c (V m c main_arg5) t r k

theorem blk9 (t : Fin cfg0.N) (r : Fin 512) (k : Fin 1024) :
    (iblk m c 9 t : FVec Ideal S512x1024 .bf16) (ix2 r k)
      = (V m c main_arg5 : FVec Ideal S32768x7168 .bf16) (ix2 (rowOf t r) (⟨6144 + k.val, by omega⟩ : Fin 7168)) :=
  read9 c (V m c main_arg5) t r k

theorem blk10 (t : Fin cfg0.N) (k : Fin 128) :
    (iblk m c 10 t : FVec Ideal S1x128 .f32) (ix2 (0 : Fin 1) k)
      = (V m c main_v5 : FVec Ideal S1x128 .f32) (ix2 (0 : Fin 1) k) :=
  read10 c (V m c main_v5) t k

theorem blk11 (t : Fin cfg0.N) (k : Fin 3072) :
    (iblk m c 11 t : FVec Ideal S1x3072 .f32) (ix2 (0 : Fin 1) k)
      = (V m c main_v6 : FVec Ideal S1x3072 .f32) (ix2 (0 : Fin 1) k) :=
  read11 c (V m c main_v6) t k

theorem blk12 (t : Fin cfg0.N) (n : Fin 3) (j : Fin 512) (k : Fin 1024) :
    (iblk m c 12 t : FVec Ideal S3x512x1024 .bf16) (ix3 n j k)
      = (V m c main_v7 : FVec Ideal S3x512x1024 .bf16) (ix3 n j k) :=
  read12 c (V m c main_v7) t n j k

theorem blk13 (t : Fin cfg0.N) (r : Fin 1024) (k : Fin 1024) :
    (iblk m c 13 t : FVec Ideal S1024x1024 .bf16) (ix2 r k)
      = (V m c main_v8 : FVec Ideal S1024x1024 .bf16) (ix2 r k) :=
  read13 c (V m c main_v8) t r k

theorem blk14 (t : Fin cfg0.N) (r : Fin 512) (k : Fin 1024) :
    (iblk m c 14 t : FVec Ideal S512x1024 .f32) (ix2 r k)
      = (V m c main_v9 : FVec Ideal S32768x1024 .f32) (ix2 (rowOf t r) k) :=
  read14 c (V m c main_v9) t r k

theorem blk15 (t : Fin cfg0.N) (k : Fin 1024) :
    (iblk m c 15 t : FVec Ideal S1x1x1024 .f32) (ix3 (0 : Fin 1) (0 : Fin 1) k)
      = (V m c main_arg11 : FVec Ideal S4x1x1024 .f32) (ix3 (bOf t) (0 : Fin 1) k) :=
  read15 c (V m c main_arg11) t k

/-- The arguments' arrays. -/
def argYm : FVec Ideal S4x8192x512 .bf16 := (m (c, Proc.tc.devRef main_arg0) : FVec Ideal S4x8192x512 .bf16)
def argGf : FVec Ideal S4x8192x512 .f32 := (m (c, Proc.tc.devRef main_arg1) : FVec Ideal S4x8192x512 .f32)
def argGb : FVec Ideal S4x8192x512 .f32 := (m (c, Proc.tc.devRef main_arg2) : FVec Ideal S4x8192x512 .f32)
def argRf : FVec Ideal S4x8192x512 .f32 := (m (c, Proc.tc.devRef main_arg3) : FVec Ideal S4x8192x512 .f32)
def argRb : FVec Ideal S4x8192x512 .f32 := (m (c, Proc.tc.devRef main_arg4) : FVec Ideal S4x8192x512 .f32)
def argMg : FVec Ideal S32768x7168 .bf16 := (m (c, Proc.tc.devRef main_arg5) : FVec Ideal S32768x7168 .bf16)
def argOn : FVec Ideal S128 .f32 := (m (c, Proc.tc.devRef main_arg6) : FVec Ideal S128 .f32)
def argBg : FVec Ideal S3x1024 .f32 := (m (c, Proc.tc.devRef main_arg7) : FVec Ideal S3x1024 .f32)
def argWb : FVec Ideal S3x512x1024 .f32 := (m (c, Proc.tc.devRef main_arg8) : FVec Ideal S3x512x1024 .f32)
def argWo : FVec Ideal S1024x1024 .f32 := (m (c, Proc.tc.devRef main_arg9) : FVec Ideal S1024x1024 .f32)
def argH : FVec Ideal S4x8192x1024 .f32 := (m (c, Proc.tc.devRef main_arg10) : FVec Ideal S4x8192x1024 .f32)
def argGt : FVec Ideal S4x1x1024 .f32 := (m (c, Proc.tc.devRef main_arg11) : FVec Ideal S4x1x1024 .f32)

theorem v0_at (R : Fin 32768) (k : Fin 512) :
    (V m c main_v0 : FVec Ideal S32768x512 .bf16) (ix2 R k)
      = argYm c m (ix3 (⟨R.val / 8192, by omega⟩ : Fin 4) (⟨R.val % 8192, by omega⟩ : Fin 8192) k) := by
  unfold argYm V
  repeat after_reads_at

theorem v1_at (R : Fin 32768) (k : Fin 512) :
    (V m c main_v1 : FVec Ideal S32768x512 .f32) (ix2 R k)
      = argGf c m (ix3 (⟨R.val / 8192, by omega⟩ : Fin 4) (⟨R.val % 8192, by omega⟩ : Fin 8192) k) := by
  unfold argGf V
  repeat after_reads_at

theorem v2_at (R : Fin 32768) (k : Fin 512) :
    (V m c main_v2 : FVec Ideal S32768x512 .f32) (ix2 R k)
      = argGb c m (ix3 (⟨R.val / 8192, by omega⟩ : Fin 4) (⟨R.val % 8192, by omega⟩ : Fin 8192) k) := by
  unfold argGb V
  repeat after_reads_at

theorem v3_at (R : Fin 32768) (k : Fin 512) :
    (V m c main_v3 : FVec Ideal S32768x512 .f32) (ix2 R k)
      = argRf c m (ix3 (⟨R.val / 8192, by omega⟩ : Fin 4) (⟨R.val % 8192, by omega⟩ : Fin 8192) k) := by
  unfold argRf V
  repeat after_reads_at

theorem v4_at (R : Fin 32768) (k : Fin 512) :
    (V m c main_v4 : FVec Ideal S32768x512 .f32) (ix2 R k)
      = argRb c m (ix3 (⟨R.val / 8192, by omega⟩ : Fin 4) (⟨R.val % 8192, by omega⟩ : Fin 8192) k) := by
  unfold argRb V
  repeat after_reads_at

theorem arg5_at (R : Fin 32768) (k : Fin 7168) :
    (V m c main_arg5 : FVec Ideal S32768x7168 .bf16) (ix2 R k) = argMg c m (ix2 R k) := by
  unfold argMg V
  repeat after_reads_at

theorem v5_at (k : Fin 128) :
    (V m c main_v5 : FVec Ideal S1x128 .f32) (ix2 (0 : Fin 1) k) = argOn c m (ix1 k) := by
  unfold argOn V
  repeat after_reads_at

theorem v6_at (k : Fin 3072) :
    (V m c main_v6 : FVec Ideal S1x3072 .f32) (ix2 (0 : Fin 1) k) = argBg c m (ix2 (⟨k.val / 1024, by omega⟩ : Fin 3) (⟨k.val % 1024, by omega⟩ : Fin 1024)) := by
  unfold argBg V
  repeat after_reads_at

theorem v7_at (n : Fin 3) (j : Fin 512) (k : Fin 1024) :
    (V m c main_v7 : FVec Ideal S3x512x1024 .bf16) (ix3 n j k) = argWb c m (ix3 n j k) := by
  unfold argWb V
  repeat after_reads_at

theorem v8_at (k d : Fin 1024) :
    (V m c main_v8 : FVec Ideal S1024x1024 .bf16) (ix2 k d) = argWo c m (ix2 k d) := by
  unfold argWo V
  repeat after_reads_at

theorem v9_at (R : Fin 32768) (k : Fin 1024) :
    (V m c main_v9 : FVec Ideal S32768x1024 .f32) (ix2 R k) = argH c m (ix3 (⟨R.val / 8192, by omega⟩ : Fin 4) (⟨R.val % 8192, by omega⟩ : Fin 8192) k) := by
  unfold argH V
  repeat after_reads_at

theorem arg11_at (b : Fin 4) (k : Fin 1024) :
    (V m c main_arg11 : FVec Ideal S4x1x1024 .f32) (ix3 b (0 : Fin 1) k) = argGt c m (ix3 b (0 : Fin 1) k) := by
  unfold argGt V
  repeat after_reads_at

end Cert.GatedMerge
end
-- ==== Proof.MergeArray.lean ====
/-
  The array that the gated merge leaves: every element is the plain sums' element.
-/
module

public import proofs.«01_k».proof.Proof.MergeBlocks
public import Idealize.ShloMosaic.Lib.Pipeline.ValueKit

@[expose] public section

set_option maxRecDepth 16384

noncomputable section

namespace Cert.GatedMerge

open Cert.MergeIdeal Cert.MergeIdeal.Gen Idealize.ShloMosaic Idealize.ShloMosaic.TcCoe Idealize.SL.Sem

variable (m : (ℓ : Loc nD τ Cert.MergeIdeal.sig) → Buf (Elt Ideal) ℓ) (c : Dev nD)

/-- The arrays' result. -/
def result : FVec Ideal S32768x1024 .f32 :=
  outArr (argYm c m) (argGf c m) (argGb c m) (argRf c m) (argRb c m) (argMg c m) (argOn c m) (argBg c m) (argWb c m) (argWo c m) (argH c m)
    (argGt c m)

/-- A row's token. -/
def sOf (R : Fin 32768) : Fin 8192 := ⟨R.val % 8192, by omega⟩

theorem row_batch (t : Fin cfg0.N) (r : Fin 512) (p : (rowOf t r).val / 8192 < 4) : (⟨(rowOf t r).val / 8192, p⟩ : Fin 4) = bOf t :=
  Fin.ext (by unfold rowOf bOf; dsimp only; omega)

theorem row_eq (t : Fin cfg0.N) (r : Fin 512) : rowIx (bOf t) (sOf (rowOf t r)) = rowOf t r :=
  Fin.ext (by unfold rowIx sOf rowOf bOf; dsimp only; omega)

theorem x0_at (t : Fin cfg0.N) (r k : Fin 512) :
    (iblk m c 0 t : FVec Ideal S512x512 .bf16) (ix2 r k) = argYm c m (ix3 (bOf t) (sOf (rowOf t r)) k) :=
  ((blk0 c m t r k).trans (v0_at c m _ k)).trans (congrArg (fun b => argYm c m (ix3 b (sOf (rowOf t r)) k)) (row_batch t r _))

theorem x1_at (t : Fin cfg0.N) (r k : Fin 512) :
    (iblk m c 1 t : FVec Ideal S512x512 .f32) (ix2 r k) = argGf c m (ix3 (bOf t) (sOf (rowOf t r)) k) :=
  ((blk1 c m t r k).trans (v1_at c m _ k)).trans (congrArg (fun b => argGf c m (ix3 b (sOf (rowOf t r)) k)) (row_batch t r _))

theorem x2_at (t : Fin cfg0.N) (r k : Fin 512) :
    (iblk m c 2 t : FVec Ideal S512x512 .f32) (ix2 r k) = argGb c m (ix3 (bOf t) (sOf (rowOf t r)) k) :=
  ((blk2 c m t r k).trans (v2_at c m _ k)).trans (congrArg (fun b => argGb c m (ix3 b (sOf (rowOf t r)) k)) (row_batch t r _))

theorem x3_at (t : Fin cfg0.N) (r k : Fin 512) :
    (iblk m c 3 t : FVec Ideal S512x512 .f32) (ix2 r k) = argRf c m (ix3 (bOf t) (sOf (rowOf t r)) k) :=
  ((blk3 c m t r k).trans (v3_at c m _ k)).trans (congrArg (fun b => argRf c m (ix3 b (sOf (rowOf t r)) k)) (row_batch t r _))

theorem x4_at (t : Fin cfg0.N) (r k : Fin 512) :
    (iblk m c 4 t : FVec Ideal S512x512 .f32) (ix2 r k) = argRb c m (ix3 (bOf t) (sOf (rowOf t r)) k) :=
  ((blk4 c m t r k).trans (v4_at c m _ k)).trans (congrArg (fun b => argRb c m (ix3 b (sOf (rowOf t r)) k)) (row_batch t r _))

theorem x5_at (t : Fin cfg0.N) (r : Fin 512) (k : Fin 512) :
    (iblk m c 5 t : FVec Ideal S512x512 .bf16) (ix2 r k)
      = argMg c m (ix2 (rowIx (bOf t) (sOf (rowOf t r))) (⟨1536 + k.val, by omega⟩ : Fin 7168)) := by
  rw [row_eq]
  exact (blk5 c m t r k).trans (arg5_at c m _ _)

theorem x6_at (t : Fin cfg0.N) (r : Fin 512) (k : Fin 512) :
    (iblk m c 6 t : FVec Ideal S512x512 .bf16) (ix2 r k)
      = argMg c m (ix2 (rowIx (bOf t) (sOf (rowOf t r))) (⟨3584 + k.val, by omega⟩ : Fin 7168)) := by
  rw [row_eq]
  exact (blk6 c m t r k).trans (arg5_at c m _ _)

theorem x7_at (t : Fin cfg0.N) (r : Fin 512) (k : Fin 1024) :
    (iblk m c 7 t : FVec Ideal S512x1024 .bf16) (ix2 r k)
      = argMg c m (ix2 (rowIx (bOf t) (sOf (rowOf t r))) (⟨4096 + k.val, by omega⟩ : Fin 7168)) := by
  rw [row_eq]
  exact (blk7 c m t r k).trans (arg5_at c m _ _)

theorem x8_at (t : Fin cfg0.N) (r : Fin 512) (k : Fin 1024) :
    (iblk m c 8 t : FVec Ideal S512x1024 .bf16) (ix2 r k)
      = argMg c m (ix2 (rowIx (bOf t) (sOf (rowOf t r))) (⟨5120 + k.val, by omega⟩ : Fin 7168)) := by
  rw [row_eq]
  exact (blk8 c m t r k).trans (arg5_at c m _ _)

theorem x9_at (t : Fin cfg0.N) (r : Fin 512) (k : Fin 1024) :
    (iblk m c 9 t : FVec Ideal S512x1024 .bf16) (ix2 r k)
      = argMg c m (ix2 (rowIx (bOf t) (sOf (rowOf t r))) (⟨6144 + k.val, by omega⟩ : Fin 7168)) := by
  rw [row_eq]
  exact (blk9 c m t r k).trans (arg5_at c m _ _)

theorem x10_at (t : Fin cfg0.N) (k : Fin 128) : (iblk m c 10 t : FVec Ideal S1x128 .f32) (ix2 (0 : Fin 1) k) = argOn c m (ix1 k) :=
  (blk10 c m t k).trans (v5_at c m k)

theorem x11_at (t : Fin cfg0.N) (n : Fin 3) (k : Fin 1024) (q : Fin 3072) (hq : q.val = n.val * 1024 + k.val) :
    (iblk m c 11 t : FVec Ideal S1x3072 .f32) (ix2 (0 : Fin 1) q) = argBg c m (ix2 n k) := by
  refine ((blk11 c m t q).trans (v6_at c m q)).trans ?_
  exact congrArg₂ (fun n k => argBg c m (ix2 n k)) (Fin.ext (by dsimp only; omega)) (Fin.ext (by dsimp only; omega))

theorem x12_at (t : Fin cfg0.N) (n : Fin 3) (j : Fin 512) (k : Fin 1024) :
    (iblk m c 12 t : FVec Ideal S3x512x1024 .bf16) (ix3 n j k) = argWb c m (ix3 n j k) :=
  (blk12 c m t n j k).trans (v7_at c m n j k)

theorem x13_at (t : Fin cfg0.N) (k d : Fin 1024) : (iblk m c 13 t : FVec Ideal S1024x1024 .bf16) (ix2 k d) = argWo c m (ix2 k d) :=
  (blk13 c m t k d).trans (v8_at c m k d)

theorem x14_at (t : Fin cfg0.N) (r : Fin 512) (k : Fin 1024) :
    (iblk m c 14 t : FVec Ideal S512x1024 .f32) (ix2 r k) = argH c m (ix3 (bOf t) (sOf (rowOf t r)) k) :=
  ((blk14 c m t r k).trans (v9_at c m _ k)).trans (congrArg (fun b => argH c m (ix3 b (sOf (rowOf t r)) k)) (row_batch t r _))

theorem x15_at (t : Fin cfg0.N) (k : Fin 1024) :
    (iblk m c 15 t : FVec Ideal S1x1x1024 .f32) (ix3 (0 : Fin 1) (0 : Fin 1) k) = argGt c m (ix3 (bOf t) (0 : Fin 1) k) :=
  (blk15 c m t k).trans (arg11_at c m _ k)

/-- The gated sum of a row of the block. -/
theorem mix_at (t : Fin cfg0.N) (r : Fin 512) :
    mixRow (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) r
      = mixAt (argYm c m) (argGf c m) (argGb c m) (argRf c m) (argRb c m) (argMg c m) (argOn c m) (argBg c m) (argWb c m) (bOf t)
          (sOf (rowOf t r)) := by
  funext k
  unfold mixRow mixAt glaAt retAt
  refine congrFun ?_ k
  refine congr (congr (congr (congr (congr (congr (congr (congr (congr (congr (congr (congrArg mix ?_) ?_) ?_) ?_) ?_) ?_) ?_) ?_) ?_) ?_) ?_) ?_
  · exact funext fun j => x0_at m c t r j
  · refine congr (congr (congr (congrArg gla ?_) ?_) ?_) ?_
    · exact funext fun k => x10_at m c t k
    · exact funext fun j => x1_at m c t r j
    · exact funext fun j => x2_at m c t r j
    · exact funext fun j => x5_at m c t r j
  · refine congr (congr (congrArg ret ?_) ?_) ?_
    · exact funext fun j => x3_at m c t r j
    · exact funext fun j => x4_at m c t r j
    · exact funext fun j => x6_at m c t r j
  · exact funext fun k => x7_at m c t r k
  · exact funext fun k => x8_at m c t r k
  · exact funext fun k => x9_at m c t r k
  · exact funext fun k => x11_at m c t 0 k _ (by simp)
  · exact funext fun k => x11_at m c t 1 k _ (by simp)
  · exact funext fun k => x11_at m c t 2 k _ (by simp)
  · exact funext fun j => funext fun k => x12_at m c t 0 j k
  · exact funext fun j => funext fun k => x12_at m c t 1 j k
  · exact funext fun j => funext fun k => x12_at m c t 2 j k

/-- An element of the block. -/
theorem block_at (t : Fin cfg0.N) (r : Fin 512) (d : Fin 1024) :
    block (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (ix2 r d)
      = result m c (ix2 (rowOf t r) d) := by
  unfold result outArr
  refine Eq.trans ?_ (congrArg (fun b => outAt (argYm c m) (argGf c m) (argGb c m) (argRf c m) (argRb c m) (argMg c m) (argOn c m) (argBg c m)
    (argWb c m) (argWo c m) (argH c m) (argGt c m) b (sOf (rowOf t r)) d) (row_batch t r _)).symm
  unfold block outAt
  refine congrFun ?_ d
  refine congr (congr (congr (congrArg row (mix_at m c t r)) ?_) ?_) ?_
  · exact funext fun d => x14_at m c t r d
  · exact funext fun d => x15_at m c t d
  · exact funext fun k => funext fun d => x13_at m c t k d

/-- The array after the run. -/
theorem array_eq : (dats m 0 c).arrAt 16 cfg0.N = result m c := by
  refine (dats m 0 c).arrAt_eq_of_covers 16 (result m c) (by decide +kernel) fun t hf y => ?_
  blk_simp
  rw [after0_16, out_block]
  obtain ⟨r, d, rfl⟩ : ∃ (r : Fin 512) (d : Fin 1024), y = ix2 r d := ⟨y 0, y 1, by ext a; fin_cases a <;> rfl⟩
  refine Eq.trans (block_at m c t r d) ?_
  exact (congrArg (result m c) (emb16 t r d)).symm

end Cert.GatedMerge
end
-- ==== Proof.AdaSpec.lean ====
/-
  The layers' modulation as plain sums: the rows of the conditioning vectors times the weights, plus the bias.
-/
module

public import Idealize.ShloMosaic.PureOps.Ideal
public import Idealize.ShloMosaic.Lib.Pointwise

@[expose] public section

set_option maxRecDepth 16384

noncomputable section

namespace Cert.Modulation

open Idealize.ShloMosaic

/-- A number times its own sigmoid. -/
def swish (x : EReal) : EReal := x * Ideal.div 1 (1 + Ideal.exp (-x))

/-- A row times the weights' column, plus the bias. -/
def lin (x w : Fin 1024 → EReal) (b : EReal) : EReal := (∑ k : Fin 1024, swish (x k) * w k) + b

abbrev Arr1 (a : ℕ) := (⟨1, ![a]⟩ : Shape).Idx → EReal
abbrev Arr2 (a b : ℕ) := (⟨2, ![a, b]⟩ : Shape).Idx → EReal
abbrev Arr3 (a b c : ℕ) := (⟨3, ![a, b, c]⟩ : Shape).Idx → EReal

variable (x : Arr2 4 1024) (xc : Arr1 1024) (w : Arr3 2 1024 6144) (b : Arr2 2 6144)

/-- The rows: the four batches' vectors, the context's vector, zeros. -/
def condAt (r : Fin 8) (k : Fin 1024) : EReal :=
  if h : r.val < 4 then x (ix2 (⟨r.val, h⟩ : Fin 4) k) else if r.val = 4 then xc (ix1 k) else 0

def outAt (l : Fin 2) (r : Fin 8) (j : Fin 6144) : EReal := lin (condAt x xc r) (fun k => w (ix3 l k j)) (b (ix2 l j))

def outArr : Arr3 2 8 6144 := fun y => outAt x xc w b (y 0) (y 1) (y 2)

/-- A row of zeros leaves the bias, whatever the weights. -/
theorem lin_zero (w : Fin 1024 → EReal) (b : EReal) : lin (fun _ => 0) w b = b := by
  unfold lin swish
  simp

end Cert.Modulation
end
-- ==== Proof.AdaRef.lean ====
/-
  The modulation reference's result at an index.
-/
module

public import proofs.«01_k».proof.Proof.AdaSpec
public import proofs.«01_k».proof.Proof.Gen.AdaReferenceIdeal.Read
public import Idealize.ShloMosaic.Lib.Pointwise

@[expose] public section

set_option maxRecDepth 16384

noncomputable section

namespace Cert.Modulation

open Cert.AdaReferenceIdeal Cert.AdaReferenceIdeal.Gen Cert.AdaReferenceIdeal.Read Idealize.ShloMosaic Idealize.ShloMosaic.TcCoe Idealize.SL.Sem

variable (x : Arr2 4 1024) (xc : Arr1 1024) (w : Arr3 2 1024 6144) (b : Arr2 2 6144)

theorem ref_cond (r : Fin 4) (k : Fin 1024) : val_main_v0 (F := Ideal) x (ix2 r k) = swish (x (ix2 r k)) := by
  unfold swish
  pointwise [val_main_v0, val_main_call0_v5, val_main_call0_v4, val_main_call0_cst_0, val_main_call0_v3, val_main_call0_v2, val_main_call0_cst,
    val_main_call0_v1, val_main_call0_v0]

theorem ref_ctx (k : Fin 1024) : val_main_v1 (F := Ideal) xc (ix1 k) = swish (xc (ix1 k)) := by
  unfold swish
  pointwise [val_main_v1, val_main_call1_v5, val_main_call1_v4, val_main_call1_cst_0, val_main_call1_v3, val_main_call1_v2, val_main_call1_cst,
    val_main_call1_v1, val_main_call1_v0]

theorem ref_row0 (r : Fin 4) (j : Fin 6144) :
    val_main_v9 (F := Ideal) x w b (ix2 r j) = lin (fun k => x (ix2 r k)) (fun k => w (ix3 (0 : Fin 2) k j)) (b (ix2 (0 : Fin 2) j)) := by
  unfold lin val_main_v9 val_main_v4
  pointwise [val_main_v3, val_main_v2, val_main_v8, val_main_v7, val_main_v6, val_main_v5]
  simp only [ref_cond]

theorem ref_row1 (r : Fin 4) (j : Fin 6144) :
    val_main_v28 (F := Ideal) x w b (ix2 r j) = lin (fun k => x (ix2 r k)) (fun k => w (ix3 (1 : Fin 2) k j)) (b (ix2 (1 : Fin 2) j)) := by
  unfold lin val_main_v28 val_main_v23
  pointwise [val_main_v22, val_main_v21, val_main_v27, val_main_v26, val_main_v25, val_main_v24]
  simp only [ref_cond]

theorem ref_ctx0 (r : Fin 1) (j : Fin 6144) :
    val_main_v19 (F := Ideal) xc w b (ix2 r j) = lin (fun k => xc (ix1 k)) (fun k => w (ix3 (0 : Fin 2) k j)) (b (ix2 (0 : Fin 2) j)) := by
  unfold lin val_main_v19 val_main_v15 val_main_v12
  pointwise [val_main_v11, val_main_v10, val_main_v14, val_main_v13]
  simp only [ref_ctx]

theorem ref_ctx1 (r : Fin 1) (j : Fin 6144) :
    val_main_v38 (F := Ideal) xc w b (ix2 r j) = lin (fun k => xc (ix1 k)) (fun k => w (ix3 (1 : Fin 2) k j)) (b (ix2 (1 : Fin 2) j)) := by
  unfold lin val_main_v38 val_main_v34 val_main_v31
  pointwise [val_main_v30, val_main_v29, val_main_v33, val_main_v32]
  simp only [ref_ctx]

theorem ref_rest0 (r : Fin 3) (j : Fin 6144) : val_main_v18 (F := Ideal) b (ix2 r j) = b (ix2 (0 : Fin 2) j) := by
  pointwise [val_main_v18, val_main_v17, val_main_v16]

theorem ref_rest1 (r : Fin 3) (j : Fin 6144) : val_main_v37 (F := Ideal) b (ix2 r j) = b (ix2 (1 : Fin 2) j) := by
  pointwise [val_main_v37, val_main_v36, val_main_v35]

theorem ref_at (l : Fin 2) (r : Fin 8) (j : Fin 6144) : val_main_v42 (F := Ideal) x xc w b (ix3 l r j) = outAt x xc w b l r j := by
  unfold val_main_v42 val_main_v41 val_main_v40 val_main_v39 val_main_v20
  pointwise []
  simp only [ref_row0, ref_row1, ref_ctx0, ref_ctx1, ref_rest0, ref_rest1]
  unfold outAt
  by_cases h1 : r.val < 4
  · have e : condAt x xc r = fun k => x (ix2 (⟨r.val, h1⟩ : Fin 4) k) := funext fun k => dif_pos h1
    rw [e]
    match l with
    | ⟨0, _⟩ => exact (dif_pos Nat.zero_lt_one).trans (dif_pos h1)
    | ⟨1, _⟩ => exact (dif_neg (Nat.lt_irrefl 1)).trans (dif_pos h1)
  · by_cases h2 : r.val = 4
    · have e : condAt x xc r = fun k => xc (ix1 k) := funext fun k => (dif_neg h1).trans (if_pos h2)
      rw [e]
      match l with
      | ⟨0, _⟩ => exact (dif_pos Nat.zero_lt_one).trans ((dif_neg h1).trans (dif_pos (by omega)))
      | ⟨1, _⟩ => exact (dif_neg (Nat.lt_irrefl 1)).trans ((dif_neg h1).trans (dif_pos (by omega)))
    · have e : condAt x xc r = fun _ => 0 := funext fun k => (dif_neg h1).trans (if_neg h2)
      rw [e, lin_zero]
      match l with
      | ⟨0, _⟩ => exact (dif_pos Nat.zero_lt_one).trans ((dif_neg h1).trans (dif_neg (by omega)))
      | ⟨1, _⟩ => exact (dif_neg (Nat.lt_irrefl 1)).trans ((dif_neg h1).trans (dif_neg (by omega)))

/-- The reference's array. -/
theorem ref_eq : val_main_v42 (F := Ideal) x xc w b = outArr x xc w b := by
  funext y
  obtain ⟨l, r, j, rfl⟩ : ∃ (l : Fin 2) (r : Fin 8) (j : Fin 6144), y = ix3 l r j := ⟨y 0, y 1, y 2, by ext a; fin_cases a <;> rfl⟩
  exact ref_at x xc w b l r j

end Cert.Modulation
end
-- ==== Proof.AdaArray.lean ====
/-
  The array that the modulation's call leaves: every element is the plain sums' element.
-/
module

public import proofs.«01_k».proof.Proof.AdaSpec
public import proofs.«01_k».proof.Proof.Gen.AdaIdeal.Frame
public import Idealize.ShloMosaic.Lib.StableHlo.ReadAt
public import Idealize.ShloMosaic.Lib.Pipeline.ValueKit

@[expose] public section

set_option maxRecDepth 16384

noncomputable section

namespace Cert.Modulation

open Cert.AdaIdeal Cert.AdaIdeal.Gen Idealize.ShloMosaic Idealize.ShloMosaic.TcCoe Idealize.SL.Sem

theorem hz2 : (![0, 0] : Fin 2 → ℕ) = 0 := by decide
theorem hz3 : (![0, 0, 0] : Fin 3 → ℕ) = 0 := by decide

theorem pay_at (x0 : Vec Ideal S8x1024 .f32) (x1 : Vec Ideal S1x1024x1536 .f32) (x2 : Vec Ideal S1x1x1536 .f32) (r : Fin 8) (j : Fin 1536) :
    k0_pay1 x0 x1 x2 (ix3 (0 : Fin 1) r j)
      = lin (fun k => x0 (ix2 r k)) (fun k => x1 (ix3 (0 : Fin 1) k j)) (x2 (ix3 (0 : Fin 1) (0 : Fin 1) j)) := by
  unfold lin swish
  pointwise [k0_pay1]
  rfl

theorem out_eq (x0 : Vec Ideal S8x1024 .f32) (x1 : Vec Ideal S1x1024x1536 .f32) (x2 : Vec Ideal S1x1x1536 .f32) :
    out0_3 x0 x1 x2 = k0_pay1 x0 x1 x2 := by
  refine (View.canon_unit_zero hz3 _ _).trans ?_
  rw [View.ld_unit_zero (S := S8x1024) hz2 _ x0, View.ld_unit_zero (S := S1x1024x1536) hz3 _ x1, View.ld_unit_zero (S := S1x1x1536) hz3 _ x2]

/-- The blocks' places: four tiles of columns for each layer. -/
theorem idx : ∀ t : Fin cfg0.N,
    win0_0.index t = ![0, 0] ∧ win0_1.index t = ![t.val / 4, 0, t.val % 4] ∧ win0_2.index t = ![t.val / 4, 0, t.val % 4]
      ∧ win0_3.index t = ![t.val / 4, 0, t.val % 4] :=
  (by decide +kernel : ∀ t : Fin grid0.N, _)

theorem t_lt (t : Fin cfg0.N) : t.val < 8 := t.isLt

/-- The layer of a point and the columns of its blocks. -/
def lOf (t : Fin cfg0.N) : Fin 2 := ⟨t.val / 4, by have := t_lt t; omega⟩
def colOf (t : Fin cfg0.N) (j : Fin 1536) : Fin 6144 := ⟨t.val % 4 * 1536 + j.val, by omega⟩

theorem emb0 (t : Fin cfg0.N) (r : Fin 8) (k : Fin 1024) :
    (win0_0.blk t).view.emb (ix2 r k) = (ix2 r k : S8x1024.Idx) := by
  blk_ext [idx t]

theorem emb1 (t : Fin cfg0.N) (k : Fin 1024) (j : Fin 1536) :
    (win0_1.blk t).view.emb (ix3 (0 : Fin 1) k j) = (ix3 (lOf t) k (colOf t j) : S2x1024x6144.Idx) := by
  unfold lOf colOf
  blk_ext [idx t]

theorem emb2 (t : Fin cfg0.N) (j : Fin 1536) :
    (win0_2.blk t).view.emb (ix3 (0 : Fin 1) (0 : Fin 1) j) = (ix3 (lOf t) (0 : Fin 1) (colOf t j) : S2x1x6144.Idx) := by
  unfold lOf colOf
  blk_ext [idx t]

theorem emb3 (t : Fin cfg0.N) (r : Fin 8) (j : Fin 1536) :
    (win0_3.blk t).view.emb (ix3 (0 : Fin 1) r j) = (ix3 (lOf t) r (colOf t j) : S2x8x6144.Idx) := by
  unfold lOf colOf
  blk_ext [idx t]

variable (c : Dev nD)

theorem read0 (X : Buf (Elt Ideal) ((c : Thread nD τ).loc main_v2)) (t : Fin cfg0.N) (r : Fin 8) (k : Fin 1024) :
    ((cfg0.win 0).blk t).view.read (Elt Ideal) X (ix2 r k) = X (ix2 r k) := by
  refine Eq.trans ?_ (congrArg X (emb0 t r k))
  blk_simp

theorem read1 (X : Buf (Elt Ideal) ((c : Thread nD τ).loc main_arg2)) (t : Fin cfg0.N) (k : Fin 1024) (j : Fin 1536) :
    ((cfg0.win 1).blk t).view.read (Elt Ideal) X (ix3 (0 : Fin 1) k j) = X (ix3 (lOf t) k (colOf t j)) := by
  refine Eq.trans ?_ (congrArg X (emb1 t k j))
  blk_simp

theorem read2 (X : Buf (Elt Ideal) ((c : Thread nD τ).loc main_v3)) (t : Fin cfg0.N) (j : Fin 1536) :
    ((cfg0.win 2).blk t).view.read (Elt Ideal) X (ix3 (0 : Fin 1) (0 : Fin 1) j) = X (ix3 (lOf t) (0 : Fin 1) (colOf t j)) := by
  refine Eq.trans ?_ (congrArg X (emb2 t j))
  blk_simp

variable (m : (ℓ : Loc nD τ sig) → Buf (Elt Ideal) ℓ)

theorem blk0 (t : Fin cfg0.N) (r : Fin 8) (k : Fin 1024) :
    (iblk m c 0 t : FVec Ideal S8x1024 .f32) (ix2 r k)
      = (V m c main_v2 : FVec Ideal S8x1024 .f32) (ix2 r k) :=
  read0 c (V m c main_v2) t r k

theorem blk1 (t : Fin cfg0.N) (k : Fin 1024) (j : Fin 1536) :
    (iblk m c 1 t : FVec Ideal S1x1024x1536 .f32) (ix3 (0 : Fin 1) k j)
      = (V m c main_arg2 : FVec Ideal S2x1024x6144 .f32) (ix3 (lOf t) k (colOf t j)) :=
  read1 c (V m c main_arg2) t k j

theorem blk2 (t : Fin cfg0.N) (j : Fin 1536) :
    (iblk m c 2 t : FVec Ideal S1x1x1536 .f32) (ix3 (0 : Fin 1) (0 : Fin 1) j)
      = (V m c main_v3 : FVec Ideal S2x1x6144 .f32) (ix3 (lOf t) (0 : Fin 1) (colOf t j)) :=
  read2 c (V m c main_v3) t j

/-- The arguments' arrays. -/
def argX : FVec Ideal S4x1024 .f32 := (m (c, Proc.tc.devRef main_arg0) : FVec Ideal S4x1024 .f32)
def argXc : FVec Ideal S1024 .f32 := (m (c, Proc.tc.devRef main_arg1) : FVec Ideal S1024 .f32)
def argW : FVec Ideal S2x1024x6144 .f32 := (m (c, Proc.tc.devRef main_arg2) : FVec Ideal S2x1024x6144 .f32)
def argB : FVec Ideal S2x6144 .f32 := (m (c, Proc.tc.devRef main_arg3) : FVec Ideal S2x6144 .f32)

theorem v2_at (r : Fin 8) (k : Fin 1024) : (V m c main_v2 : FVec Ideal S8x1024 .f32) (ix2 r k) = condAt (argX c m) (argXc c m) r k := by
  unfold condAt argX argXc V
  repeat after_reads_at
  by_cases h1 : r.val < 4
  · rw [dif_pos h1, dif_pos h1]
  · rw [dif_neg h1, dif_neg h1]
    by_cases h2 : r.val = 4
    · rw [dif_pos (by omega), if_pos h2]
    · rw [dif_neg (by omega), if_neg h2]

theorem arg2_at (l : Fin 2) (k : Fin 1024) (j : Fin 6144) :
    (V m c main_arg2 : FVec Ideal S2x1024x6144 .f32) (ix3 l k j) = argW c m (ix3 l k j) := by
  unfold argW V
  repeat after_reads_at

theorem v3_at (l : Fin 2) (j : Fin 6144) : (V m c main_v3 : FVec Ideal S2x1x6144 .f32) (ix3 l (0 : Fin 1) j) = argB c m (ix2 l j) := by
  unfold argB V
  repeat after_reads_at

/-- The arrays' result. -/
def result : FVec Ideal S2x8x6144 .f32 := outArr (argX c m) (argXc c m) (argW c m) (argB c m)

/-- An element of the block. -/
theorem block_at (t : Fin cfg0.N) (r : Fin 8) (j : Fin 1536) :
    k0_pay1 (iblk m c 0 t) (iblk m c 1 t) (iblk m c 2 t) (ix3 (0 : Fin 1) r j) = result c m (ix3 (lOf t) r (colOf t j)) := by
  refine (pay_at _ _ _ r j).trans ?_
  show _ = lin _ _ _
  refine congr (congr (congrArg lin ?_) ?_) ?_
  · exact funext fun k => (blk0 c m t r k).trans (v2_at c m r k)
  · exact funext fun k => (blk1 c m t k j).trans (arg2_at c m _ k _)
  · exact (blk2 c m t j).trans (v3_at c m _ _)

/-- The array after the run. -/
theorem array_eq : (dats m 0 c).arrAt 3 cfg0.N = result c m := by
  refine (dats m 0 c).arrAt_eq_of_covers 3 (result c m) (by decide +kernel) fun t hf y => ?_
  blk_simp
  rw [after0_3, out_eq]
  obtain ⟨r, j, rfl⟩ : ∃ (r : Fin 8) (j : Fin 1536), y = ix3 (0 : Fin 1) r j := by
    refine ⟨y 1, y 2, ?_⟩
    ext a
    match a with
    | ⟨0, _⟩ => have h : (y 0).val < 1 := (y 0).isLt; show (y 0).val = 0; omega
    | ⟨1, _⟩ => rfl
    | ⟨2, _⟩ => rfl
  refine Eq.trans (block_at c m t r j) ?_
  exact (congrArg (result c m) (emb3 t r j)).symm

end Cert.Modulation
end
-- ==== Proof.lean ====
/- The claims: the programs' frames, the idealised kernels' texts and the equations of the calls of the attention, of the feed-forward part,
   of the input projection, of the gated merge and of the modulation with their references. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.InProj
public import proofs.«01_k».proof.Proof.InProjBody
public import proofs.«01_k».proof.Proof.InProjIdealBody
public import proofs.«01_k».proof.Proof.Gen.InProjIdeal
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Pre_real_weights
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Array
public import proofs.«01_k».proof.Proof.Pre
public import proofs.«01_k».proof.Proof.FfnRef
public import proofs.«01_k».proof.Proof.FfnArray
public import proofs.«01_k».proof.Proof.InProjArray
public import proofs.«01_k».proof.Proof.InProjRef
public import proofs.«01_k».proof.Proof.InProjPre
public import proofs.«01_k».proof.Proof.MergeRef
public import proofs.«01_k».proof.Proof.MergeArray
public import proofs.«01_k».proof.Proof.AdaRef
public import proofs.«01_k».proof.Proof.AdaArray
public import Idealize.ShloMosaic.Lib.Claim

@[expose] public section

set_option maxRecDepth 16384

noncomputable section

namespace Cert.Proof

open Idealize.ShloMosaic Idealize.ShloMosaic.TcCoe Idealize.SL.Sem

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

open Cert.ReferenceIdeal in
/-- The reference's term at real arguments. -/
theorem reference_eq (r0 : S4x8x8192x96.Idx → ℝ) (r1 : S4x8x256x96.Idx → ℝ) (r2 : S4x8x256x64.Idx → ℝ) (r3 : S4x8x8192x96.Idx → ℝ)
    (r4 : S4x8x8192x64.Idx → ℝ) :
    Cert.ReferenceIdeal.Read.val_main_v20 (F := Ideal) (Cert.Attn.up r0) (Cert.Attn.up r1) (Cert.Attn.up r2) (Cert.Attn.up r3) (Cert.Attn.up r4)
      = Cert.Attn.outArr r0 r1 r2 r3 r4 := by
  funext y
  obtain ⟨b, i, h, d, rfl⟩ : ∃ (b : Fin 4) (i : Fin 8192) (h : Fin 8) (d : Fin 64),
      y = ix3 b i (⟨64 * h.val + d.val, by omega⟩ : Fin 512) := by
    have hy : (y 2).val < 512 := (y 2).isLt
    refine ⟨y 0, y 1, ⟨(y 2).val / 64, by omega⟩, ⟨(y 2).val % 64, by omega⟩, ?_⟩
    ext a
    match a with
    | ⟨0, _⟩ => rfl
    | ⟨1, _⟩ => rfl
    | ⟨2, _⟩ => exact (Nat.div_add_mod (y 2).val 64).symm
  refine (Cert.Attn.ref_apply r0 r1 r2 r3 r4 b i h d).trans ?_
  have e : (⟨64 * h.val + d.val, by omega⟩ : Fin 512) = ⟨h.val * 64 + d.val, by omega⟩ := Fin.ext (by dsimp only; omega)
  rw [e]
  exact (Cert.Attn.outArr_at r0 r1 r2 r3 r4 b i h d).symm

/-- At `Ideal` the call's array and the reference's agree. -/
theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  refine (h c).1.trans ?_
  obtain ⟨a0, a1, a2, a3, a4⟩ := hagree c
  rw [a0, a1, a2, a3, a4]
  obtain ⟨⟨r0, h0⟩, ⟨r1, h1⟩, ⟨r2, h2⟩, ⟨r3, h3⟩, ⟨r4, h4⟩⟩ := Cert.Attn.pre_reals _ _ _ _ _ (hpre c)
  refine Eq.trans ?_ (Cert.Attn.array_eq m c r0 r1 r2 r3 r4 h0 h1 h2 h3 h4).symm
  rw [← reference_eq]
  refine (Cert.ReferenceIdeal.Read.val_main_v20_eq _ _ _ _ _).trans ?_
  exact congr (congr (congr (congr (congrArg _ h0) h1) h2) h3) h4

theorem ffn_reference_frame : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run (F := Ideal) m g)

/-- At `Ideal` the feed-forward call's array and its reference's agree. -/
theorem ffn_algebraic : Cert.algebraic_FfnIdeal_FfnReferenceIdeal := by
  intro m g m' g' _ hagree
  refine ⟨fun c => (Cert.FfnIdeal.Gen.dats m 0 c).arrAt 12 Cert.FfnIdeal.cfg0.N, Cert.FfnIdeal.Value.run_blocks m g, ?_⟩
  refine (θ_run Cert.FfnReferenceIdeal.defs _ _).mono (fun r h c => ⟨?_, (h c).2⟩) (Cert.FfnReferenceIdeal.Value.run (F := Ideal) m' g')
  refine (h c).1.trans ?_
  obtain ⟨a0, a1, a2, a3, a4, a5, a6, a7, a8⟩ := hagree c
  refine Eq.trans ?_ (Cert.Ffn.array_eq m c).symm
  refine (Cert.FfnReferenceIdeal.Read.val_main_v66_eq _ _).trans ?_
  rw [a0, a1, a2, a3, a4, a5, a6, a7, a8]
  exact Cert.Ffn.ref_eq _ _ _ _ _ _ _ _ _

theorem inproj_reference_frame : Cert.quiescent_InProjReferenceIdeal := fun m g _ =>
  (θ_run Cert.InProjReferenceIdeal.defs _ _).mono (fun r h => ⟨fun c => (h c).2.2, sem_eq_zero_of_no_sems (by decide) r.2⟩)
    (Cert.InProjReferenceIdeal.Value.run (F := Ideal) m g)

/-- At `Ideal` the input projection's two arrays and its reference's agree. -/
theorem inproj_algebraic : Cert.algebraic_InProjIdeal_InProjReferenceIdeal_pre_real_weights := by
  intro m g m' g' hpre hagree
  refine ⟨fun c => (Cert.InProjIdeal.Body.dats m 0 c).arrAt 6 Cert.InProjIdeal.cfg0.N,
    fun c => (Cert.InProjIdeal.Body.dats m 0 c).arrAt 7 Cert.InProjIdeal.cfg0.N, Cert.InProj.run_arrays m g, ?_⟩
  refine (θ_run Cert.InProjReferenceIdeal.defs _ _).mono (fun r h c => ⟨?_, ?_, (h c).2.2⟩) (Cert.InProjReferenceIdeal.Value.run (F := Ideal) m' g')
  · refine (h c).1.trans ?_
    obtain ⟨a0, a1, a2, a3, a4⟩ := hagree c
    obtain ⟨h1, h2, h3, h4⟩ := Cert.InProj.pre_reals _ _ _ _ _ (hpre c)
    refine Eq.trans ?_ (Cert.InProj.lat_eq c m ⟨h1, h2, h3, h4⟩).symm
    refine (Cert.InProjReferenceIdeal.Read.val_main_v67_eq _ _).trans ?_
    rw [a0, a1, a2, a3, a4]
    exact Cert.InProj.ref_lat _ _ _ _ _
  · refine (h c).2.1.trans ?_
    obtain ⟨a0, a1, a2, a3, a4⟩ := hagree c
    refine Eq.trans ?_ (Cert.InProj.mg_eq c m).symm
    refine (Cert.InProjReferenceIdeal.Read.val_main_v68_eq _ _).trans ?_
    rw [a0, a1, a2, a3, a4]
    exact Cert.InProj.ref_mg _ _ _ _ _

theorem merge_reference_frame : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run (F := Ideal) m g)

/-- At `Ideal` the gated merge's array and its reference's agree. -/
theorem merge_algebraic : Cert.algebraic_MergeIdeal_MergeReferenceIdeal := by
  intro m g m' g' _ hagree
  refine ⟨fun c => (Cert.MergeIdeal.Gen.dats m 0 c).arrAt 16 Cert.MergeIdeal.cfg0.N, Cert.MergeIdeal.Value.run_blocks m g, ?_⟩
  refine (θ_run Cert.MergeReferenceIdeal.defs _ _).mono (fun r h c => ⟨?_, (h c).2⟩) (Cert.MergeReferenceIdeal.Value.run (F := Ideal) m' g')
  refine (h c).1.trans ?_
  obtain ⟨a0, a1, a2, a3, a4, a5, a6, a7, a8, a9, a10, a11⟩ := hagree c
  refine Eq.trans ?_ (Cert.GatedMerge.array_eq m c).symm
  refine (Cert.MergeReferenceIdeal.Read.val_main_v122_eq _ _).trans ?_
  rw [a0, a1, a2, a3, a4, a5, a6, a7, a8, a9, a10, a11]
  exact Cert.GatedMerge.ref_eq _ _ _ _ _ _ _ _ _ _ _ _

theorem ada_reference_frame : Cert.quiescent_AdaReferenceIdeal := fun m g _ =>
  (θ_run Cert.AdaReferenceIdeal.defs _ _).mono (fun r h => ⟨fun c => (h c).2, sem_eq_zero_of_no_sems (by decide) r.2⟩)
    (Cert.AdaReferenceIdeal.Value.run (F := Ideal) m g)

/-- At `Ideal` the modulation's array and its reference's agree. -/
theorem ada_algebraic : Cert.algebraic_AdaIdeal_AdaReferenceIdeal := by
  intro m g m' g' _ hagree
  refine ⟨fun c => (Cert.AdaIdeal.Gen.dats m 0 c).arrAt 3 Cert.AdaIdeal.cfg0.N, Cert.AdaIdeal.Value.run_blocks m g, ?_⟩
  refine (θ_run Cert.AdaReferenceIdeal.defs _ _).mono (fun r h c => ⟨?_, (h c).2⟩) (Cert.AdaReferenceIdeal.Value.run (F := Ideal) m' g')
  refine (h c).1.trans ?_
  obtain ⟨a0, a1, a2, a3⟩ := hagree c
  refine Eq.trans ?_ (Cert.Modulation.array_eq c m).symm
  refine (Cert.AdaReferenceIdeal.Read.val_main_v42_eq _ _).trans ?_
  rw [a0, a1, a2, a3]
  exact Cert.Modulation.ref_eq _ _ _ _

theorem claim : Cert.Claim := ⟨Cert.Kernel.Gen.facts, Cert.KernelIdeal.Gen.facts, Cert.ReferenceIdeal.Gen.facts, Cert.Ffn.Gen.facts,
  Cert.FfnIdeal.Gen.facts, Cert.FfnReferenceIdeal.Gen.facts, Cert.InProj.Gen.facts, Cert.InProjIdeal.Gen.facts,
  Cert.InProjReferenceIdeal.Gen.facts, Cert.Merge.Gen.facts, Cert.MergeIdeal.Gen.facts, Cert.MergeReferenceIdeal.Gen.facts,
  Cert.Ada.Gen.facts, Cert.AdaIdeal.Gen.facts, Cert.AdaReferenceIdeal.Gen.facts,
  Cert.Pre_finite.Gen.facts, Cert.Pre_real_weights.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial, fun m ρ _ => Cert.Ffn.Gen.frame m ρ,
  fun m ρ _ => Cert.FfnIdeal.Gen.frame m ρ, ffn_reference_frame,
  fun m ρ _ => Cert.InProj.Body.frame m ρ, fun m ρ _ => Cert.InProjIdeal.Body.frame m ρ, fun m ρ _ => Cert.InProjIdeal.Body.frame m ρ,
  fun m ρ _ => inproj_reference_frame m ρ trivial, fun m ρ _ => inproj_reference_frame m ρ trivial,
  fun m ρ _ => Cert.Merge.Gen.frame m ρ, fun m ρ _ => Cert.MergeIdeal.Gen.frame m ρ, merge_reference_frame,
  fun m ρ _ => Cert.Ada.Gen.frame m ρ, fun m ρ _ => Cert.AdaIdeal.Gen.frame m ρ, ada_reference_frame,
  trivial, algebraic, trivial, ffn_algebraic, trivial, inproj_algebraic, trivial, merge_algebraic, trivial, ada_algebraic⟩

end Cert.Proof

end
